-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite [hPre_finite : Cert.Pre_finite.Facts] (m : (ℓ : Loc Cert.BwdIdeal.nD Cert.BwdIdeal.τ Cert.BwdIdeal.sig) → Buf (Elt Ideal) ℓ) : Prop :=
  ∀ c : Dev Cert.BwdIdeal.nD,
    (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).1 = (fun _ => 1#1)
    ∧ (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).2.1 = (fun _ => 1#1)
    ∧ (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).2.2.1 = (fun _ => 1#1)
    ∧ (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).2.2.2.1 = (fun _ => 1#1)
    ∧ (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).2.2.2.2.1 = (fun _ => 1#1)
    ∧ (Cert.Pre_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5))).2.2.2.2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_finite [hPre_finite : Cert.Pre_finite.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).1 = (fun _ => 1#1)
    ∧ (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).2.1 = (fun _ => 1#1)
    ∧ (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).2.2.1 = (fun _ => 1#1)
    ∧ (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).2.2.2.1 = (fun _ => 1#1)
    ∧ (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).2.2.2.2.1 = (fun _ => 1#1)
    ∧ (Cert.Pre_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormRefIdeal (m : (ℓ : Loc Cert.MidNormRefIdeal.nD Cert.MidNormRefIdeal.τ Cert.MidNormRefIdeal.sig) → Buf (Elt Ideal) ℓ) : Prop :=
  True

def Pre_PreNormFwd (m : (ℓ : Loc Cert.PreNormFwd.nD Cert.PreNormFwd.τ Cert.PreNormFwd.sig) → Buf (Elt Bits) ℓ) : Prop :=
  True

def Pre_PreNormFwdIdeal (m : (ℓ : Loc Cert.PreNormFwdIdeal.nD Cert.PreNormFwdIdeal.τ Cert.PreNormFwdIdeal.sig) → Buf (Elt Ideal) ℓ) : Prop :=
  True

def Pre_PreNormFwdRefIdeal (m : (ℓ : Loc Cert.PreNormFwdRefIdeal.nD Cert.PreNormFwdRefIdeal.τ Cert.PreNormFwdRefIdeal.sig) → Buf (Elt Ideal) ℓ) : Prop :=
  True

def Pre_MidNormFwd (m : (ℓ : Loc Cert.MidNormFwd.nD Cert.MidNormFwd.τ Cert.MidNormFwd.sig) → Buf (Elt Bits) ℓ) : Prop :=
  True

def Pre_MidNormFwdIdeal (m : (ℓ : Loc Cert.MidNormFwdIdeal.nD Cert.MidNormFwdIdeal.τ Cert.MidNormFwdIdeal.sig) → Buf (Elt Ideal) ℓ) : Prop :=
  True

def Pre_MidNormFwdRefIdeal (m : (ℓ : Loc Cert.MidNormFwdRefIdeal.nD Cert.MidNormFwdRefIdeal.τ Cert.MidNormFwdRefIdeal.sig) → Buf (Elt Ideal) ℓ) : Prop :=
  True

def Pre_PostNormFwd (m : (ℓ : Loc Cert.PostNormFwd.nD Cert.PostNormFwd.τ Cert.PostNormFwd.sig) → Buf (Elt Bits) ℓ) : Prop :=
  True

def Pre_PostNormFwdIdeal (m : (ℓ : Loc Cert.PostNormFwdIdeal.nD Cert.PostNormFwdIdeal.τ Cert.PostNormFwdIdeal.sig) → Buf (Elt Ideal) ℓ) : Prop :=
  True

def Pre_PostNormFwdRefIdeal (m : (ℓ : Loc Cert.PostNormFwdRefIdeal.nD Cert.PostNormFwdRefIdeal.τ Cert.PostNormFwdRefIdeal.sig) → Buf (Elt Ideal) ℓ) : Prop :=
  True

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ r.2.sem = fun _ => 0)

def quiescent_BwdIdeal_pre_finite [hBwdIdeal : Cert.BwdIdeal.Facts] [hPre_finite : Cert.Pre_finite.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5))
      ∧ r.2.sem = fun _ => 0)

def quiescent_BwdRefIdeal_pre_finite [hBwdRefIdeal : Cert.BwdRefIdeal.Facts] [hPre_finite : Cert.Pre_finite.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_finite m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3)
      ∧ r.2.mem ((c.tc : Thread Cert.MidNorm.nD Cert.MidNorm.τ).loc Cert.MidNorm.main_arg4) = m ((c.tc : Thread Cert.MidNorm.nD Cert.MidNorm.τ).loc Cert.MidNorm.main_arg4)
      ∧ r.2.mem ((c.tc : Thread Cert.MidNorm.nD Cert.MidNorm.τ).loc Cert.MidNorm.main_arg5) = m ((c.tc : Thread Cert.MidNorm.nD Cert.MidNorm.τ).loc Cert.MidNorm.main_arg5))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5))
      ∧ r.2.sem = fun _ => 0)

def quiescent_PreNormFwd [hPreNormFwd : Cert.PreNormFwd.Facts] : Prop :=
  ∀ (m : (ℓ : Loc Cert.PreNormFwd.nD Cert.PreNormFwd.τ Cert.PreNormFwd.sig) → Buf (Elt Bits) ℓ) (g : Dev Cert.PreNormFwd.nD → PrngReg), Pre_PreNormFwd m →
    θ_run (Cert.PreNormFwd.defs (F := Bits)) (onTc (τ := Cert.PreNormFwd.τ) (Cert.PreNormFwd.main (F := Bits))) ⟨m, fun _ => 0, g⟩ (fun r => (∀ c : Dev Cert.PreNormFwd.nD,
      r.2.mem ((c.tc : Thread Cert.PreNormFwd.nD Cert.PreNormFwd.τ).loc Cert.PreNormFwd.main_arg0) = m ((c.tc : Thread Cert.PreNormFwd.nD Cert.PreNormFwd.τ).loc Cert.PreNormFwd.main_arg0)
      ∧ r.2.mem ((c.tc : Thread Cert.PreNormFwd.nD Cert.PreNormFwd.τ).loc Cert.PreNormFwd.main_arg1) = m ((c.tc : Thread Cert.PreNormFwd.nD Cert.PreNormFwd.τ).loc Cert.PreNormFwd.main_arg1))
      ∧ r.2.sem = fun _ => 0)

def quiescent_PreNormFwdIdeal [hPreNormFwdIdeal : Cert.PreNormFwdIdeal.Facts] : Prop :=
  ∀ (m : (ℓ : Loc Cert.PreNormFwdIdeal.nD Cert.PreNormFwdIdeal.τ Cert.PreNormFwdIdeal.sig) → Buf (Elt Ideal) ℓ) (g : Dev Cert.PreNormFwdIdeal.nD → PrngReg), Pre_PreNormFwdIdeal m →
    θ_run (Cert.PreNormFwdIdeal.defs (F := Ideal)) (onTc (τ := Cert.PreNormFwdIdeal.τ) (Cert.PreNormFwdIdeal.main (F := Ideal))) ⟨m, fun _ => 0, g⟩ (fun r => (∀ c : Dev Cert.PreNormFwdIdeal.nD,
      r.2.mem ((c.tc : Thread Cert.PreNormFwdIdeal.nD Cert.PreNormFwdIdeal.τ).loc Cert.PreNormFwdIdeal.main_arg0) = m ((c.tc : Thread Cert.PreNormFwdIdeal.nD Cert.PreNormFwdIdeal.τ).loc Cert.PreNormFwdIdeal.main_arg0)
      ∧ r.2.mem ((c.tc : Thread Cert.PreNormFwdIdeal.nD Cert.PreNormFwdIdeal.τ).loc Cert.PreNormFwdIdeal.main_arg1) = m ((c.tc : Thread Cert.PreNormFwdIdeal.nD Cert.PreNormFwdIdeal.τ).loc Cert.PreNormFwdIdeal.main_arg1))
      ∧ r.2.sem = fun _ => 0)

def quiescent_PreNormFwdRefIdeal [hPreNormFwdRefIdeal : Cert.PreNormFwdRefIdeal.Facts] : Prop :=
  ∀ (m : (ℓ : Loc Cert.PreNormFwdRefIdeal.nD Cert.PreNormFwdRefIdeal.τ Cert.PreNormFwdRefIdeal.sig) → Buf (Elt Ideal) ℓ) (g : Dev Cert.PreNormFwdRefIdeal.nD → PrngReg), Pre_PreNormFwdRefIdeal m →
    θ_run (Cert.PreNormFwdRefIdeal.defs (F := Ideal)) (onTc (τ := Cert.PreNormFwdRefIdeal.τ) (Cert.PreNormFwdRefIdeal.main (F := Ideal))) ⟨m, fun _ => 0, g⟩ (fun r => (∀ c : Dev Cert.PreNormFwdRefIdeal.nD,
      r.2.mem ((c.tc : Thread Cert.PreNormFwdRefIdeal.nD Cert.PreNormFwdRefIdeal.τ).loc Cert.PreNormFwdRefIdeal.main_arg0) = m ((c.tc : Thread Cert.PreNormFwdRefIdeal.nD Cert.PreNormFwdRefIdeal.τ).loc Cert.PreNormFwdRefIdeal.main_arg0)
      ∧ r.2.mem ((c.tc : Thread Cert.PreNormFwdRefIdeal.nD Cert.PreNormFwdRefIdeal.τ).loc Cert.PreNormFwdRefIdeal.main_arg1) = m ((c.tc : Thread Cert.PreNormFwdRefIdeal.nD Cert.PreNormFwdRefIdeal.τ).loc Cert.PreNormFwdRefIdeal.main_arg1))
      ∧ r.2.sem = fun _ => 0)

def quiescent_MidNormFwd [hMidNormFwd : Cert.MidNormFwd.Facts] : Prop :=
  ∀ (m : (ℓ : Loc Cert.MidNormFwd.nD Cert.MidNormFwd.τ Cert.MidNormFwd.sig) → Buf (Elt Bits) ℓ) (g : Dev Cert.MidNormFwd.nD → PrngReg), Pre_MidNormFwd m →
    θ_run (Cert.MidNormFwd.defs (F := Bits)) (onTc (τ := Cert.MidNormFwd.τ) (Cert.MidNormFwd.main (F := Bits))) ⟨m, fun _ => 0, g⟩ (fun r => (∀ c : Dev Cert.MidNormFwd.nD,
      r.2.mem ((c.tc : Thread Cert.MidNormFwd.nD Cert.MidNormFwd.τ).loc Cert.MidNormFwd.main_arg0) = m ((c.tc : Thread Cert.MidNormFwd.nD Cert.MidNormFwd.τ).loc Cert.MidNormFwd.main_arg0)
      ∧ r.2.mem ((c.tc : Thread Cert.MidNormFwd.nD Cert.MidNormFwd.τ).loc Cert.MidNormFwd.main_arg1) = m ((c.tc : Thread Cert.MidNormFwd.nD Cert.MidNormFwd.τ).loc Cert.MidNormFwd.main_arg1)
      ∧ r.2.mem ((c.tc : Thread Cert.MidNormFwd.nD Cert.MidNormFwd.τ).loc Cert.MidNormFwd.main_arg2) = m ((c.tc : Thread Cert.MidNormFwd.nD Cert.MidNormFwd.τ).loc Cert.MidNormFwd.main_arg2)
      ∧ r.2.mem ((c.tc : Thread Cert.MidNormFwd.nD Cert.MidNormFwd.τ).loc Cert.MidNormFwd.main_arg3) = m ((c.tc : Thread Cert.MidNormFwd.nD Cert.MidNormFwd.τ).loc Cert.MidNormFwd.main_arg3))
      ∧ r.2.sem = fun _ => 0)

def quiescent_MidNormFwdIdeal [hMidNormFwdIdeal : Cert.MidNormFwdIdeal.Facts] : Prop :=
  ∀ (m : (ℓ : Loc Cert.MidNormFwdIdeal.nD Cert.MidNormFwdIdeal.τ Cert.MidNormFwdIdeal.sig) → Buf (Elt Ideal) ℓ) (g : Dev Cert.MidNormFwdIdeal.nD → PrngReg), Pre_MidNormFwdIdeal m →
    θ_run (Cert.MidNormFwdIdeal.defs (F := Ideal)) (onTc (τ := Cert.MidNormFwdIdeal.τ) (Cert.MidNormFwdIdeal.main (F := Ideal))) ⟨m, fun _ => 0, g⟩ (fun r => (∀ c : Dev Cert.MidNormFwdIdeal.nD,
      r.2.mem ((c.tc : Thread Cert.MidNormFwdIdeal.nD Cert.MidNormFwdIdeal.τ).loc Cert.MidNormFwdIdeal.main_arg0) = m ((c.tc : Thread Cert.MidNormFwdIdeal.nD Cert.MidNormFwdIdeal.τ).loc Cert.MidNormFwdIdeal.main_arg0)
      ∧ r.2.mem ((c.tc : Thread Cert.MidNormFwdIdeal.nD Cert.MidNormFwdIdeal.τ).loc Cert.MidNormFwdIdeal.main_arg1) = m ((c.tc : Thread Cert.MidNormFwdIdeal.nD Cert.MidNormFwdIdeal.τ).loc Cert.MidNormFwdIdeal.main_arg1)
      ∧ r.2.mem ((c.tc : Thread Cert.MidNormFwdIdeal.nD Cert.MidNormFwdIdeal.τ).loc Cert.MidNormFwdIdeal.main_arg2) = m ((c.tc : Thread Cert.MidNormFwdIdeal.nD Cert.MidNormFwdIdeal.τ).loc Cert.MidNormFwdIdeal.main_arg2)
      ∧ r.2.mem ((c.tc : Thread Cert.MidNormFwdIdeal.nD Cert.MidNormFwdIdeal.τ).loc Cert.MidNormFwdIdeal.main_arg3) = m ((c.tc : Thread Cert.MidNormFwdIdeal.nD Cert.MidNormFwdIdeal.τ).loc Cert.MidNormFwdIdeal.main_arg3))
      ∧ r.2.sem = fun _ => 0)

def quiescent_MidNormFwdRefIdeal [hMidNormFwdRefIdeal : Cert.MidNormFwdRefIdeal.Facts] : Prop :=
  ∀ (m : (ℓ : Loc Cert.MidNormFwdRefIdeal.nD Cert.MidNormFwdRefIdeal.τ Cert.MidNormFwdRefIdeal.sig) → Buf (Elt Ideal) ℓ) (g : Dev Cert.MidNormFwdRefIdeal.nD → PrngReg), Pre_MidNormFwdRefIdeal m →
    θ_run (Cert.MidNormFwdRefIdeal.defs (F := Ideal)) (onTc (τ := Cert.MidNormFwdRefIdeal.τ) (Cert.MidNormFwdRefIdeal.main (F := Ideal))) ⟨m, fun _ => 0, g⟩ (fun r => (∀ c : Dev Cert.MidNormFwdRefIdeal.nD,
      r.2.mem ((c.tc : Thread Cert.MidNormFwdRefIdeal.nD Cert.MidNormFwdRefIdeal.τ).loc Cert.MidNormFwdRefIdeal.main_arg0) = m ((c.tc : Thread Cert.MidNormFwdRefIdeal.nD Cert.MidNormFwdRefIdeal.τ).loc Cert.MidNormFwdRefIdeal.main_arg0)
      ∧ r.2.mem ((c.tc : Thread Cert.MidNormFwdRefIdeal.nD Cert.MidNormFwdRefIdeal.τ).loc Cert.MidNormFwdRefIdeal.main_arg1) = m ((c.tc : Thread Cert.MidNormFwdRefIdeal.nD Cert.MidNormFwdRefIdeal.τ).loc Cert.MidNormFwdRefIdeal.main_arg1)
      ∧ r.2.mem ((c.tc : Thread Cert.MidNormFwdRefIdeal.nD Cert.MidNormFwdRefIdeal.τ).loc Cert.MidNormFwdRefIdeal.main_arg2) = m ((c.tc : Thread Cert.MidNormFwdRefIdeal.nD Cert.MidNormFwdRefIdeal.τ).loc Cert.MidNormFwdRefIdeal.main_arg2)
      ∧ r.2.mem ((c.tc : Thread Cert.MidNormFwdRefIdeal.nD Cert.MidNormFwdRefIdeal.τ).loc Cert.MidNormFwdRefIdeal.main_arg3) = m ((c.tc : Thread Cert.MidNormFwdRefIdeal.nD Cert.MidNormFwdRefIdeal.τ).loc Cert.MidNormFwdRefIdeal.main_arg3))
      ∧ r.2.sem = fun _ => 0)

def quiescent_PostNormFwd [hPostNormFwd : Cert.PostNormFwd.Facts] : Prop :=
  ∀ (m : (ℓ : Loc Cert.PostNormFwd.nD Cert.PostNormFwd.τ Cert.PostNormFwd.sig) → Buf (Elt Bits) ℓ) (g : Dev Cert.PostNormFwd.nD → PrngReg), Pre_PostNormFwd m →
    θ_run (Cert.PostNormFwd.defs (F := Bits)) (onTc (τ := Cert.PostNormFwd.τ) (Cert.PostNormFwd.main (F := Bits))) ⟨m, fun _ => 0, g⟩ (fun r => (∀ c : Dev Cert.PostNormFwd.nD,
      r.2.mem ((c.tc : Thread Cert.PostNormFwd.nD Cert.PostNormFwd.τ).loc Cert.PostNormFwd.main_arg0) = m ((c.tc : Thread Cert.PostNormFwd.nD Cert.PostNormFwd.τ).loc Cert.PostNormFwd.main_arg0)
      ∧ r.2.mem ((c.tc : Thread Cert.PostNormFwd.nD Cert.PostNormFwd.τ).loc Cert.PostNormFwd.main_arg1) = m ((c.tc : Thread Cert.PostNormFwd.nD Cert.PostNormFwd.τ).loc Cert.PostNormFwd.main_arg1)
      ∧ r.2.mem ((c.tc : Thread Cert.PostNormFwd.nD Cert.PostNormFwd.τ).loc Cert.PostNormFwd.main_arg2) = m ((c.tc : Thread Cert.PostNormFwd.nD Cert.PostNormFwd.τ).loc Cert.PostNormFwd.main_arg2))
      ∧ r.2.sem = fun _ => 0)

def quiescent_PostNormFwdIdeal [hPostNormFwdIdeal : Cert.PostNormFwdIdeal.Facts] : Prop :=
  ∀ (m : (ℓ : Loc Cert.PostNormFwdIdeal.nD Cert.PostNormFwdIdeal.τ Cert.PostNormFwdIdeal.sig) → Buf (Elt Ideal) ℓ) (g : Dev Cert.PostNormFwdIdeal.nD → PrngReg), Pre_PostNormFwdIdeal m →
    θ_run (Cert.PostNormFwdIdeal.defs (F := Ideal)) (onTc (τ := Cert.PostNormFwdIdeal.τ) (Cert.PostNormFwdIdeal.main (F := Ideal))) ⟨m, fun _ => 0, g⟩ (fun r => (∀ c : Dev Cert.PostNormFwdIdeal.nD,
      r.2.mem ((c.tc : Thread Cert.PostNormFwdIdeal.nD Cert.PostNormFwdIdeal.τ).loc Cert.PostNormFwdIdeal.main_arg0) = m ((c.tc : Thread Cert.PostNormFwdIdeal.nD Cert.PostNormFwdIdeal.τ).loc Cert.PostNormFwdIdeal.main_arg0)
      ∧ r.2.mem ((c.tc : Thread Cert.PostNormFwdIdeal.nD Cert.PostNormFwdIdeal.τ).loc Cert.PostNormFwdIdeal.main_arg1) = m ((c.tc : Thread Cert.PostNormFwdIdeal.nD Cert.PostNormFwdIdeal.τ).loc Cert.PostNormFwdIdeal.main_arg1)
      ∧ r.2.mem ((c.tc : Thread Cert.PostNormFwdIdeal.nD Cert.PostNormFwdIdeal.τ).loc Cert.PostNormFwdIdeal.main_arg2) = m ((c.tc : Thread Cert.PostNormFwdIdeal.nD Cert.PostNormFwdIdeal.τ).loc Cert.PostNormFwdIdeal.main_arg2))
      ∧ r.2.sem = fun _ => 0)

def quiescent_PostNormFwdRefIdeal [hPostNormFwdRefIdeal : Cert.PostNormFwdRefIdeal.Facts] : Prop :=
  ∀ (m : (ℓ : Loc Cert.PostNormFwdRefIdeal.nD Cert.PostNormFwdRefIdeal.τ Cert.PostNormFwdRefIdeal.sig) → Buf (Elt Ideal) ℓ) (g : Dev Cert.PostNormFwdRefIdeal.nD → PrngReg), Pre_PostNormFwdRefIdeal m →
    θ_run (Cert.PostNormFwdRefIdeal.defs (F := Ideal)) (onTc (τ := Cert.PostNormFwdRefIdeal.τ) (Cert.PostNormFwdRefIdeal.main (F := Ideal))) ⟨m, fun _ => 0, g⟩ (fun r => (∀ c : Dev Cert.PostNormFwdRefIdeal.nD,
      r.2.mem ((c.tc : Thread Cert.PostNormFwdRefIdeal.nD Cert.PostNormFwdRefIdeal.τ).loc Cert.PostNormFwdRefIdeal.main_arg0) = m ((c.tc : Thread Cert.PostNormFwdRefIdeal.nD Cert.PostNormFwdRefIdeal.τ).loc Cert.PostNormFwdRefIdeal.main_arg0)
      ∧ r.2.mem ((c.tc : Thread Cert.PostNormFwdRefIdeal.nD Cert.PostNormFwdRefIdeal.τ).loc Cert.PostNormFwdRefIdeal.main_arg1) = m ((c.tc : Thread Cert.PostNormFwdRefIdeal.nD Cert.PostNormFwdRefIdeal.τ).loc Cert.PostNormFwdRefIdeal.main_arg1)
      ∧ r.2.mem ((c.tc : Thread Cert.PostNormFwdRefIdeal.nD Cert.PostNormFwdRefIdeal.τ).loc Cert.PostNormFwdRefIdeal.main_arg2) = m ((c.tc : Thread Cert.PostNormFwdRefIdeal.nD Cert.PostNormFwdRefIdeal.τ).loc Cert.PostNormFwdRefIdeal.main_arg2))
      ∧ r.2.sem = fun _ => 0)

def preserves_Bwd_BwdIdeal : Prop :=
  IdealRules.named_const.Statement Cert.BwdIdeal.κ "slope" .f32 0x3DDB33B6#32 ((241015141496493 / 2251799813685248 : ℝ) : EReal)

def algebraic_BwdIdeal_BwdRefIdeal_pre_finite [hBwdIdeal : Cert.BwdIdeal.Facts] [hBwdRefIdeal : Cert.BwdRefIdeal.Facts] [hPre_finite : Cert.Pre_finite.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_finite m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)) →
    ∃ (v0 : (c : Dev Cert.BwdIdeal.nD) → Buf (Elt Ideal) ((c.tc : Thread Cert.BwdIdeal.nD Cert.BwdIdeal.τ).loc Cert.BwdIdeal.main_v14_0)) (v1 : (c : Dev Cert.BwdIdeal.nD) → Buf (Elt Ideal) ((c.tc : Thread Cert.BwdIdeal.nD Cert.BwdIdeal.τ).loc Cert.BwdIdeal.main_v14_1)) (v2 : (c : Dev Cert.BwdIdeal.nD) → Buf (Elt Ideal) ((c.tc : Thread Cert.BwdIdeal.nD Cert.BwdIdeal.τ).loc Cert.BwdIdeal.main_v14_2)) (v3 : (c : Dev Cert.BwdIdeal.nD) → Buf (Elt Ideal) ((c.tc : Thread Cert.BwdIdeal.nD Cert.BwdIdeal.τ).loc Cert.BwdIdeal.main_v14_3)) (v4 : (c : Dev Cert.BwdIdeal.nD) → Buf (Elt Ideal) ((c.tc : Thread Cert.BwdIdeal.nD Cert.BwdIdeal.τ).loc Cert.BwdIdeal.main_v14_4)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v14_0) = v0 c
          ∧ r.2.mem ((c.tc : Thread Cert.BwdIdeal.nD Cert.BwdIdeal.τ).loc Cert.BwdIdeal.main_v14_1) = v1 c
          ∧ r.2.mem ((c.tc : Thread Cert.BwdIdeal.nD Cert.BwdIdeal.τ).loc Cert.BwdIdeal.main_v14_2) = v2 c
          ∧ r.2.mem ((c.tc : Thread Cert.BwdIdeal.nD Cert.BwdIdeal.τ).loc Cert.BwdIdeal.main_v14_3) = v3 c
          ∧ r.2.mem ((c.tc : Thread Cert.BwdIdeal.nD Cert.BwdIdeal.τ).loc Cert.BwdIdeal.main_v14_4) = v4 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v120) = v0 c
          ∧ r.2.mem ((c.tc : Thread Cert.BwdRefIdeal.nD Cert.BwdRefIdeal.τ).loc Cert.BwdRefIdeal.main_v122) = v1 c
          ∧ r.2.mem ((c.tc : Thread Cert.BwdRefIdeal.nD Cert.BwdRefIdeal.τ).loc Cert.BwdRefIdeal.main_v111) = v2 c
          ∧ r.2.mem ((c.tc : Thread Cert.BwdRefIdeal.nD Cert.BwdRefIdeal.τ).loc Cert.BwdRefIdeal.main_v123) = v3 c
          ∧ r.2.mem ((c.tc : Thread Cert.BwdRefIdeal.nD Cert.BwdRefIdeal.τ).loc Cert.BwdRefIdeal.main_v124) = v4 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v9_0)) (v1 : (c : Dev Cert.UpIdeal.nD) → Buf (Elt Ideal) ((c.tc : Thread Cert.UpIdeal.nD Cert.UpIdeal.τ).loc Cert.UpIdeal.main_v9_1)) (v2 : (c : Dev Cert.UpIdeal.nD) → Buf (Elt Ideal) ((c.tc : Thread Cert.UpIdeal.nD Cert.UpIdeal.τ).loc Cert.UpIdeal.main_v9_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v9_0) = v0 c
          ∧ r.2.mem ((c.tc : Thread Cert.UpIdeal.nD Cert.UpIdeal.τ).loc Cert.UpIdeal.main_v9_1) = v1 c
          ∧ r.2.mem ((c.tc : Thread Cert.UpIdeal.nD Cert.UpIdeal.τ).loc Cert.UpIdeal.main_v9_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v3) = v1 c
          ∧ r.2.mem ((c.tc : Thread Cert.UpRefIdeal.nD Cert.UpRefIdeal.τ).loc Cert.UpRefIdeal.main_v47) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v3) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v1)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v1) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v3) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v1) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v1_0)) (v1 : (c : Dev Cert.PostNormIdeal.nD) → Buf (Elt Ideal) ((c.tc : Thread Cert.PostNormIdeal.nD Cert.PostNormIdeal.τ).loc Cert.PostNormIdeal.main_v1_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v1_0) = v0 c
          ∧ r.2.mem ((c.tc : Thread Cert.PostNormIdeal.nD Cert.PostNormIdeal.τ).loc Cert.PostNormIdeal.main_v1_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v36) = v0 c
          ∧ r.2.mem ((c.tc : Thread Cert.PostNormRefIdeal.nD Cert.PostNormRefIdeal.τ).loc Cert.PostNormRefIdeal.main_v37) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v1_0)) (v1 : (c : Dev Cert.PreNormIdeal.nD) → Buf (Elt Ideal) ((c.tc : Thread Cert.PreNormIdeal.nD Cert.PreNormIdeal.τ).loc Cert.PreNormIdeal.main_v1_1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1_0) = v0 c
          ∧ r.2.mem ((c.tc : Thread Cert.PreNormIdeal.nD Cert.PreNormIdeal.τ).loc Cert.PreNormIdeal.main_v1_1) = v1 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v36) = v0 c
          ∧ r.2.mem ((c.tc : Thread Cert.PreNormRefIdeal.nD Cert.PreNormRefIdeal.τ).loc Cert.PreNormRefIdeal.main_v37) = v1 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3))

def preserves_MidNorm_MidNormIdeal : Prop :=
  True

def algebraic_MidNormIdeal_MidNormRefIdeal [hMidNormIdeal : Cert.MidNormIdeal.Facts] [hMidNormRefIdeal : Cert.MidNormRefIdeal.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)
      ∧ m' ((c.tc : Thread Cert.MidNormRefIdeal.nD Cert.MidNormRefIdeal.τ).loc Cert.MidNormRefIdeal.main_arg4) = m ((c.tc : Thread Cert.MidNormIdeal.nD Cert.MidNormIdeal.τ).loc Cert.MidNormIdeal.main_arg4)
      ∧ m' ((c.tc : Thread Cert.MidNormRefIdeal.nD Cert.MidNormRefIdeal.τ).loc Cert.MidNormRefIdeal.main_arg5) = m ((c.tc : Thread Cert.MidNormIdeal.nD Cert.MidNormIdeal.τ).loc Cert.MidNormIdeal.main_arg5)) →
    ∃ (v0 : (c : Dev Cert.MidNormIdeal.nD) → Buf (Elt Ideal) ((c.tc : Thread Cert.MidNormIdeal.nD Cert.MidNormIdeal.τ).loc Cert.MidNormIdeal.main_v2_0)) (v1 : (c : Dev Cert.MidNormIdeal.nD) → Buf (Elt Ideal) ((c.tc : Thread Cert.MidNormIdeal.nD Cert.MidNormIdeal.τ).loc Cert.MidNormIdeal.main_v2_1)) (v2 : (c : Dev Cert.MidNormIdeal.nD) → Buf (Elt Ideal) ((c.tc : Thread Cert.MidNormIdeal.nD Cert.MidNormIdeal.τ).loc Cert.MidNormIdeal.main_v2_2)) (v3 : (c : Dev Cert.MidNormIdeal.nD) → Buf (Elt Ideal) ((c.tc : Thread Cert.MidNormIdeal.nD Cert.MidNormIdeal.τ).loc Cert.MidNormIdeal.main_v2_3)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v2_0) = v0 c
          ∧ r.2.mem ((c.tc : Thread Cert.MidNormIdeal.nD Cert.MidNormIdeal.τ).loc Cert.MidNormIdeal.main_v2_1) = v1 c
          ∧ r.2.mem ((c.tc : Thread Cert.MidNormIdeal.nD Cert.MidNormIdeal.τ).loc Cert.MidNormIdeal.main_v2_2) = v2 c
          ∧ r.2.mem ((c.tc : Thread Cert.MidNormIdeal.nD Cert.MidNormIdeal.τ).loc Cert.MidNormIdeal.main_v2_3) = v3 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
          ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
          ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v36) = v0 c
          ∧ r.2.mem ((c.tc : Thread Cert.MidNormRefIdeal.nD Cert.MidNormRefIdeal.τ).loc Cert.MidNormRefIdeal.main_v73) = v1 c
          ∧ r.2.mem ((c.tc : Thread Cert.MidNormRefIdeal.nD Cert.MidNormRefIdeal.τ).loc Cert.MidNormRefIdeal.main_v74) = v2 c
          ∧ r.2.mem ((c.tc : Thread Cert.MidNormRefIdeal.nD Cert.MidNormRefIdeal.τ).loc Cert.MidNormRefIdeal.main_v75) = v3 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3)
          ∧ r.2.mem ((c.tc : Thread Cert.MidNormRefIdeal.nD Cert.MidNormRefIdeal.τ).loc Cert.MidNormRefIdeal.main_arg4) = m' ((c.tc : Thread Cert.MidNormRefIdeal.nD Cert.MidNormRefIdeal.τ).loc Cert.MidNormRefIdeal.main_arg4)
          ∧ r.2.mem ((c.tc : Thread Cert.MidNormRefIdeal.nD Cert.MidNormRefIdeal.τ).loc Cert.MidNormRefIdeal.main_arg5) = m' ((c.tc : Thread Cert.MidNormRefIdeal.nD Cert.MidNormRefIdeal.τ).loc Cert.MidNormRefIdeal.main_arg5))

def preserves_PreNormFwd_PreNormFwdIdeal : Prop :=
  True

def algebraic_PreNormFwdIdeal_PreNormFwdRefIdeal [hPreNormFwdIdeal : Cert.PreNormFwdIdeal.Facts] [hPreNormFwdRefIdeal : Cert.PreNormFwdRefIdeal.Facts] : Prop :=
  ∀ (m : (ℓ : Loc Cert.PreNormFwdIdeal.nD Cert.PreNormFwdIdeal.τ Cert.PreNormFwdIdeal.sig) → Buf (Elt Ideal) ℓ) (g : Dev Cert.PreNormFwdIdeal.nD → PrngReg)
    (m' : (ℓ : Loc Cert.PreNormFwdRefIdeal.nD Cert.PreNormFwdRefIdeal.τ Cert.PreNormFwdRefIdeal.sig) → Buf (Elt Ideal) ℓ) (g' : Dev Cert.PreNormFwdRefIdeal.nD → PrngReg), Pre_PreNormFwdIdeal m →
    (∀ c : Dev Cert.PreNormFwdIdeal.nD,
      m' ((c.tc : Thread Cert.PreNormFwdRefIdeal.nD Cert.PreNormFwdRefIdeal.τ).loc Cert.PreNormFwdRefIdeal.main_arg0) = m ((c.tc : Thread Cert.PreNormFwdIdeal.nD Cert.PreNormFwdIdeal.τ).loc Cert.PreNormFwdIdeal.main_arg0)
      ∧ m' ((c.tc : Thread Cert.PreNormFwdRefIdeal.nD Cert.PreNormFwdRefIdeal.τ).loc Cert.PreNormFwdRefIdeal.main_arg1) = m ((c.tc : Thread Cert.PreNormFwdIdeal.nD Cert.PreNormFwdIdeal.τ).loc Cert.PreNormFwdIdeal.main_arg1)) →
    ∃ (v0 : (c : Dev Cert.PreNormFwdIdeal.nD) → Buf (Elt Ideal) ((c.tc : Thread Cert.PreNormFwdIdeal.nD Cert.PreNormFwdIdeal.τ).loc Cert.PreNormFwdIdeal.main_v1)),
      θ_run (Cert.PreNormFwdIdeal.defs (F := Ideal)) (onTc (τ := Cert.PreNormFwdIdeal.τ) (Cert.PreNormFwdIdeal.main (F := Ideal))) ⟨m, fun _ => 0, g⟩ (fun r => ∀ c : Dev Cert.PreNormFwdIdeal.nD,
          r.2.mem ((c.tc : Thread Cert.PreNormFwdIdeal.nD Cert.PreNormFwdIdeal.τ).loc Cert.PreNormFwdIdeal.main_v1) = v0 c
          ∧ r.2.mem ((c.tc : Thread Cert.PreNormFwdIdeal.nD Cert.PreNormFwdIdeal.τ).loc Cert.PreNormFwdIdeal.main_arg0) = m ((c.tc : Thread Cert.PreNormFwdIdeal.nD Cert.PreNormFwdIdeal.τ).loc Cert.PreNormFwdIdeal.main_arg0)
          ∧ r.2.mem ((c.tc : Thread Cert.PreNormFwdIdeal.nD Cert.PreNormFwdIdeal.τ).loc Cert.PreNormFwdIdeal.main_arg1) = m ((c.tc : Thread Cert.PreNormFwdIdeal.nD Cert.PreNormFwdIdeal.τ).loc Cert.PreNormFwdIdeal.main_arg1))
      ∧ θ_run (Cert.PreNormFwdRefIdeal.defs (F := Ideal)) (onTc (τ := Cert.PreNormFwdRefIdeal.τ) (Cert.PreNormFwdRefIdeal.main (F := Ideal))) ⟨m', fun _ => 0, g'⟩ (fun r => ∀ c : Dev Cert.PreNormFwdRefIdeal.nD,
          r.2.mem ((c.tc : Thread Cert.PreNormFwdRefIdeal.nD Cert.PreNormFwdRefIdeal.τ).loc Cert.PreNormFwdRefIdeal.main_v13) = v0 c
          ∧ r.2.mem ((c.tc : Thread Cert.PreNormFwdRefIdeal.nD Cert.PreNormFwdRefIdeal.τ).loc Cert.PreNormFwdRefIdeal.main_arg0) = m' ((c.tc : Thread Cert.PreNormFwdRefIdeal.nD Cert.PreNormFwdRefIdeal.τ).loc Cert.PreNormFwdRefIdeal.main_arg0)
          ∧ r.2.mem ((c.tc : Thread Cert.PreNormFwdRefIdeal.nD Cert.PreNormFwdRefIdeal.τ).loc Cert.PreNormFwdRefIdeal.main_arg1) = m' ((c.tc : Thread Cert.PreNormFwdRefIdeal.nD Cert.PreNormFwdRefIdeal.τ).loc Cert.PreNormFwdRefIdeal.main_arg1))

def preserves_MidNormFwd_MidNormFwdIdeal : Prop :=
  True

def algebraic_MidNormFwdIdeal_MidNormFwdRefIdeal [hMidNormFwdIdeal : Cert.MidNormFwdIdeal.Facts] [hMidNormFwdRefIdeal : Cert.MidNormFwdRefIdeal.Facts] : Prop :=
  ∀ (m : (ℓ : Loc Cert.MidNormFwdIdeal.nD Cert.MidNormFwdIdeal.τ Cert.MidNormFwdIdeal.sig) → Buf (Elt Ideal) ℓ) (g : Dev Cert.MidNormFwdIdeal.nD → PrngReg)
    (m' : (ℓ : Loc Cert.MidNormFwdRefIdeal.nD Cert.MidNormFwdRefIdeal.τ Cert.MidNormFwdRefIdeal.sig) → Buf (Elt Ideal) ℓ) (g' : Dev Cert.MidNormFwdRefIdeal.nD → PrngReg), Pre_MidNormFwdIdeal m →
    (∀ c : Dev Cert.MidNormFwdIdeal.nD,
      m' ((c.tc : Thread Cert.MidNormFwdRefIdeal.nD Cert.MidNormFwdRefIdeal.τ).loc Cert.MidNormFwdRefIdeal.main_arg0) = m ((c.tc : Thread Cert.MidNormFwdIdeal.nD Cert.MidNormFwdIdeal.τ).loc Cert.MidNormFwdIdeal.main_arg0)
      ∧ m' ((c.tc : Thread Cert.MidNormFwdRefIdeal.nD Cert.MidNormFwdRefIdeal.τ).loc Cert.MidNormFwdRefIdeal.main_arg1) = m ((c.tc : Thread Cert.MidNormFwdIdeal.nD Cert.MidNormFwdIdeal.τ).loc Cert.MidNormFwdIdeal.main_arg1)
      ∧ m' ((c.tc : Thread Cert.MidNormFwdRefIdeal.nD Cert.MidNormFwdRefIdeal.τ).loc Cert.MidNormFwdRefIdeal.main_arg2) = m ((c.tc : Thread Cert.MidNormFwdIdeal.nD Cert.MidNormFwdIdeal.τ).loc Cert.MidNormFwdIdeal.main_arg2)
      ∧ m' ((c.tc : Thread Cert.MidNormFwdRefIdeal.nD Cert.MidNormFwdRefIdeal.τ).loc Cert.MidNormFwdRefIdeal.main_arg3) = m ((c.tc : Thread Cert.MidNormFwdIdeal.nD Cert.MidNormFwdIdeal.τ).loc Cert.MidNormFwdIdeal.main_arg3)) →
    ∃ (v0 : (c : Dev Cert.MidNormFwdIdeal.nD) → Buf (Elt Ideal) ((c.tc : Thread Cert.MidNormFwdIdeal.nD Cert.MidNormFwdIdeal.τ).loc Cert.MidNormFwdIdeal.main_v2_0)) (v1 : (c : Dev Cert.MidNormFwdIdeal.nD) → Buf (Elt Ideal) ((c.tc : Thread Cert.MidNormFwdIdeal.nD Cert.MidNormFwdIdeal.τ).loc Cert.MidNormFwdIdeal.main_v2_1)),
      θ_run (Cert.MidNormFwdIdeal.defs (F := Ideal)) (onTc (τ := Cert.MidNormFwdIdeal.τ) (Cert.MidNormFwdIdeal.main (F := Ideal))) ⟨m, fun _ => 0, g⟩ (fun r => ∀ c : Dev Cert.MidNormFwdIdeal.nD,
          r.2.mem ((c.tc : Thread Cert.MidNormFwdIdeal.nD Cert.MidNormFwdIdeal.τ).loc Cert.MidNormFwdIdeal.main_v2_0) = v0 c
          ∧ r.2.mem ((c.tc : Thread Cert.MidNormFwdIdeal.nD Cert.MidNormFwdIdeal.τ).loc Cert.MidNormFwdIdeal.main_v2_1) = v1 c
          ∧ r.2.mem ((c.tc : Thread Cert.MidNormFwdIdeal.nD Cert.MidNormFwdIdeal.τ).loc Cert.MidNormFwdIdeal.main_arg0) = m ((c.tc : Thread Cert.MidNormFwdIdeal.nD Cert.MidNormFwdIdeal.τ).loc Cert.MidNormFwdIdeal.main_arg0)
          ∧ r.2.mem ((c.tc : Thread Cert.MidNormFwdIdeal.nD Cert.MidNormFwdIdeal.τ).loc Cert.MidNormFwdIdeal.main_arg1) = m ((c.tc : Thread Cert.MidNormFwdIdeal.nD Cert.MidNormFwdIdeal.τ).loc Cert.MidNormFwdIdeal.main_arg1)
          ∧ r.2.mem ((c.tc : Thread Cert.MidNormFwdIdeal.nD Cert.MidNormFwdIdeal.τ).loc Cert.MidNormFwdIdeal.main_arg2) = m ((c.tc : Thread Cert.MidNormFwdIdeal.nD Cert.MidNormFwdIdeal.τ).loc Cert.MidNormFwdIdeal.main_arg2)
          ∧ r.2.mem ((c.tc : Thread Cert.MidNormFwdIdeal.nD Cert.MidNormFwdIdeal.τ).loc Cert.MidNormFwdIdeal.main_arg3) = m ((c.tc : Thread Cert.MidNormFwdIdeal.nD Cert.MidNormFwdIdeal.τ).loc Cert.MidNormFwdIdeal.main_arg3))
      ∧ θ_run (Cert.MidNormFwdRefIdeal.defs (F := Ideal)) (onTc (τ := Cert.MidNormFwdRefIdeal.τ) (Cert.MidNormFwdRefIdeal.main (F := Ideal))) ⟨m', fun _ => 0, g'⟩ (fun r => ∀ c : Dev Cert.MidNormFwdRefIdeal.nD,
          r.2.mem ((c.tc : Thread Cert.MidNormFwdRefIdeal.nD Cert.MidNormFwdRefIdeal.τ).loc Cert.MidNormFwdRefIdeal.main_v13) = v0 c
          ∧ r.2.mem ((c.tc : Thread Cert.MidNormFwdRefIdeal.nD Cert.MidNormFwdRefIdeal.τ).loc Cert.MidNormFwdRefIdeal.main_v27) = v1 c
          ∧ r.2.mem ((c.tc : Thread Cert.MidNormFwdRefIdeal.nD Cert.MidNormFwdRefIdeal.τ).loc Cert.MidNormFwdRefIdeal.main_arg0) = m' ((c.tc : Thread Cert.MidNormFwdRefIdeal.nD Cert.MidNormFwdRefIdeal.τ).loc Cert.MidNormFwdRefIdeal.main_arg0)
          ∧ r.2.mem ((c.tc : Thread Cert.MidNormFwdRefIdeal.nD Cert.MidNormFwdRefIdeal.τ).loc Cert.MidNormFwdRefIdeal.main_arg1) = m' ((c.tc : Thread Cert.MidNormFwdRefIdeal.nD Cert.MidNormFwdRefIdeal.τ).loc Cert.MidNormFwdRefIdeal.main_arg1)
          ∧ r.2.mem ((c.tc : Thread Cert.MidNormFwdRefIdeal.nD Cert.MidNormFwdRefIdeal.τ).loc Cert.MidNormFwdRefIdeal.main_arg2) = m' ((c.tc : Thread Cert.MidNormFwdRefIdeal.nD Cert.MidNormFwdRefIdeal.τ).loc Cert.MidNormFwdRefIdeal.main_arg2)
          ∧ r.2.mem ((c.tc : Thread Cert.MidNormFwdRefIdeal.nD Cert.MidNormFwdRefIdeal.τ).loc Cert.MidNormFwdRefIdeal.main_arg3) = m' ((c.tc : Thread Cert.MidNormFwdRefIdeal.nD Cert.MidNormFwdRefIdeal.τ).loc Cert.MidNormFwdRefIdeal.main_arg3))

def preserves_PostNormFwd_PostNormFwdIdeal : Prop :=
  True

def algebraic_PostNormFwdIdeal_PostNormFwdRefIdeal [hPostNormFwdIdeal : Cert.PostNormFwdIdeal.Facts] [hPostNormFwdRefIdeal : Cert.PostNormFwdRefIdeal.Facts] : Prop :=
  ∀ (m : (ℓ : Loc Cert.PostNormFwdIdeal.nD Cert.PostNormFwdIdeal.τ Cert.PostNormFwdIdeal.sig) → Buf (Elt Ideal) ℓ) (g : Dev Cert.PostNormFwdIdeal.nD → PrngReg)
    (m' : (ℓ : Loc Cert.PostNormFwdRefIdeal.nD Cert.PostNormFwdRefIdeal.τ Cert.PostNormFwdRefIdeal.sig) → Buf (Elt Ideal) ℓ) (g' : Dev Cert.PostNormFwdRefIdeal.nD → PrngReg), Pre_PostNormFwdIdeal m →
    (∀ c : Dev Cert.PostNormFwdIdeal.nD,
      m' ((c.tc : Thread Cert.PostNormFwdRefIdeal.nD Cert.PostNormFwdRefIdeal.τ).loc Cert.PostNormFwdRefIdeal.main_arg0) = m ((c.tc : Thread Cert.PostNormFwdIdeal.nD Cert.PostNormFwdIdeal.τ).loc Cert.PostNormFwdIdeal.main_arg0)
      ∧ m' ((c.tc : Thread Cert.PostNormFwdRefIdeal.nD Cert.PostNormFwdRefIdeal.τ).loc Cert.PostNormFwdRefIdeal.main_arg1) = m ((c.tc : Thread Cert.PostNormFwdIdeal.nD Cert.PostNormFwdIdeal.τ).loc Cert.PostNormFwdIdeal.main_arg1)
      ∧ m' ((c.tc : Thread Cert.PostNormFwdRefIdeal.nD Cert.PostNormFwdRefIdeal.τ).loc Cert.PostNormFwdRefIdeal.main_arg2) = m ((c.tc : Thread Cert.PostNormFwdIdeal.nD Cert.PostNormFwdIdeal.τ).loc Cert.PostNormFwdIdeal.main_arg2)) →
    ∃ (v0 : (c : Dev Cert.PostNormFwdIdeal.nD) → Buf (Elt Ideal) ((c.tc : Thread Cert.PostNormFwdIdeal.nD Cert.PostNormFwdIdeal.τ).loc Cert.PostNormFwdIdeal.main_v1)),
      θ_run (Cert.PostNormFwdIdeal.defs (F := Ideal)) (onTc (τ := Cert.PostNormFwdIdeal.τ) (Cert.PostNormFwdIdeal.main (F := Ideal))) ⟨m, fun _ => 0, g⟩ (fun r => ∀ c : Dev Cert.PostNormFwdIdeal.nD,
          r.2.mem ((c.tc : Thread Cert.PostNormFwdIdeal.nD Cert.PostNormFwdIdeal.τ).loc Cert.PostNormFwdIdeal.main_v1) = v0 c
          ∧ r.2.mem ((c.tc : Thread Cert.PostNormFwdIdeal.nD Cert.PostNormFwdIdeal.τ).loc Cert.PostNormFwdIdeal.main_arg0) = m ((c.tc : Thread Cert.PostNormFwdIdeal.nD Cert.PostNormFwdIdeal.τ).loc Cert.PostNormFwdIdeal.main_arg0)
          ∧ r.2.mem ((c.tc : Thread Cert.PostNormFwdIdeal.nD Cert.PostNormFwdIdeal.τ).loc Cert.PostNormFwdIdeal.main_arg1) = m ((c.tc : Thread Cert.PostNormFwdIdeal.nD Cert.PostNormFwdIdeal.τ).loc Cert.PostNormFwdIdeal.main_arg1)
          ∧ r.2.mem ((c.tc : Thread Cert.PostNormFwdIdeal.nD Cert.PostNormFwdIdeal.τ).loc Cert.PostNormFwdIdeal.main_arg2) = m ((c.tc : Thread Cert.PostNormFwdIdeal.nD Cert.PostNormFwdIdeal.τ).loc Cert.PostNormFwdIdeal.main_arg2))
      ∧ θ_run (Cert.PostNormFwdRefIdeal.defs (F := Ideal)) (onTc (τ := Cert.PostNormFwdRefIdeal.τ) (Cert.PostNormFwdRefIdeal.main (F := Ideal))) ⟨m', fun _ => 0, g'⟩ (fun r => ∀ c : Dev Cert.PostNormFwdRefIdeal.nD,
          r.2.mem ((c.tc : Thread Cert.PostNormFwdRefIdeal.nD Cert.PostNormFwdRefIdeal.τ).loc Cert.PostNormFwdRefIdeal.main_v13) = v0 c
          ∧ r.2.mem ((c.tc : Thread Cert.PostNormFwdRefIdeal.nD Cert.PostNormFwdRefIdeal.τ).loc Cert.PostNormFwdRefIdeal.main_arg0) = m' ((c.tc : Thread Cert.PostNormFwdRefIdeal.nD Cert.PostNormFwdRefIdeal.τ).loc Cert.PostNormFwdRefIdeal.main_arg0)
          ∧ r.2.mem ((c.tc : Thread Cert.PostNormFwdRefIdeal.nD Cert.PostNormFwdRefIdeal.τ).loc Cert.PostNormFwdRefIdeal.main_arg1) = m' ((c.tc : Thread Cert.PostNormFwdRefIdeal.nD Cert.PostNormFwdRefIdeal.τ).loc Cert.PostNormFwdRefIdeal.main_arg1)
          ∧ r.2.mem ((c.tc : Thread Cert.PostNormFwdRefIdeal.nD Cert.PostNormFwdRefIdeal.τ).loc Cert.PostNormFwdRefIdeal.main_arg2) = m' ((c.tc : Thread Cert.PostNormFwdRefIdeal.nD Cert.PostNormFwdRefIdeal.τ).loc Cert.PostNormFwdRefIdeal.main_arg2))

def Claim : Prop :=
  ∃ (hBwd : Cert.Bwd.Facts) (hBwdIdeal : Cert.BwdIdeal.Facts) (hBwdRefIdeal : Cert.BwdRefIdeal.Facts) (hUp : Cert.Up.Facts) (hUpIdeal : Cert.UpIdeal.Facts) (hUpRefIdeal : Cert.UpRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hSum : Cert.Sum.Facts) (hSumIdeal : Cert.SumIdeal.Facts) (hSumRefIdeal : Cert.SumRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPostNorm : Cert.PostNorm.Facts) (hPostNormIdeal : Cert.PostNormIdeal.Facts) (hPostNormRefIdeal : Cert.PostNormRefIdeal.Facts) (hPreNorm : Cert.PreNorm.Facts) (hPreNormIdeal : Cert.PreNormIdeal.Facts) (hPreNormRefIdeal : Cert.PreNormRefIdeal.Facts) (hMidNorm : Cert.MidNorm.Facts) (hMidNormIdeal : Cert.MidNormIdeal.Facts) (hMidNormRefIdeal : Cert.MidNormRefIdeal.Facts) (hPreNormFwd : Cert.PreNormFwd.Facts) (hPreNormFwdIdeal : Cert.PreNormFwdIdeal.Facts) (hPreNormFwdRefIdeal : Cert.PreNormFwdRefIdeal.Facts) (hMidNormFwd : Cert.MidNormFwd.Facts) (hMidNormFwdIdeal : Cert.MidNormFwdIdeal.Facts) (hMidNormFwdRefIdeal : Cert.MidNormFwdRefIdeal.Facts) (hPostNormFwd : Cert.PostNormFwd.Facts) (hPostNormFwdIdeal : Cert.PostNormFwdIdeal.Facts) (hPostNormFwdRefIdeal : Cert.PostNormFwdRefIdeal.Facts) (hPre_finite : Cert.Pre_finite.Facts),
    quiescent_Bwd (hBwd := hBwd)
    ∧ quiescent_BwdIdeal (hBwdIdeal := hBwdIdeal)
    ∧ quiescent_BwdIdeal_pre_finite (hBwdIdeal := hBwdIdeal) (hPre_finite := hPre_finite)
    ∧ quiescent_BwdRefIdeal (hBwdRefIdeal := hBwdRefIdeal)
    ∧ quiescent_BwdRefIdeal_pre_finite (hBwdRefIdeal := hBwdRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Sum (hSum := hSum)
    ∧ quiescent_SumIdeal (hSumIdeal := hSumIdeal)
    ∧ quiescent_SumRefIdeal (hSumRefIdeal := hSumRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_MidNorm (hMidNorm := hMidNorm)
    ∧ quiescent_MidNormIdeal (hMidNormIdeal := hMidNormIdeal)
    ∧ quiescent_MidNormRefIdeal (hMidNormRefIdeal := hMidNormRefIdeal)
    ∧ quiescent_PreNormFwd (hPreNormFwd := hPreNormFwd)
    ∧ quiescent_PreNormFwdIdeal (hPreNormFwdIdeal := hPreNormFwdIdeal)
    ∧ quiescent_PreNormFwdRefIdeal (hPreNormFwdRefIdeal := hPreNormFwdRefIdeal)
    ∧ quiescent_MidNormFwd (hMidNormFwd := hMidNormFwd)
    ∧ quiescent_MidNormFwdIdeal (hMidNormFwdIdeal := hMidNormFwdIdeal)
    ∧ quiescent_MidNormFwdRefIdeal (hMidNormFwdRefIdeal := hMidNormFwdRefIdeal)
    ∧ quiescent_PostNormFwd (hPostNormFwd := hPostNormFwd)
    ∧ quiescent_PostNormFwdIdeal (hPostNormFwdIdeal := hPostNormFwdIdeal)
    ∧ quiescent_PostNormFwdRefIdeal (hPostNormFwdRefIdeal := hPostNormFwdRefIdeal)
    ∧ preserves_Bwd_BwdIdeal
    ∧ algebraic_BwdIdeal_BwdRefIdeal_pre_finite (hBwdIdeal := hBwdIdeal) (hBwdRefIdeal := hBwdRefIdeal) (hPre_finite := hPre_finite)
    ∧ preserves_Up_UpIdeal
    ∧ algebraic_UpIdeal_UpRefIdeal (hUpIdeal := hUpIdeal) (hUpRefIdeal := hUpRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_Sum_SumIdeal
    ∧ algebraic_SumIdeal_SumRefIdeal (hSumIdeal := hSumIdeal) (hSumRefIdeal := hSumRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_PostNorm_PostNormIdeal
    ∧ algebraic_PostNormIdeal_PostNormRefIdeal (hPostNormIdeal := hPostNormIdeal) (hPostNormRefIdeal := hPostNormRefIdeal)
    ∧ preserves_PreNorm_PreNormIdeal
    ∧ algebraic_PreNormIdeal_PreNormRefIdeal (hPreNormIdeal := hPreNormIdeal) (hPreNormRefIdeal := hPreNormRefIdeal)
    ∧ preserves_MidNorm_MidNormIdeal
    ∧ algebraic_MidNormIdeal_MidNormRefIdeal (hMidNormIdeal := hMidNormIdeal) (hMidNormRefIdeal := hMidNormRefIdeal)
    ∧ preserves_PreNormFwd_PreNormFwdIdeal
    ∧ algebraic_PreNormFwdIdeal_PreNormFwdRefIdeal (hPreNormFwdIdeal := hPreNormFwdIdeal) (hPreNormFwdRefIdeal := hPreNormFwdRefIdeal)
    ∧ preserves_MidNormFwd_MidNormFwdIdeal
    ∧ algebraic_MidNormFwdIdeal_MidNormFwdRefIdeal (hMidNormFwdIdeal := hMidNormFwdIdeal) (hMidNormFwdRefIdeal := hMidNormFwdRefIdeal)
    ∧ preserves_PostNormFwd_PostNormFwdIdeal
    ∧ algebraic_PostNormFwdIdeal_PostNormFwdRefIdeal (hPostNormFwdIdeal := hPostNormFwdIdeal) (hPostNormFwdRefIdeal := hPostNormFwdRefIdeal)
-- ==== Pre_finite.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S_ : Shape := ⟨0, ![]⟩

class Facts : Prop where
  bcast_S_S4096x1024 : S_.BroadcastsInDim S4096x1024 (![] : Fin 0 → Fin S4096x1024.rank)
  bcast_S_S1024x8192 : S_.BroadcastsInDim S1024x8192 (![] : Fin 0 → Fin S1024x8192.rank)
  bcast_S_S3x8192 : S_.BroadcastsInDim S3x8192 (![] : Fin 0 → Fin S3x8192.rank)
  bcast_S_S8192 : S_.BroadcastsInDim S8192 (![] : Fin 0 → Fin S8192.rank)

variable [Facts]

def fn {F : FTy → Type} [FloatOps F] (main_arg0 : FVec F S4096x1024 .bf16) (main_arg1 : FVec F S1024x8192 .f32) (main_arg2 : FVec F S3x8192 .f32) (main_arg3 : FVec F S8192 .f32) (main_arg4 : FVec F S4096x1024 .f32) (main_arg5 : FVec F S4096x1024 .bf16) : IVec S4096x1024 1 × IVec S1024x8192 1 × IVec S3x8192 1 × IVec S8192 1 × IVec S4096x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S3x8192 .f32 := Host.absf main_arg2
  let main_cst_1 : FVec F S_ .f32 := constant S_ .f32 0x7F800000#32
  let main_v7 : FVec F S3x8192 .f32 := broadcastInDim S3x8192 ![] bcast_S_S3x8192 main_cst_1
  let main_v8 : IVec S3x8192 1 := cmpf .olt main_v6 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .bf16 := Host.absf main_arg5
  let main_cst_4 : FVec F S_ .bf16 := constant S_ .bf16 0x7F80#16
  let main_v16 : FVec F S4096x1024 .bf16 := broadcastInDim S4096x1024 ![] bcast_S_S4096x1024 main_cst_4
  let main_v17 : IVec S4096x1024 1 := cmpf .olt main_v15 main_v16
  (main_v2, main_v5, main_v8, main_v11, main_v14, main_v17)
-- ==== Bwd.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S4096x4096 : Shape := ⟨2, ![4096, 4096]⟩
abbrev S1024x8x1024 : Shape := ⟨3, ![1024, 8, 1024]⟩
abbrev S8x1024x1024 : Shape := ⟨3, ![8, 1024, 1024]⟩
abbrev S3x4096 : Shape := ⟨2, ![3, 4096]⟩
abbrev S4096 : Shape := ⟨1, ![4096]⟩
abbrev S1x4096 : Shape := ⟨2, ![1, 4096]⟩
abbrev S64x4096 : Shape := ⟨2, ![64, 4096]⟩
abbrev S512x1024 : Shape := ⟨2, ![512, 1024]⟩
abbrev S8x1024 : Shape := ⟨2, ![8, 1024]⟩
abbrev S16x1024 : Shape := ⟨2, ![16, 1024]⟩
abbrev S1024x1024 : Shape := ⟨2, ![1024, 1024]⟩
abbrev S1x1024x1024 : Shape := ⟨3, ![1, 1024, 1024]⟩
abbrev S3x1024 : Shape := ⟨2, ![3, 1024]⟩
abbrev S1x1024 : Shape := ⟨2, ![1, 1024]⟩
abbrev S528x1024 : Shape := ⟨2, ![528, 1024]⟩
abbrev S256x1024 : Shape := ⟨2, ![256, 1024]⟩
abbrev S528x256 : Shape := ⟨2, ![528, 256]⟩
abbrev S520x256 : Shape := ⟨2, ![520, 256]⟩
abbrev S8x256 : Shape := ⟨2, ![8, 256]⟩
abbrev S512x256 : Shape := ⟨2, ![512, 256]⟩
abbrev S3x256 : Shape := ⟨2, ![3, 256]⟩
abbrev S1x256 : Shape := ⟨2, ![1, 256]⟩
abbrev S256 : Shape := ⟨1, ![256]⟩
abbrev S4x256 : Shape := ⟨2, ![4, 256]⟩
abbrev S1x1024x256 : Shape := ⟨3, ![1, 1024, 256]⟩
abbrev S1024x256 : Shape := ⟨2, ![1024, 256]⟩

abbrev nBuf : Space → Nat
  | .hbm => 25
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x8192, .f32⟩
  | .hbm, ⟨8, _⟩ => ⟨S4096x4096, .f32⟩
  | .hbm, ⟨9, _⟩ => ⟨S4096x4096, .f32⟩
  | .hbm, ⟨10, _⟩ => ⟨S4096x1024, .bf16⟩
  | .hbm, ⟨11, _⟩ => ⟨S1024x8192, .bf16⟩
  | .hbm, ⟨12, _⟩ => ⟨S1024x8x1024, .bf16⟩
  | .hbm, ⟨13, _⟩ => ⟨S8x1024x1024, .bf16⟩
  | .hbm, ⟨14, _⟩ => ⟨S3x4096, .f32⟩
  | .hbm, ⟨15, _⟩ => ⟨S3x4096, .f32⟩
  | .hbm, ⟨16, _⟩ => ⟨S4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S4096x4096, .bf16⟩
  | .hbm, ⟨21, _⟩ => ⟨S4096x4096, .bf16⟩
  | .hbm, ⟨22, _⟩ => ⟨S4096x1024, .f32⟩
  | .hbm, ⟨23, _⟩ => ⟨S64x4096, .f32⟩
  | .hbm, ⟨24, _⟩ => ⟨S64x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S3x1024, .f32⟩
  | .local _ .vmem, ⟨23, _⟩ => ⟨S3x1024, .f32⟩
  | .local _ .vmem, ⟨24, _⟩ => ⟨S3x1024, .f32⟩
  | .local _ .vmem, ⟨25, _⟩ => ⟨S3x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | .local _ .vmem, ⟨35, _⟩ => ⟨S512x1024, .f32⟩
  | .local _ .vmem, ⟨36, _⟩ => ⟨S8x1024, .f32⟩
  | .local _ .vmem, ⟨37, _⟩ => ⟨S8x1024, .f32⟩
  | .local _ .vmem, ⟨38, _⟩ => ⟨S8x1024, .f32⟩
  | .local _ .vmem, ⟨39, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32_263 : BitVec 32 := 0#32
  let v769 : BitVec 1 := Scalar.cmpi .eq arg1 c0_i32_263
  let v770 : BitVec 32 := Scalar.extui v769
  let c0_i32_264 : BitVec 32 := 0#32
  let v771 : BitVec 1 := Scalar.cmpi .ne v770 c0_i32_264
  v771

def k0_cond2 (i : grid0.Coords) : BitVec 1 :=
  let arg1 : BitVec 32 := BitVec.ofNat 32 (i 1).val
  let c0_i32_265 : BitVec 32 := 0#32
  let v772 : BitVec 1 := Scalar.cmpi .sgt arg1 c0_i32_265
  let v773 : BitVec 32 := Scalar.extui v772
  let c0_i32_266 : BitVec 32 := 0#32
  let v774 : BitVec 1 := Scalar.cmpi .ne v773 c0_i32_266
  v774

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== BwdIdeal.lean ====
variable {F : FTy → Type} [FloatOps F] [Named F]
def κ : String → Option EReal := fun
  | "slope" => some ((241015141496493 / 2251799813685248 : ℝ) : EReal)
  | _ => none
-- ==== BwdRefIdeal.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S1x8192 : Shape := ⟨2, ![1, 8192]⟩
abbrev S8x8192 : Shape := ⟨2, ![8, 8192]⟩
abbrev S8x1x8192 : Shape := ⟨3, ![8, 1, 8192]⟩
abbrev S8x512x8192 : Shape := ⟨3, ![8, 512, 8192]⟩
abbrev S_ : Shape := ⟨0, ![]⟩
abbrev S2x8192 : Shape := ⟨2, ![2, 8192]⟩
abbrev S4098x8192 : Shape := ⟨2, ![4098, 8192]⟩
abbrev S4096x4096 : Shape := ⟨2, ![4096, 4096]⟩
abbrev S8x4x8192 : Shape := ⟨3, ![8, 4, 8192]⟩
abbrev S8x8x8192 : Shape := ⟨3, ![8, 8, 8192]⟩
abbrev S64x8192 : Shape := ⟨2, ![64, 8192]⟩
abbrev S64x4096 : Shape := ⟨2, ![64, 4096]⟩

abbrev nBuf : Space → Nat
  | .hbm => 158
  | .vmem => 0
  | .smem => 0
  | _ => 0

abbrev hbmTy0_0 (i : Nat) : BufTy := match i % 128 with
  | 0 => ⟨S4096x1024, .bf16⟩
  | 1 => ⟨S1024x8192, .f32⟩
  | 2 => ⟨S3x8192, .f32⟩
  | 3 => ⟨S8192, .f32⟩
  | 4 => ⟨S4096x1024, .f32⟩
  | 5 => ⟨S4096x1024, .bf16⟩
  | 6 => ⟨S4096x1024, .f32⟩
  | 7 => ⟨S4096x8192, .f32⟩
  | 8 => ⟨S1x8192, .f32⟩
  | 9 => ⟨S8192, .f32⟩
  | 10 => ⟨S8x8192, .f32⟩
  | 11 => ⟨S1x8192, .f32⟩
  | 12 => ⟨S8192, .f32⟩
  | 13 => ⟨S8x8192, .f32⟩
  | 14 => ⟨S1x8192, .f32⟩
  | 15 => ⟨S8192, .f32⟩
  | 16 => ⟨S8x8192, .f32⟩
  | 17 => ⟨S8x8192, .f32⟩
  | 18 => ⟨S8x1x8192, .f32⟩
  | 19 => ⟨S8x512x8192, .f32⟩
  | 20 => ⟨S4096x8192, .f32⟩
  | 21 => ⟨S8x1x8192, .f32⟩
  | 22 => ⟨S8x512x8192, .f32⟩
  | 23 => ⟨S4096x8192, .f32⟩
  | 24 => ⟨S8x1x8192, .f32⟩
  | 25 => ⟨S8x512x8192, .f32⟩
  | 26 => ⟨S4096x8192, .f32⟩
  | 27 => ⟨S8x1x8192, .f32⟩
  | 28 => ⟨S8x512x8192, .f32⟩
  | 29 => ⟨S4096x8192, .f32⟩
  | 30 => ⟨S_, .f32⟩
  | 31 => ⟨S2x8192, .f32⟩
  | 32 => ⟨S4098x8192, .f32⟩
  | 33 => ⟨S_, .f32⟩
  | 34 => ⟨S2x8192, .f32⟩
  | 35 => ⟨S4096x8192, .f32⟩
  | 36 => ⟨S4096x8192, .f32⟩
  | 37 => ⟨S_, .f32⟩
  | 38 => ⟨S4096x8192, .f32⟩
  | 39 => ⟨S4096x8192, .f32⟩
  | 40 => ⟨S4096x8192, .f32⟩
  | 41 => ⟨S4096x8192, .f32⟩
  | 42 => ⟨S4096x8192, .f32⟩
  | 43 => ⟨S4096x8192, .f32⟩
  | 44 => ⟨S4096x8192, .f32⟩
  | 45 => ⟨S4096x8192, .f32⟩
  | 46 => ⟨S4096x8192, .f32⟩
  | 47 => ⟨S4096x4096, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x4096, .f32⟩
  | 77 => ⟨S4096x4096, .f32⟩
  | 78 => ⟨S4096x1024, .f32⟩
  | 79 => ⟨S4096x1024, .f32⟩
  | 80 => ⟨S4096x4096, .f32⟩
  | 81 => ⟨S4096x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .f32⟩
  | 88 => ⟨S4096x4096, .f32⟩
  | 89 => ⟨S_, .f32⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S4096x4096, .f32⟩
  | 97 => ⟨S4096x4096, .f32⟩
  | 98 => ⟨S_, .f32⟩
  | 99 => ⟨S4096x8192, .f32⟩
  | 100 => ⟨S_, .f32⟩
  | 101 => ⟨S4096x8192, .f32⟩
  | 102 => ⟨S4096x8192, .f32⟩
  | 103 => ⟨S4096x8192, .f32⟩
  | 104 => ⟨S4096x8192, .f32⟩
  | 105 => ⟨S_, .f32⟩
  | 106 => ⟨S4098x8192, .f32⟩
  | 107 => ⟨S4096x8192, .f32⟩
  | 108 => ⟨S4096x8192, .f32⟩
  | 109 => ⟨S_, .f32⟩
  | 110 => ⟨S4098x8192, .f32⟩
  | 111 => ⟨S4098x8192, .f32⟩
  | 112 => ⟨S4096x8192, .f32⟩
  | 113 => ⟨S4096x8192, .f32⟩
  | 114 => ⟨S_, .f32⟩
  | 115 => ⟨S4098x8192, .f32⟩
  | 116 => ⟨S4098x8192, .f32⟩
  | 117 => ⟨S2x8192, .f32⟩
  | 118 => ⟨S4096x8192, .f32⟩
  | 119 => ⟨S8x512x8192, .f32⟩
  | 120 => ⟨S_, .f32⟩
  | 121 => ⟨S8x8192, .f32⟩
  | 122 => ⟨S8x1x8192, .f32⟩
  | 123 => ⟨S_, .f32⟩
  | 124 => ⟨S8x8192, .f32⟩
  | 125 => ⟨S8x512x8192, .f32⟩
  | 126 => ⟨S_, .f32⟩
  | 127 => ⟨S8x8192, .f32⟩
  | _ => ⟨S4096x1024, .bf16⟩

abbrev hbmTy0_1 (i : Nat) : BufTy := match i % 128 with
  | 0 => ⟨S8x1x8192, .f32⟩
  | 1 => ⟨S_, .f32⟩
  | 2 => ⟨S8x8192, .f32⟩
  | 3 => ⟨S8x512x8192, .f32⟩
  | 4 => ⟨S_, .f32⟩
  | 5 => ⟨S8x8192, .f32⟩
  | 6 => ⟨S8x1x8192, .f32⟩
  | 7 => ⟨S_, .f32⟩
  | 8 => ⟨S8x8192, .f32⟩
  | 9 => ⟨S8x512x8192, .f32⟩
  | 10 => ⟨S_, .f32⟩
  | 11 => ⟨S8x8192, .f32⟩
  | 12 => ⟨S8x1x8192, .f32⟩
  | 13 => ⟨S_, .f32⟩
  | 14 => ⟨S8x8192, .f32⟩
  | 15 => ⟨S4096x1024, .f32⟩
  | 16 => ⟨S_, .f32⟩
  | 17 => ⟨S8x4x8192, .f32⟩
  | 18 => ⟨S8x1x8192, .f32⟩
  | 19 => ⟨S8x1x8192, .f32⟩
  | 20 => ⟨S8x1x8192, .f32⟩
  | 21 => ⟨S8x1x8192, .f32⟩
  | 22 => ⟨S8x8x8192, .f32⟩
  | 23 => ⟨S64x8192, .f32⟩
  | 24 => ⟨S4096x4096, .f32⟩
  | 25 => ⟨S4096x4096, .bf16⟩
  | 26 => ⟨S4096x4096, .f32⟩
  | 27 => ⟨S4096x4096, .bf16⟩
  | 28 => ⟨S64x4096, .f32⟩
  | 29 => ⟨S64x4096, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_15 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_17 : Ref sig .tc := ⟨.hbm, 120, rfl⟩
abbrev main_v96 : Ref sig .tc := ⟨.hbm, 121, rfl⟩
abbrev main_v97 : Ref sig .tc := ⟨.hbm, 122, rfl⟩
abbrev main_cst_18 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_cst_20 : Ref sig .tc := ⟨.hbm, 129, rfl⟩
abbrev main_v102 : Ref sig .tc := ⟨.hbm, 130, rfl⟩
abbrev main_v103 : Ref sig .tc := ⟨.hbm, 131, rfl⟩
abbrev main_cst_21 : Ref sig .tc := ⟨.hbm, 132, rfl⟩
abbrev main_v104 : Ref sig .tc := ⟨.hbm, 133, rfl⟩
abbrev main_v105 : Ref sig .tc := ⟨.hbm, 134, rfl⟩
abbrev main_cst_22 : Ref sig .tc := ⟨.hbm, 135, rfl⟩
abbrev main_v106 : Ref sig .tc := ⟨.hbm, 136, rfl⟩
abbrev main_v107 : Ref sig .tc := ⟨.hbm, 137, rfl⟩
abbrev main_cst_23 : Ref sig .tc := ⟨.hbm, 138, rfl⟩
abbrev main_v108 : Ref sig .tc := ⟨.hbm, 139, rfl⟩
abbrev main_v109 : Ref sig .tc := ⟨.hbm, 140, rfl⟩
abbrev main_cst_24 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]
-- ==== Up.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S1024x8x1024 : Shape := ⟨3, ![1024, 8, 1024]⟩
abbrev S8x1024x1024 : Shape := ⟨3, ![8, 1024, 1024]⟩
abbrev S3x4096 : Shape := ⟨2, ![3, 4096]⟩
abbrev S4096 : Shape := ⟨1, ![4096]⟩
abbrev S1x4096 : Shape := ⟨2, ![1, 4096]⟩
abbrev S4096x4096 : Shape := ⟨2, ![4096, 4096]⟩
abbrev S512x1024 : Shape := ⟨2, ![512, 1024]⟩
abbrev S16x1024 : Shape := ⟨2, ![16, 1024]⟩
abbrev S1x1024x1024 : Shape := ⟨3, ![1, 1024, 1024]⟩
abbrev S3x1024 : Shape := ⟨2, ![3, 1024]⟩
abbrev S1x1024 : Shape := ⟨2, ![1, 1024]⟩
abbrev S528x1024 : Shape := ⟨2, ![528, 1024]⟩
abbrev S1024x1024 : Shape := ⟨2, ![1024, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S1024x8192, .bf16⟩
  | .hbm, ⟨5, _⟩ => ⟨S1024x8x1024, .bf16⟩
  | .hbm, ⟨6, _⟩ => ⟨S8x1024x1024, .bf16⟩
  | .hbm, ⟨7, _⟩ => ⟨S3x4096, .f32⟩
  | .hbm, ⟨8, _⟩ => ⟨S3x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S3x1024, .f32⟩
  | .local _ .vmem, ⟨9, _⟩ => ⟨S3x1024, .f32⟩
  | .local _ .vmem, ⟨10, _⟩ => ⟨S3x1024, .f32⟩
  | .local _ .vmem, ⟨11, _⟩ => ⟨S3x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpRefIdeal.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S4096x4096 : Shape := ⟨2, ![4096, 4096]⟩
abbrev S_ : Shape := ⟨0, ![]⟩
abbrev S2x8192 : Shape := ⟨2, ![2, 8192]⟩
abbrev S4098x8192 : Shape := ⟨2, ![4098, 8192]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S4096x1024, .f32⟩
  | .hbm, ⟨5, _⟩ => ⟨S4096x8192, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S2x8192, .f32⟩
  | .hbm, ⟨10, _⟩ => ⟨S4098x8192, .f32⟩
  | .hbm, ⟨11, _⟩ => ⟨S1x8192, .f32⟩
  | .hbm, ⟨12, _⟩ => ⟨S8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S1x8192, .f32⟩
  | .hbm, ⟨21, _⟩ => ⟨S8192, .f32⟩
  | .hbm, ⟨22, _⟩ => ⟨S4096x8192, .f32⟩
  | .hbm, ⟨23, _⟩ => ⟨S1x8192, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S1x8192, .f32⟩
  | .hbm, ⟨28, _⟩ => ⟨S8192, .f32⟩
  | .hbm, ⟨29, _⟩ => ⟨S4096x8192, .f32⟩
  | .hbm, ⟨30, _⟩ => ⟨S1x8192, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S1x8192, .f32⟩
  | .hbm, ⟨35, _⟩ => ⟨S4096x8192, .f32⟩
  | .hbm, ⟨36, _⟩ => ⟨S4096x8192, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S8x1024x1024 : Shape := ⟨3, ![8, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x4096, .bf16⟩
  | .hbm, ⟨3, _⟩ => ⟨S8x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond7 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c1_i32 : BitVec 32 := 1#32
  let v1 : BitVec 32 := Scalar.select v0 arg2 c1_i32
  let c3_i32 : BitVec 32 := 3#32
  let v2 : BitVec 32 := Scalar.minsi arg1 c3_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c0_i32 : BitVec 32 := 0#32
  let v1 : BitVec 32 := Scalar.select v0 arg2 c0_i32
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S4096x1024 : Shape := ⟨2, ![4096, 1024]⟩
abbrev S4096x4096 : Shape := ⟨2, ![4096, 4096]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S1024x8192, .f32⟩
  | .hbm, ⟨7, _⟩ => ⟨S4096x1024, .f32⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x8x1024, .f32⟩
  | .hbm, ⟨12, _⟩ => ⟨S8x1024x1024, .f32⟩
  | .hbm, ⟨13, _⟩ => ⟨S8x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x4096, .f32⟩
  | .hbm, ⟨3, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Sum.lean ====
abbrev S64x4096 : Shape := ⟨2, ![64, 4096]⟩
abbrev S8x4096 : Shape := ⟨2, ![8, 4096]⟩

abbrev nBuf : Space → Nat
  | .hbm => 2
  | .vmem => 2
  | .smem => 0
  | _ => 0

abbrev bufTy : (tb : Table) → Fin (tcTables nBuf tb) → BufTy
  | .hbm, ⟨0, _⟩ => ⟨S64x4096, .f32⟩
  | .hbm, ⟨1, _⟩ => ⟨S8x4096, .f32⟩
  | .local _ .vmem, ⟨0, _⟩ => ⟨S64x4096, .f32⟩
  | .local _ .vmem, ⟨1, _⟩ => ⟨S8x4096, .f32⟩
  | _, _ => ⟨S64x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S64x4096 : Shape := ⟨2, ![64, 4096]⟩
abbrev S8x8x4096 : Shape := ⟨3, ![8, 8, 4096]⟩
abbrev S_ : Shape := ⟨0, ![]⟩
abbrev S8x4096 : Shape := ⟨2, ![8, 4096]⟩

abbrev nBuf : Space → Nat
  | .hbm => 4
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S8x8x4096, .f32⟩
  | .hbm, ⟨2, _⟩ => ⟨S_, .f32⟩
  | .hbm, ⟨3, _⟩ => ⟨S8x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDx.lean ====
abbrev S1024x2560 : Shape := ⟨2, ![1024, 2560]⟩
abbrev S4096x2560 : Shape := ⟨2, ![4096, 2560]⟩
abbrev S2560x1024 : Shape := ⟨2, ![2560, 1024]⟩
abbrev S4096x1024 : Shape := ⟨2, ![4096, 1024]⟩
abbrev S2048x1280 : Shape := ⟨2, ![2048, 1280]⟩
abbrev S1280x1024 : Shape := ⟨2, ![1280, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2560, .f32⟩
  | .hbm, ⟨1, _⟩ => ⟨S4096x2560, .bf16⟩
  | .hbm, ⟨2, _⟩ => ⟨S2560x1024, .f32⟩
  | .hbm, ⟨3, _⟩ => ⟨S2560x1024, .bf16⟩
  | .hbm, ⟨4, _⟩ => ⟨S4096x1024, .f32⟩
  | .local _ .vmem, ⟨0, _⟩ => ⟨S2048x1280, .bf16⟩
  | .local _ .vmem, ⟨1, _⟩ => ⟨S2048x1280, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S1024x2560 : Shape := ⟨2, ![1024, 2560]⟩
abbrev S4096x2560 : Shape := ⟨2, ![4096, 2560]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S4096x2560, .bf16⟩
  | .hbm, ⟨2, _⟩ => ⟨S_, .f32⟩
  | .hbm, ⟨3, _⟩ => ⟨S4096x1024, .f32⟩
  | .hbm, ⟨4, _⟩ => ⟨S4096x2560, .f32⟩
  | .hbm, ⟨5, _⟩ => ⟨S4096x2560, .f32⟩
  | .hbm, ⟨6, _⟩ => ⟨S4096x1024, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDw.lean ====
abbrev S4096x1024 : Shape := ⟨2, ![4096, 1024]⟩
abbrev S4096x2560 : Shape := ⟨2, ![4096, 2560]⟩
abbrev S2560x1024 : Shape := ⟨2, ![2560, 1024]⟩
abbrev S1024x2560 : Shape := ⟨2, ![1024, 2560]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S2560x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1024x1024, .bf16⟩
  | .local _ .vmem, ⟨3, _⟩ => ⟨S1024x1024, .bf16⟩
  | .local _ .vmem, ⟨4, _⟩ => ⟨S2560x1024, .bf16⟩
  | .local _ .vmem, ⟨5, _⟩ => ⟨S2560x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDx.lean ====
abbrev S1024x1024 : Shape := ⟨2, ![1024, 1024]⟩
abbrev S4096x1024 : Shape := ⟨2, ![4096, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x2560 : Shape := ⟨2, ![1024, 2560]⟩
abbrev S2560x1024 : Shape := ⟨2, ![2560, 1024]⟩
abbrev S4096x2560 : Shape := ⟨2, ![4096, 2560]⟩
abbrev S2048x1024 : Shape := ⟨2, ![2048, 1024]⟩
abbrev S1280x1024 : Shape := ⟨2, ![1280, 1024]⟩
abbrev S2048x1280 : Shape := ⟨2, ![2048, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .f32⟩
  | .hbm, ⟨2, _⟩ => ⟨S2560x1024, .f32⟩
  | .hbm, ⟨3, _⟩ => ⟨S2560x1024, .bf16⟩
  | .hbm, ⟨4, _⟩ => ⟨S4096x2560, .f32⟩
  | .local _ .vmem, ⟨0, _⟩ => ⟨S2048x1024, .bf16⟩
  | .local _ .vmem, ⟨1, _⟩ => ⟨S2048x1024, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1280, .f32⟩
  | .local _ .vmem, ⟨5, _⟩ => ⟨S2048x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .f32⟩
  | .hbm, ⟨2, _⟩ => ⟨S4096x1024, .f32⟩
  | .hbm, ⟨3, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PostNorm.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_14 : BitVec 32 := 0#32
  let v41 : BitVec 1 := Scalar.cmpi .ne v40 c0_i32_14
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_15 : BitVec 32 := 0#32
  let v44 : BitVec 1 := Scalar.cmpi .ne v43 c0_i32_15
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== PreNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MidNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_30 : BitVec 32 := 0#32
  let v80 : BitVec 1 := Scalar.cmpi .ne v79 c0_i32_30
  v80

def k0_cond2 (i : grid0.Coords) : BitVec 1 :=
  let arg0 : BitVec 32 := BitVec.ofNat 32 (i 0).val
  let c0_i32 : BitVec 32 := 0#32
  let v78 : BitVec 1 := Scalar.cmpi .eq arg0 c0_i32
  let v_true : BitVec 1 := 1#1
  let v81 : BitVec 1 := Scalar.xori v78 v_true
  let v82 : BitVec 32 := Scalar.extui v81
  let c0_i32_31 : BitVec 32 := 0#32
  let v83 : BitVec 1 := Scalar.cmpi .ne v82 c0_i32_31
  v83

def k0_cond3 (i : grid0.Coords) : BitVec 1 :=
  let arg0 : BitVec 32 := BitVec.ofNat 32 (i 0).val
  let c0_i32 : BitVec 32 := 0#32
  let v78 : BitVec 1 := Scalar.cmpi .eq arg0 c0_i32
  let v84 : BitVec 32 := Scalar.extui v78
  let c0_i32_32 : BitVec 32 := 0#32
  let v85 : BitVec 1 := Scalar.cmpi .ne v84 c0_i32_32
  v85

def k0_cond4 (i : grid0.Coords) : BitVec 1 :=
  let arg0 : BitVec 32 := BitVec.ofNat 32 (i 0).val
  let c0_i32 : BitVec 32 := 0#32
  let v78 : BitVec 1 := Scalar.cmpi .eq arg0 c0_i32
  let true_33 : BitVec 1 := 1#1
  let v86 : BitVec 1 := Scalar.xori v78 true_33
  let v87 : BitVec 32 := Scalar.extui v86
  let c0_i32_34 : BitVec 32 := 0#32
  let v88 : BitVec 1 := Scalar.cmpi .ne v87 c0_i32_34
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S1x1024, .f32⟩
  | .hbm, ⟨99, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== PreNormFwd.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MidNormFwd.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidNormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== PostNormFwd.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.UpBlocks.lean ====
/- The forward call of the feed-forward layer: what its blocks hold of the arguments, and the rows of the up product
   that one point computes, sixteen rows of the block before and its own 512. -/
module

public import proofs.«01_k».proof.Defs
public import proofs.«01_k».proof.Proof.Gen.UpIdeal
public import proofs.«01_k».proof.Proof.Gen.UpRefIdeal
public import proofs.«01_k».proof.Proof.Gen.UpIdeal.Value
public import proofs.«01_k».proof.Proof.Gen.UpRefIdeal.Read
public import Idealize.ShloMosaic.Lib.Pipeline.ValueKit
public import Idealize.ShloMosaic.Lib.Claim

public section

set_option maxRecDepth 16384

noncomputable section

namespace Cert.UpValue

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

/-- Where each window's block lies, as a function of the grid point. -/
theorem idx_val : ∀ t : Fin cfg0.N, win0_0.index t = ![t.val % 8, 0]
    ∧ win0_1.index t = ![t.val % 8 * 32 - 1, 0]
    ∧ win0_2.index t = ![t.val / 8, 0, 0]
    ∧ win0_3.index t = ![4 + t.val / 8, 0, 0]
    ∧ win0_4.index t = ![0, t.val / 8] ∧ win0_5.index t = ![0, t.val / 8]
    ∧ win0_6.index t = ![0, t.val / 8] ∧ win0_7.index t = ![0, t.val / 8]
    ∧ win0_8.index t = ![t.val % 8, t.val / 8] ∧ win0_9.index t = ![t.val % 8, t.val / 8]
    ∧ win0_10.index t = ![t.val % 8, t.val / 8] ∧ (grid0.coords t 1).val = t.val % 8 :=
  (by decide +kernel : ∀ t : Fin grid0.N, _)

/-- The kernel's test for the first row block. -/
theorem keep_cond : ∀ n : Fin 8, Scalar.cmpi .sgt (BitVec.ofNat 32 n.val) 0#32 = if 0 < n.val then 1#1 else 0#1 := by
  decide +kernel

/-- The rows before the block count only from the second block on. -/
theorem keep_val (i : grid0.Coords) (v3 : Vec Ideal S16x1024 .bf16) (v6 : Vec Ideal S512x1024 .bf16) (r : Fin 528) (k : Fin 1024) :
    k0_pay4 (F := Ideal) i v3 v6 (ix2 r k) = if h : r.val < 16 then (if 0 < (i 1).val then v3 (ix2 ⟨r.val, h⟩ k) else 0)
      else v6 (ix2 ⟨r.val - 16, by omega⟩ k) := by
  have hi : (i 1).val < 8 := (i 1).isLt
  pointwise [k0_pay4]
  rw [keep_cond ⟨(i 1).val, hi⟩]
  congr 1
  funext h
  by_cases h0 : 0 < (i 1).val
  · simp only [h0, if_true]; rfl
  · simp only [h0, if_false]; rfl

/-- The rows a point multiplies are the reference's rows with two rows of zeros before them: the gate's half. -/
theorem ext_gate (c : Dev nD) (t : Fin cfg0.N) (r : Fin 528) (n : Fin 4098) (hn : 512 * (t.val % 8) + r.val = n.val + 14)
    (hr : 14 ≤ r.val) (l : Fin 1024) :
    k0_pay5 (F := Ideal) (grid0.coords t) (iblk m c 1 t) (iblk m c 0 t) (iblk m c 2 t) (ix2 r l)
    = UpRefIdeal.Read.val_main_v5 (F := Ideal) (m ((c : Thread nD τ).loc main_arg0)) (m ((c : Thread nD τ).loc main_arg1))
        (ix2 n ⟨t.val / 8 * 1024 + l.val, by
          have := lt_of_lt_of_eq t.isLt (show cfg0.N = 32 from N_0); omega⟩) := by
  pointwise [k0_pay5, UpRefIdeal.Read.val_main_v5, UpRefIdeal.Read.val_main_v4, UpRefIdeal.Read.val_main_cst, UpRefIdeal.Read.val_main_v1, UpRefIdeal.Read.val_main_v0]
  have hc : (grid0.coords t 1).val = t.val % 8 := by obtain ⟨-, -, -, -, -, -, -, -, -, -, -, h⟩ := idx_val t; exact h
  simp only [keep_val, hc]
  by_cases h : n.val < 2
  · rw [dif_pos h]
    have h1 : r.val < 16 := by omega
    have h2 : ¬ 0 < t.val % 8 := by omega
    simp only [h1, h2, dif_pos, if_false, zero_mul]
    exact Finset.sum_const_zero
  · rw [dif_neg h]
    refine Finset.sum_congr rfl fun k _ => ?_
    refine Ideal.mul_congr ?_ ?_
    · by_cases h1 : r.val < 16
      · have h2 : 0 < t.val % 8 := by omega
        simp only [h1, h2, dif_pos, if_true]
        blk_point [iblk, V, idx_val t]
      · simp only [h1, dif_neg, not_false_eq_true]
        blk_point [iblk, V, idx_val t]
    · blk_point [iblk, V, idx_val t]

/-- The same of the value's half, whose columns come 4096 later. -/
theorem ext_val (c : Dev nD) (t : Fin cfg0.N) (r : Fin 528) (n : Fin 4098) (hn : 512 * (t.val % 8) + r.val = n.val + 14)
    (hr : 14 ≤ r.val) (l : Fin 1024) :
    k0_pay1 (F := Ideal) (k0_pay4 (grid0.coords t) (iblk m c 1 t) (iblk m c 0 t)) (iblk m c 3 t) (ix2 r l)
    = UpRefIdeal.Read.val_main_v5 (F := Ideal) (m ((c : Thread nD τ).loc main_arg0)) (m ((c : Thread nD τ).loc main_arg1))
        (ix2 n ⟨4096 + (t.val / 8 * 1024 + l.val), by
          have := lt_of_lt_of_eq t.isLt (show cfg0.N = 32 from N_0); omega⟩) := by
  pointwise [k0_pay1, UpRefIdeal.Read.val_main_v5, UpRefIdeal.Read.val_main_v4, UpRefIdeal.Read.val_main_cst, UpRefIdeal.Read.val_main_v1, UpRefIdeal.Read.val_main_v0]
  have hc : (grid0.coords t 1).val = t.val % 8 := by obtain ⟨-, -, -, -, -, -, -, -, -, -, -, h⟩ := idx_val t; exact h
  simp only [keep_val, hc]
  by_cases h : n.val < 2
  · rw [dif_pos h]
    have h1 : r.val < 16 := by omega
    have h2 : ¬ 0 < t.val % 8 := by omega
    simp only [h1, h2, dif_pos, if_false, zero_mul]
    exact Finset.sum_const_zero
  · rw [dif_neg h]
    refine Finset.sum_congr rfl fun k _ => ?_
    refine Ideal.mul_congr ?_ ?_
    · by_cases h1 : r.val < 16
      · have h2 : 0 < t.val % 8 := by omega
        simp only [h1, h2, dif_pos, if_true]
        blk_point [iblk, V, idx_val t]
      · simp only [h1, dif_neg, not_false_eq_true]
        blk_point [iblk, V, idx_val t]
    · blk_point [iblk, V, idx_val t]

end Cert.UpValue

end
-- ==== Proof.UpValue.lean ====
/- The forward call of the feed-forward layer against the reference: the gate, the gated product, and the two halves of the
   up product it saves. -/
module

public import proofs.«01_k».proof.Proof.UpBlocks

public section

set_option maxRecDepth 16384

noncomputable section

namespace Cert.UpValue

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

/-- A grid point's number is below 32. -/
theorem lt_points (t : Fin cfg0.N) : t.val < 32 := lt_of_lt_of_eq t.isLt (show cfg0.N = 32 from N_0)

/-- A row of the rotated product, two rows back. -/
theorem rot_two (r : Fin 512) (h) : (⟨(16 + r.val + 528 - 2) % 528, h⟩ : Fin 528) = ⟨14 + r.val, by omega⟩ := Fin.ext (by simp only []; omega)

/-- A row of the rotated product, one row back. -/
theorem rot_one (r : Fin 512) (h) : (⟨(16 + r.val + 528 - 1) % 528, h⟩ : Fin 528) = ⟨15 + r.val, by omega⟩ := Fin.ext (by simp only []; omega)

/-- The convolution of the gate's half. -/
theorem gate_at (c : Dev nD) (t : Fin cfg0.N) (r : Fin 512) (l : Fin 1024) :
    k0_pay7 (F := Ideal) (grid0.coords t) (iblk m c 1 t) (iblk m c 0 t) (iblk m c 2 t) (iblk m c 4 t) (iblk m c 6 t) (ix2 r l)
    = UpRefIdeal.Read.val_main_v31 (F := Ideal) (m ((c : Thread nD τ).loc main_arg0)) (m ((c : Thread nD τ).loc main_arg1)) (m ((c : Thread nD τ).loc main_arg2)) (m ((c : Thread nD τ).loc main_arg3))
        (ix2 ⟨512 * (t.val % 8) + r.val, by omega⟩ ⟨t.val / 8 * 1024 + l.val, by have := lt_points t; omega⟩) := by
  pointwise [k0_pay7, UpRefIdeal.Read.val_main_v31, UpRefIdeal.Read.val_main_v30, UpRefIdeal.Read.val_main_v29, UpRefIdeal.Read.val_main_v28, UpRefIdeal.Read.val_main_v27, UpRefIdeal.Read.val_main_v26, UpRefIdeal.Read.val_main_v25, UpRefIdeal.Read.val_main_v24, UpRefIdeal.Read.val_main_v23, UpRefIdeal.Read.val_main_v22, UpRefIdeal.Read.val_main_v21, UpRefIdeal.Read.val_main_v20, UpRefIdeal.Read.val_main_v19, UpRefIdeal.Read.val_main_v18, UpRefIdeal.Read.val_main_v17, UpRefIdeal.Read.val_main_v16, UpRefIdeal.Read.val_main_v15, UpRefIdeal.Read.val_main_v14, UpRefIdeal.Read.val_main_v13, UpRefIdeal.Read.val_main_v12, UpRefIdeal.Read.val_main_v11, UpRefIdeal.Read.val_main_v10, UpRefIdeal.Read.val_main_v9, UpRefIdeal.Read.val_main_v8, UpRefIdeal.Read.val_main_v7, UpRefIdeal.Read.val_main_v6, UpRefIdeal.Read.val_main_cst_0]
  rw [rot_two, rot_one,
    ext_gate m c t _ ⟨512 * (t.val % 8) + r.val, by omega⟩ (by simp only []; omega) (by simp only []; omega),
    ext_gate m c t _ ⟨1 + (512 * (t.val % 8) + r.val), by omega⟩ (by simp only []; omega) (by simp only []; omega),
    ext_gate m c t _ ⟨2 + (512 * (t.val % 8) + r.val), by omega⟩ (by simp only []; omega) (by simp only []; omega)]
  refine (add_assoc _ _ _).trans ((add_assoc _ _ _).trans (Eq.trans (Ideal.add_congr ?_ ?_) (congrArg _ (add_assoc _ _ _).symm)))
  · blk_point [iblk, V, idx_val t]
  · exact Ideal.add_congr (Ideal.mul_congr (by blk_point [iblk, V, idx_val t]) rfl)
      (Ideal.add_congr (Ideal.mul_congr (by blk_point [iblk, V, idx_val t]) rfl) (Ideal.mul_congr (by blk_point [iblk, V, idx_val t]) rfl))

/-- The gated product. -/
theorem y_at (c : Dev nD) (t : Fin cfg0.N) (r : Fin 512) (l : Fin 1024) :
    k0_pay3 (F := Ideal) (k0_pay4 (grid0.coords t) (iblk m c 1 t) (iblk m c 0 t))
      (k0_pay7 (grid0.coords t) (iblk m c 1 t) (iblk m c 0 t) (iblk m c 2 t) (iblk m c 4 t) (iblk m c 6 t))
      (k0_pay8 (grid0.coords t) (iblk m c 1 t) (iblk m c 0 t) (iblk m c 2 t) (iblk m c 4 t) (iblk m c 6 t))
      (k0_pay9 (grid0.coords t) (iblk m c 1 t) (iblk m c 0 t) (iblk m c 2 t) (iblk m c 4 t) (iblk m c 6 t))
      (iblk m c 3 t) (iblk m c 5 t) (iblk m c 7 t) (ix2 r l)
    = UpRefIdeal.Read.val_main_v47 (F := Ideal) (m ((c : Thread nD τ).loc main_arg0)) (m ((c : Thread nD τ).loc main_arg1)) (m ((c : Thread nD τ).loc main_arg2)) (m ((c : Thread nD τ).loc main_arg3))
        (ix2 ⟨512 * (t.val % 8) + r.val, by omega⟩ ⟨t.val / 8 * 1024 + l.val, by have := lt_points t; omega⟩) := by
  pointwise [k0_pay3, k0_pay8, k0_pay9, UpRefIdeal.Read.val_main_v47, UpRefIdeal.Read.val_main_v46, UpRefIdeal.Read.val_main_v45, UpRefIdeal.Read.val_main_v44, UpRefIdeal.Read.val_main_v43, UpRefIdeal.Read.val_main_v42, UpRefIdeal.Read.val_main_v41, UpRefIdeal.Read.val_main_v40, UpRefIdeal.Read.val_main_v39, UpRefIdeal.Read.val_main_v38, UpRefIdeal.Read.val_main_v37, UpRefIdeal.Read.val_main_v36, UpRefIdeal.Read.val_main_v35, UpRefIdeal.Read.val_main_v34, UpRefIdeal.Read.val_main_v33, UpRefIdeal.Read.val_main_cst_1, UpRefIdeal.Read.val_main_cst_2, UpRefIdeal.Read.val_main_cst_3, UpRefIdeal.Read.val_main_cst_4]
  simp only [gate_at]
  refine Ideal.mul_congr ?_ ?_
  · exact (congrArg (· * _) (mul_comm _ _)).trans (mul_assoc _ _ _)
  · pointwise [UpRefIdeal.Read.val_main_v32, UpRefIdeal.Read.val_main_v30, UpRefIdeal.Read.val_main_v29, UpRefIdeal.Read.val_main_v28, UpRefIdeal.Read.val_main_v27, UpRefIdeal.Read.val_main_v26, UpRefIdeal.Read.val_main_v25, UpRefIdeal.Read.val_main_v24, UpRefIdeal.Read.val_main_v23, UpRefIdeal.Read.val_main_v22, UpRefIdeal.Read.val_main_v21, UpRefIdeal.Read.val_main_v20, UpRefIdeal.Read.val_main_v19, UpRefIdeal.Read.val_main_v18, UpRefIdeal.Read.val_main_v17, UpRefIdeal.Read.val_main_v16, UpRefIdeal.Read.val_main_v15, UpRefIdeal.Read.val_main_v14, UpRefIdeal.Read.val_main_v13, UpRefIdeal.Read.val_main_v12, UpRefIdeal.Read.val_main_v11, UpRefIdeal.Read.val_main_v10, UpRefIdeal.Read.val_main_v9, UpRefIdeal.Read.val_main_v8, UpRefIdeal.Read.val_main_v7, UpRefIdeal.Read.val_main_v6, UpRefIdeal.Read.val_main_cst_0]
    rw [rot_two, rot_one,
      ext_val m c t _ ⟨512 * (t.val % 8) + r.val, by omega⟩ (by simp only []; omega) (by simp only []; omega),
      ext_val m c t _ ⟨1 + (512 * (t.val % 8) + r.val), by omega⟩ (by simp only []; omega) (by simp only []; omega),
      ext_val m c t _ ⟨2 + (512 * (t.val % 8) + r.val), by omega⟩ (by simp only []; omega) (by simp only []; omega)]
    refine (add_assoc _ _ _).trans ((add_assoc _ _ _).trans (Eq.trans (Ideal.add_congr ?_ ?_) (congrArg _ (add_assoc _ _ _).symm)))
    · blk_point [iblk, V, idx_val t]
    · exact Ideal.add_congr (Ideal.mul_congr (by blk_point [iblk, V, idx_val t]) rfl)
        (Ideal.add_congr (Ideal.mul_congr (by blk_point [iblk, V, idx_val t]) rfl) (Ideal.mul_congr (by blk_point [iblk, V, idx_val t]) rfl))

/-- Below its two rows of zeros the reference's padded product is the product. -/
theorem pad_at (x0 : FVec Ideal S4096x1024 .bf16) (x1 : FVec Ideal S1024x8192 .f32) (n : Fin 4096) (k : Fin 8192) :
    UpRefIdeal.Read.val_main_v5 (F := Ideal) x0 x1 (ix2 ⟨2 + n.val, by omega⟩ k) = UpRefIdeal.Read.val_main_v1 (F := Ideal) x0 x1 (ix2 n k) := by
  pointwise [UpRefIdeal.Read.val_main_v5]

/-- The gate's half of the product. -/
theorem ug_at (c : Dev nD) (t : Fin cfg0.N) (r : Fin 512) (l : Fin 1024) :
    k0_pay6 (F := Ideal) (grid0.coords t) (iblk m c 1 t) (iblk m c 0 t) (iblk m c 2 t) (ix2 r l)
    = UpRefIdeal.Read.val_main_v2 (F := Ideal) (m ((c : Thread nD τ).loc main_arg0)) (m ((c : Thread nD τ).loc main_arg1))
        (ix2 ⟨512 * (t.val % 8) + r.val, by omega⟩ ⟨t.val / 8 * 1024 + l.val, by have := lt_points t; omega⟩) := by
  pointwise [k0_pay6, UpRefIdeal.Read.val_main_v2]
  exact (ext_gate m c t _ ⟨2 + (512 * (t.val % 8) + r.val), by omega⟩ (by simp only []; omega) (by simp only []; omega) l).trans
    (pad_at _ _ ⟨512 * (t.val % 8) + r.val, by omega⟩ _)

/-- The value's half of the product. -/
theorem uv_at (c : Dev nD) (t : Fin cfg0.N) (r : Fin 512) (l : Fin 1024) :
    k0_pay2 (F := Ideal) (k0_pay4 (grid0.coords t) (iblk m c 1 t) (iblk m c 0 t)) (iblk m c 3 t) (ix2 r l)
    = UpRefIdeal.Read.val_main_v3 (F := Ideal) (m ((c : Thread nD τ).loc main_arg0)) (m ((c : Thread nD τ).loc main_arg1))
        (ix2 ⟨512 * (t.val % 8) + r.val, by omega⟩ ⟨t.val / 8 * 1024 + l.val, by have := lt_points t; omega⟩) := by
  pointwise [k0_pay2, UpRefIdeal.Read.val_main_v3]
  exact (ext_val m c t _ ⟨2 + (512 * (t.val % 8) + r.val), by omega⟩ (by simp only []; omega) (by simp only []; omega) l).trans
    (pad_at _ _ ⟨512 * (t.val % 8) + r.val, by omega⟩ _)

/-- The array `ug` after the run. -/
theorem final_ug (c : Dev nD) : (Gen.dats m 0 c).arrAt 8 (cfgs 0).N
    = UpRefIdeal.Read.val_main_v2 (F := Ideal) (m ((c : Thread nD τ).loc main_arg0)) (m ((c : Thread nD τ).loc main_arg1)) := by
  refine (Gen.dats m 0 c).arrAt_eq_of_covers 8 _ (by decide +kernel) fun t hf y => ?_
  blk_simp
  rw [after0_8]
  frame_out
  refine Eq.trans (congrArg _ (eq_ix2 y)) ((ug_at m c t (y 0) (y 1)).trans ?_)
  blk_point [iblk, V, idx_val t]

/-- The array `uv` after the run. -/
theorem final_uv (c : Dev nD) : (Gen.dats m 0 c).arrAt 9 (cfgs 0).N
    = UpRefIdeal.Read.val_main_v3 (F := Ideal) (m ((c : Thread nD τ).loc main_arg0)) (m ((c : Thread nD τ).loc main_arg1)) := by
  refine (Gen.dats m 0 c).arrAt_eq_of_covers 9 _ (by decide +kernel) fun t hf y => ?_
  blk_simp
  rw [after0_9]
  frame_out [k0_pay10]
  refine Eq.trans (congrArg _ (eq_ix2 y)) ((uv_at m c t (y 0) (y 1)).trans ?_)
  blk_point [iblk, V, idx_val t]

/-- The array `y` after the run. -/
theorem final_y (c : Dev nD) : (Gen.dats m 0 c).arrAt 10 (cfgs 0).N
    = UpRefIdeal.Read.val_main_v47 (F := Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 10 _ (by decide +kernel) fun t hf y => ?_
  blk_simp
  rw [after0_10]
  frame_out [k0_pay10]
  refine Eq.trans (congrArg _ (eq_ix2 y)) ((y_at m c t (y 0) (y 1)).trans ?_)
  blk_point [iblk, V, idx_val t]

/-- The kernel's three results and the reference's are equal. -/
theorem algebraic : Cert.algebraic_UpIdeal_UpRefIdeal (hUpIdeal := UpIdeal.Gen.facts) (hUpRefIdeal := UpRefIdeal.Gen.facts) := by
  pair_intro
  · run_from UpIdeal.Value.run_blocks m g
  · run_from UpRefIdeal.Value.run m' g'
    · exact (final_ug m c).symm
    · exact (final_uv m c).symm
    · refine Eq.trans ?_ (final_y m c).symm
      rw [← (hagree c).1, ← (hagree c).2.1, ← (hagree c).2.2.1, ← (hagree c).2.2.2]
      rfl

end Cert.UpValue

end
-- ==== Proof.UpDwValue.lean ====
/- The gradient of the up projection's weights, one block per destination: the kernel runs through the gate half of
   the cotangent for the first four blocks and through the value half for the last four, adding two partial products
   over blocks of 2048 rows; the reference contracts all rows at once and cuts the result into blocks. -/
module

public import proofs.«01_k».proof.Defs
public import proofs.«01_k».proof.Proof.Gen.UpDwIdeal
public import proofs.«01_k».proof.Proof.Gen.UpDwRefIdeal
public import proofs.«01_k».proof.Proof.Gen.UpDwIdeal.Value
public import proofs.«01_k».proof.Proof.Gen.UpDwRefIdeal.Read
public import Idealize.ShloMosaic.Lib.Pipeline.ValueKit
public import Idealize.ShloMosaic.Lib.Claim

public section

set_option maxRecDepth 16384

noncomputable section

namespace Cert.UpDwValue

open Idealize.ShloMosaic Idealize.ShloMosaic.TcCoe Idealize.SL.Sem
open Idealize.ShloMosaic.Pipeline (Dat)
open Cert.UpDwIdeal Cert.UpDwIdeal.Gen

variable (m : (ℓ : Loc nD τ sig) → Buf (Elt Ideal) ℓ)

/-- Where each window's block lies, as a function of the grid point. -/
theorem idx_val : ∀ t : Fin cfg0.N, win0_0.index t = ![t.val % 2, 0]
    ∧ win0_1.index t = ![if t.val < 8 then t.val % 2 else 1, min (t.val / 2) 3]
    ∧ win0_2.index t = ![if 8 ≤ t.val then t.val % 2 else 0, t.val / 2 - 4]
    ∧ win0_3.index t = ![t.val / 2, 0, 0] :=
  (by decide +kernel : ∀ t : Fin grid0.N, _)

/-- In the first half the second window follows the grid. -/
theorem idx_lo (t : Fin cfg0.N) (h : t.val < 8) : win0_1.index t = ![t.val % 2, t.val / 2] := by
  rw [(idx_val t).2.1, if_pos h, Nat.min_eq_left (by omega)]

/-- In the second half the third window follows the grid. -/
theorem idx_hi (t : Fin cfg0.N) (h : 8 ≤ t.val) : win0_2.index t = ![t.val % 2, t.val / 2 - 4] := by
  rw [(idx_val t).2.2.1, if_pos h]

/-- The first partial product over the gate half. -/
theorem first_lo (x0 x1 : Vec Ideal S2048x1024 .bf16) (j : S1024x1024.Idx) :
    k0_pay2 (F := Ideal) x0 x1 j = 0 + ∑ k : Fin 2048, x0 (ix2 k (j 0)) * x1 (ix2 k (j 1)) := by
  pointwise [k0_pay2, k0_pay1]

/-- A later partial product over the gate half. -/
theorem step_lo (x0 x1 : Vec Ideal S2048x1024 .bf16) (acc : Vec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

/-- The first partial product over the value half. -/
theorem first_hi (x0 x1 : Vec Ideal S2048x1024 .bf16) (j : S1024x1024.Idx) :
    k0_pay5 (F := Ideal) x0 x1 j = 0 + ∑ k : Fin 2048, x0 (ix2 k (j 0)) * x1 (ix2 k (j 1)) := by
  pointwise [k0_pay5, k0_pay4]

/-- A later partial product over the value half. -/
theorem step_hi (x0 x1 : Vec Ideal S2048x1024 .bf16) (acc : Vec Ideal S1024x1024 .f32) (j : S1024x1024.Idx) :
    k0_pay6 (F := Ideal) x0 x1 acc j = acc j + ∑ k : Fin 2048, x0 (ix2 k (j 0)) * x1 (ix2 k (j 1)) := by
  pointwise [k0_pay6, k0_pay4]

/-- The block written back, read at an index. -/
theorem narrow_apply (x : Vec Ideal S1024x1024 .f32) (j : S1x1024x1024.Idx) :
    k0_pay7 (F := Ideal) x j = x (ix2 (j 1) (j 2)) := by
  pointwise [k0_pay7]

/-- At a block's last point the output block is what the scratch holds. -/
theorem out_eq_scratch (c : Dev nD) (t : Fin cfg0.N) (h : t.val % 2 = 1) :
    (outsAt0 m c t.val t.isLt).1 = k0_pay7 (F := Ideal) (outsAt0 m c t.val t.isLt).2 := by
  by_cases h8 : t.val < 8
  · rw [outsAt0_B m c t h8 (by omega) h (by omega) h]
    frame_out
  · rw [outsAt0_D m c t h8 (by omega) h (by omega) h]
    frame_out

/-- The part of the contraction that one grid point adds, over the whole arrays. -/
def part (h : Vec Ideal UpDwRefIdeal.S4096x1024 .bf16) (g v : Vec Ideal UpDwRefIdeal.S4096x4096 .bf16)
    (t : Fin cfg0.N) (j : S1024x1024.Idx) : EReal :=
  ∑ k : Fin 2048, h (ix2 ⟨t.val % 2 * 2048 + k.val, by omega⟩ (j 0))
    * (UpDwRefIdeal.Read.val_main_v0 (F := Ideal) g v)
        (ix2 ⟨t.val % 2 * 2048 + k.val, by omega⟩ ⟨t.val / 2 * 1024 + (j 1).val, by
          have := lt_of_lt_of_eq t.isLt (show cfg0.N = 16 from N_0); have h1 : (j 1).val < 1024 := (j 1).isLt; omega⟩)

/-- In the first half a point's part is over the gate half of the cotangent. -/
theorem part_lo (c : Dev nD) (t : Fin cfg0.N) (h8 : t.val < 8) (j : S1024x1024.Idx) :
    (∑ k : Fin 2048, (show Vec Ideal S2048x1024 .bf16 from iblk m c 0 t) (ix2 k (j 0))
      * (show Vec Ideal S2048x1024 .bf16 from iblk m c 1 t) (ix2 k (j 1)) : EReal)
    = part (m ((c : Thread nD τ).loc main_arg0)) (m ((c : Thread nD τ).loc main_arg1)) (m ((c : Thread nD τ).loc main_arg2)) t j := by
  have h1 : (j 1).val < 1024 := (j 1).isLt
  unfold part
  have h2 : t.val / 2 * 1024 + (j 1).val < 4096 := by omega
  pointwise [UpDwRefIdeal.Read.val_main_v0]
  simp only [dif_pos h2]
  blk_point [iblk, V, (idx_val t).1, idx_lo t h8]

/-- In the second half it is over the value half. -/
theorem part_hi (c : Dev nD) (t : Fin cfg0.N) (h8 : 8 ≤ t.val) (j : S1024x1024.Idx) :
    (∑ k : Fin 2048, (show Vec Ideal S2048x1024 .bf16 from iblk m c 0 t) (ix2 k (j 0))
      * (show Vec Ideal S2048x1024 .bf16 from iblk m c 2 t) (ix2 k (j 1)) : EReal)
    = part (m ((c : Thread nD τ).loc main_arg0)) (m ((c : Thread nD τ).loc main_arg1)) (m ((c : Thread nD τ).loc main_arg2)) t j := by
  have h1 : (j 1).val < 1024 := (j 1).isLt
  unfold part
  have h2 : ¬ t.val / 2 * 1024 + (j 1).val < 4096 := by omega
  pointwise [UpDwRefIdeal.Read.val_main_v0]
  simp only [dif_neg h2]
  blk_point [iblk, V, (idx_val t).1, idx_hi t h8]

/-- The array after the run is the reference's product, cut into blocks. -/
theorem final (c : Dev nD) : (Gen.dats m 0 c).arrAt 3 (cfgs 0).N
    = UpDwRefIdeal.Read.val_main_v9 (F := Ideal) (m ((c : Thread nD τ).loc main_arg0)) (m ((c : Thread nD τ).loc main_arg1)) (m ((c : Thread nD τ).loc main_arg2)) := by
  refine (Gen.dats m 0 c).arrAt_eq_of_covers 3 _ (by decide +kernel) fun t hf y => ?_
  blk_simp
  have h3 := (flush0_3 t).mp hf
  rw [after0_3, out_eq_scratch m c t h3, narrow_apply,
    Pipeline.eq_sum_fin_of_reset_step_apply_of_flush (fun n h => (outsAt0 m c n h).2) 2 (fun _ => 0)
    (part (m ((c : Thread nD τ).loc main_arg0)) (m ((c : Thread nD τ).loc main_arg1)) (m ((c : Thread nD τ).loc main_arg2)))
    (fun t h j => by
      by_cases h8 : t.val < 8
      · rw [outsAt0_A m c t h8 h (by omega) (by omega) (by omega), ← part_lo m c t h8 j]; frame_out; rw [first_lo]
      · rw [outsAt0_C m c t h8 (by omega) (by omega) h (by omega), ← part_hi m c t (by omega) j]; frame_out; rw [first_hi])
    (fun t h j => by
      by_cases h8 : t.val < 8
      · rw [outsAt0_B m c t h8 h (by omega) (by omega) (by omega), ← part_lo m c t h8 j]; frame_out; rw [step_lo]; exact congrArg (· + _) (congrFun (Memref.IsWhole.read_unread _ _) j)
      · rw [outsAt0_D m c t h8 (by omega) (by omega) h (by omega), ← part_hi m c t (by omega) j]; frame_out; rw [step_hi]; exact congrArg (· + _) (congrFun (Memref.IsWhole.read_unread _ _) j))
    t h3 _, zero_add]
  unfold part
  pointwise [UpDwRefIdeal.Read.val_main_v9, UpDwRefIdeal.Read.val_main_v8, UpDwRefIdeal.Read.val_main_v7, UpDwRefIdeal.Read.val_main_v6,
    UpDwRefIdeal.Read.val_main_v5, UpDwRefIdeal.Read.val_main_v3, UpDwRefIdeal.Read.val_main_v1]
  refine Fin.sum_mul_add_congr fun s k hl => (EReal.mul_comm _ _).trans ?_
  blk_point [idx_val t]

/-- The kernel's blocks and the reference's are equal. -/
theorem algebraic : Cert.algebraic_UpDwIdeal_UpDwRefIdeal (hUpDwIdeal := UpDwIdeal.Gen.facts) (hUpDwRefIdeal := UpDwRefIdeal.Gen.facts) := by
  pair_intro
  · run_from UpDwIdeal.Value.run_blocks m g
  · run_from UpDwRefIdeal.Value.run m' g'
    refine Eq.trans ?_ (final m c).symm
    rw [← (hagree c).2.1, ← (hagree c).2.2]
    rfl

end Cert.UpDwValue

end
-- ==== Proof.DownValue.lean ====
/- The product of the gated activations with the down projection: the kernel adds four partial products over
   blocks of 1024 of the inner dimension in a scratch buffer; the reference contracts the inner dimension at once. -/
module

public import proofs.«01_k».proof.Defs
public import proofs.«01_k».proof.Proof.Gen.DownIdeal
public import proofs.«01_k».proof.Proof.Gen.DownRefIdeal
public import proofs.«01_k».proof.Proof.Gen.DownIdeal.Value
public import proofs.«01_k».proof.Proof.Gen.DownRefIdeal.Read
public import Idealize.ShloMosaic.Lib.Pipeline.ValueKit
public import Idealize.ShloMosaic.Lib.Claim

public section

set_option maxRecDepth 16384

noncomputable section

namespace Cert.DownValue

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- Where each window's block lies, as a function of the grid point. -/
theorem idx_val : ∀ t : Fin cfg0.N, win0_0.index t = ![t.val / 4, t.val % 4]
    ∧ win0_1.index t = ![t.val % 4, 0] ∧ win0_2.index t = ![t.val / 4, 0] :=
  (by decide +kernel : ∀ t : Fin grid0.N, _)

/-- The first partial product of a row block. -/
theorem first_apply (x0 : Vec Ideal S2048x1024 .bf16) (x1 : Vec Ideal S1024x1024 .bf16) (j : S2048x1024.Idx) :
    k0_pay2 (F := Ideal) x0 x1 j = 0 + ∑ k : Fin 1024, x0 (ix2 (j 0) k) * x1 (ix2 k (j 1)) := by
  pointwise [k0_pay2, k0_pay1]

/-- A later partial product is added to what the scratch holds. -/
theorem step_apply (x0 : Vec Ideal S2048x1024 .bf16) (x1 : Vec Ideal S1024x1024 .bf16) (acc : Vec Ideal S2048x1024 .f32)
    (j : S2048x1024.Idx) :
    k0_pay3 (F := Ideal) x0 x1 acc j = acc j + ∑ k : Fin 1024, x0 (ix2 (j 0) k) * x1 (ix2 k (j 1)) := by
  pointwise [k0_pay3, k0_pay1]

/-- At a row block's last point the output block is what the scratch holds. -/
theorem out_eq_scratch (c : Dev nD) (t : Fin cfg0.N) (h : t.val % 4 = 3) :
    (outsAt0 m c t.val t.isLt).1 = (outsAt0 m c t.val t.isLt).2 := by
  rw [outsAt0_C m c t (by omega) (by omega) h]
  frame_out

/-- The array after the run is the reference's product. -/
theorem final (c : Dev nD) : (Gen.dats m 0 c).arrAt 2 (cfgs 0).N
    = DownRefIdeal.Read.val_main_v1 (F := Ideal) (m ((c : Thread nD τ).loc main_arg0)) (m ((c : Thread nD τ).loc main_arg1)) := by
  refine (Gen.dats m 0 c).arrAt_eq_of_covers 2 _ (by decide +kernel) fun t hf y => ?_
  blk_simp
  have h3 := (flush0_2 t).mp hf
  rw [after0_2, out_eq_scratch m c t h3,
    Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h' : t.val % 4 = 3
      · rw [outsAt0_C m c t h (by omega) h']; frame_out; rw [step_apply]; exact congrArg (· + _) (congrFun (Memref.IsWhole.read_unread _ _) j)
      · rw [outsAt0_B m c t h (by omega) h']; frame_out; rw [step_apply]; exact congrArg (· + _) (congrFun (Memref.IsWhole.read_unread _ _) j))
    t h3 _, zero_add]
  pointwise [DownRefIdeal.Read.val_main_v1, DownRefIdeal.Read.val_main_v0]
  refine Fin.sum_mul_add_congr fun s k hl => ?_
  blk_point [iblk, V, idx_val t, idx_val ⟨_, Pipeline.run_point_lt_of_flush t h3 s⟩]

/-- The kernel's product and the reference's are equal. -/
theorem algebraic : Cert.algebraic_DownIdeal_DownRefIdeal (hDownIdeal := DownIdeal.Gen.facts) (hDownRefIdeal := DownRefIdeal.Gen.facts) := by
  pair_intro
  · run_from DownIdeal.Value.run_blocks m g
  · run_from DownRefIdeal.Value.run m' g'
    exact (final m c).symm

end Cert.DownValue

end
-- ==== Proof.DownDwValue.lean ====
/- The gradient of the down projection's weights, the product of the activations transposed with the output's
   cotangent: the kernel adds four partial products over blocks of 1024 rows in a scratch buffer; the reference
   contracts all rows at once. -/
module

public import proofs.«01_k».proof.Defs
public import proofs.«01_k».proof.Proof.Gen.DownDwIdeal
public import proofs.«01_k».proof.Proof.Gen.DownDwRefIdeal
public import proofs.«01_k».proof.Proof.Gen.DownDwIdeal.Value
public import proofs.«01_k».proof.Proof.Gen.DownDwRefIdeal.Read
public import Idealize.ShloMosaic.Lib.Pipeline.ValueKit
public import Idealize.ShloMosaic.Lib.Claim

public section

set_option maxRecDepth 16384

noncomputable section

namespace Cert.DownDwValue

open Idealize.ShloMosaic Idealize.ShloMosaic.TcCoe Idealize.SL.Sem
open Idealize.ShloMosaic.Pipeline (Dat)
open Cert.DownDwIdeal Cert.DownDwIdeal.Gen

variable (m : (ℓ : Loc nD τ sig) → Buf (Elt Ideal) ℓ)

/-- Where each window's block lies, as a function of the grid point. -/
theorem idx_val : ∀ t : Fin cfg0.N, win0_0.index t = ![t.val % 4, t.val / 4]
    ∧ win0_1.index t = ![t.val % 4, 0] ∧ win0_2.index t = ![t.val / 4, 0] :=
  (by decide +kernel : ∀ t : Fin grid0.N, _)

/-- The first partial product of a row block. -/
theorem first_apply (x0 : Vec Ideal S1024x2048 .bf16) (x1 : Vec Ideal S1024x1024 .bf16) (j : S2048x1024.Idx) :
    k0_pay2 (F := Ideal) x0 x1 j = 0 + ∑ k : Fin 1024, x0 (ix2 k (j 0)) * x1 (ix2 k (j 1)) := by
  pointwise [k0_pay2, k0_pay1]

/-- A later partial product is added to what the scratch holds. -/
theorem step_apply (x0 : Vec Ideal S1024x2048 .bf16) (x1 : Vec Ideal S1024x1024 .bf16) (acc : Vec Ideal S2048x1024 .f32)
    (j : S2048x1024.Idx) :
    k0_pay3 (F := Ideal) x0 x1 acc j = acc j + ∑ k : Fin 1024, x0 (ix2 k (j 0)) * x1 (ix2 k (j 1)) := by
  pointwise [k0_pay3, k0_pay1]

/-- Rounding the sum to sixteen bits changes nothing here. -/
theorem narrow_apply (x : Vec Ideal S2048x1024 .f32) (j : S2048x1024.Idx) : k0_pay4 (F := Ideal) x j = x j := by
  pointwise [k0_pay4]

/-- At a row block's last point the output block is what the scratch holds. -/
theorem out_eq_scratch (c : Dev nD) (t : Fin cfg0.N) (h : t.val % 4 = 3) :
    (outsAt0 m c t.val t.isLt).1 = k0_pay4 (F := Ideal) (outsAt0 m c t.val t.isLt).2 := by
  rw [outsAt0_C m c t (by omega) (by omega) h]
  frame_out

/-- The array after the run is the reference's product. -/
theorem final (c : Dev nD) : (Gen.dats m 0 c).arrAt 2 (cfgs 0).N
    = DownDwRefIdeal.Read.val_main_v6 (F := Ideal) (m ((c : Thread nD τ).loc main_arg0)) (m ((c : Thread nD τ).loc main_arg1)) := by
  refine (Gen.dats m 0 c).arrAt_eq_of_covers 2 _ (by decide +kernel) fun t hf y => ?_
  blk_simp
  have h3 := (flush0_2 t).mp hf
  rw [after0_2, out_eq_scratch m c t h3, narrow_apply,
    Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h' : t.val % 4 = 3
      · rw [outsAt0_C m c t h (by omega) h']; frame_out; rw [step_apply]; exact congrArg (· + _) (congrFun (Memref.IsWhole.read_unread _ _) j)
      · rw [outsAt0_B m c t h (by omega) h']; frame_out; rw [step_apply]; exact congrArg (· + _) (congrFun (Memref.IsWhole.read_unread _ _) j))
    t h3 _, zero_add]
  pointwise [DownDwRefIdeal.Read.val_main_v6, DownDwRefIdeal.Read.val_main_v5, DownDwRefIdeal.Read.val_main_v4,
    DownDwRefIdeal.Read.val_main_v3, DownDwRefIdeal.Read.val_main_v1]
  refine Fin.sum_mul_add_congr fun s k hl => (EReal.mul_comm _ _).trans ?_
  blk_point [iblk, V, idx_val t, idx_val ⟨_, Pipeline.run_point_lt_of_flush t h3 s⟩]

/-- The kernel's product and the reference's are equal. -/
theorem algebraic : Cert.algebraic_DownDwIdeal_DownDwRefIdeal (hDownDwIdeal := DownDwIdeal.Gen.facts) (hDownDwRefIdeal := DownDwRefIdeal.Gen.facts) := by
  pair_intro
  · run_from DownDwIdeal.Value.run_blocks m g
  · run_from DownDwRefIdeal.Value.run m' g'
    exact (final m c).symm

end Cert.DownDwValue

end
-- ==== Proof.SumValue.lean ====
/- The sum of the eight blocks of convolution-gradient parts: the kernel adds eight slabs of eight rows one after
   the other, the reference sums over the leading axis of the reshaped array.  The two agree at every index. -/
module

public import proofs.«01_k».proof.Defs
public import proofs.«01_k».proof.Proof.Gen.SumIdeal
public import proofs.«01_k».proof.Proof.Gen.SumRefIdeal
public import proofs.«01_k».proof.Proof.Gen.SumIdeal.Value
public import proofs.«01_k».proof.Proof.Gen.SumRefIdeal.Read
public import Idealize.ShloMosaic.Lib.Pipeline.ValueKit
public import Idealize.ShloMosaic.Lib.Claim

public section

set_option maxRecDepth 16384

noncomputable section

namespace Cert.SumValue

open Idealize.ShloMosaic Idealize.ShloMosaic.TcCoe Idealize.SL.Sem

/-- The two results are one function of the argument. -/
theorem result_eq (x : Vec Ideal SumIdeal.S64x4096 .f32) :
    SumRefIdeal.Read.val_main_v1 (F := Ideal) x = SumIdeal.Value.G1 (F := Ideal) x := by
  funext i
  pointwise [SumRefIdeal.Read.val_main_v1, SumRefIdeal.Read.val_main_v0, SumRefIdeal.Read.val_main_cst,
    SumIdeal.Gen.k0_pay1]
  rw [Fin.sum_univ_eight]
  blk_point []

/-- The kernel's sum of parts and the reference's are equal. -/
theorem algebraic : Cert.algebraic_SumIdeal_SumRefIdeal (hSumIdeal := SumIdeal.Gen.facts) (hSumRefIdeal := SumRefIdeal.Gen.facts) := by
  pair_intro
  · run_from SumIdeal.Value.run m g
  · run_from SumRefIdeal.Value.run m' g'
    exact result_eq _

end Cert.SumValue

end
-- ==== Proof.ProjDxValue.lean ====
/- The gradient at the input projection's input: the kernel adds two partial products over blocks of 1280 columns in a
   scratch buffer; the reference contracts all columns at once. -/
module

public import proofs.«01_k».proof.Defs
public import proofs.«01_k».proof.Proof.Gen.ProjDxIdeal
public import proofs.«01_k».proof.Proof.Gen.ProjDxRefIdeal
public import proofs.«01_k».proof.Proof.Gen.ProjDxIdeal.Value
public import proofs.«01_k».proof.Proof.Gen.ProjDxRefIdeal.Read
public import Idealize.ShloMosaic.Lib.Pipeline.ValueKit
public import Idealize.ShloMosaic.Lib.Claim

public section

set_option maxRecDepth 16384

noncomputable section

namespace Cert.ProjDxValue

open Idealize.ShloMosaic Idealize.ShloMosaic.TcCoe Idealize.SL.Sem
open Idealize.ShloMosaic.Pipeline (Dat)
open Cert.ProjDxIdeal Cert.ProjDxIdeal.Gen

variable (m : (ℓ : Loc nD τ sig) → Buf (Elt Ideal) ℓ)

/-- Where each window's block lies, as a function of the grid point. -/
theorem idx_val : ∀ t : Fin cfg0.N, win0_0.index t = ![t.val / 2, t.val % 2]
    ∧ win0_1.index t = ![t.val % 2, 0] ∧ win0_2.index t = ![t.val / 2, 0] :=
  (by decide +kernel : ∀ t : Fin grid0.N, _)

/-- The first partial product of a row block. -/
theorem first_apply (x0 : Vec Ideal S2048x1280 .bf16) (x1 : Vec Ideal S1280x1024 .bf16) (j : S2048x1024.Idx) :
    k0_pay2 (F := Ideal) x0 x1 j = 0 + ∑ k : Fin 1280, x0 (ix2 (j 0) k) * x1 (ix2 k (j 1)) := by
  pointwise [k0_pay2, k0_pay1]

/-- A later partial product is added to what the scratch holds. -/
theorem step_apply (x0 : Vec Ideal S2048x1280 .bf16) (x1 : Vec Ideal S1280x1024 .bf16) (acc : Vec Ideal S2048x1024 .f32)
    (j : S2048x1024.Idx) :
    k0_pay3 (F := Ideal) x0 x1 acc j = acc j + ∑ k : Fin 1280, x0 (ix2 (j 0) k) * x1 (ix2 k (j 1)) := by
  pointwise [k0_pay3, k0_pay1]

/-- At a row block's last point the output block is what the scratch holds. -/
theorem out_eq_scratch (c : Dev nD) (t : Fin cfg0.N) (h : t.val % 2 = 1) :
    (outsAt0 m c t.val t.isLt).1 = (outsAt0 m c t.val t.isLt).2 := by
  rw [outsAt0_B m c t (by omega) h h]
  frame_out

/-- The array after the run is the reference's product. -/
theorem final (c : Dev nD) : (Gen.dats m 0 c).arrAt 2 (cfgs 0).N
    = ProjDxRefIdeal.Read.val_main_v3 (F := Ideal) (m ((c : Thread nD τ).loc main_arg0)) (m ((c : Thread nD τ).loc main_arg1)) := by
  refine (Gen.dats m 0 c).arrAt_eq_of_covers 2 _ (by decide +kernel) fun t hf y => ?_
  blk_simp
  have h3 := (flush0_2 t).mp hf
  rw [after0_2, out_eq_scratch m c t h3,
    Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [step_apply]; exact congrArg (· + _) (congrFun (Memref.IsWhole.read_unread _ _) j))
    t h3 _, zero_add]
  pointwise [ProjDxRefIdeal.Read.val_main_v3, ProjDxRefIdeal.Read.val_main_v2]
  refine Fin.sum_mul_add_congr fun s k hl => ?_
  blk_point [iblk, V, idx_val t, idx_val ⟨_, Pipeline.run_point_lt_of_flush t h3 s⟩]

/-- The kernel's product and the reference's are equal. -/
theorem algebraic : Cert.algebraic_ProjDxIdeal_ProjDxRefIdeal (hProjDxIdeal := ProjDxIdeal.Gen.facts) (hProjDxRefIdeal := ProjDxRefIdeal.Gen.facts) := by
  pair_intro
  · run_from ProjDxIdeal.Value.run_blocks m g
  · run_from ProjDxRefIdeal.Value.run m' g'
    exact (final m c).symm

end Cert.ProjDxValue

end
-- ==== Proof.ProjDwValue.lean ====
/- The gradient of the input projection's weights, as the version holds them: the kernel adds four partial products over
   blocks of 1024 rows in a scratch buffer; the reference contracts all rows at once. -/
module

public import proofs.«01_k».proof.Defs
public import proofs.«01_k».proof.Proof.Gen.ProjDwIdeal
public import proofs.«01_k».proof.Proof.Gen.ProjDwRefIdeal
public import proofs.«01_k».proof.Proof.Gen.ProjDwIdeal.Value
public import proofs.«01_k».proof.Proof.Gen.ProjDwRefIdeal.Read
public import Idealize.ShloMosaic.Lib.Pipeline.ValueKit
public import Idealize.ShloMosaic.Lib.Claim

public section

set_option maxRecDepth 16384

noncomputable section

namespace Cert.ProjDwValue

open Idealize.ShloMosaic Idealize.ShloMosaic.TcCoe Idealize.SL.Sem
open Idealize.ShloMosaic.Pipeline (Dat)
open Cert.ProjDwIdeal Cert.ProjDwIdeal.Gen

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val % 4, 0]
    ∧ win0_1.index t = ![t.val % 4, 0] ∧ win0_2.index t = ![0, 0] :=
  (by decide +kernel : ∀ t : Fin grid0.N, _)

/-- The first partial product of a row block. -/
theorem first_apply (x0 : Vec Ideal S1024x2560 .bf16) (x1 : Vec Ideal S1024x1024 .bf16) (j : S2560x1024.Idx) :
    k0_pay2 (F := Ideal) x0 x1 j = 0 + ∑ k : Fin 1024, x0 (ix2 k (j 0)) * x1 (ix2 k (j 1)) := by
  pointwise [k0_pay2, k0_pay1]

/-- A later partial product is added to what the scratch holds. -/
theorem step_apply (x0 : Vec Ideal S1024x2560 .bf16) (x1 : Vec Ideal S1024x1024 .bf16) (acc : Vec Ideal S2560x1024 .f32)
    (j : S2560x1024.Idx) :
    k0_pay3 (F := Ideal) x0 x1 acc j = acc j + ∑ k : Fin 1024, x0 (ix2 k (j 0)) * x1 (ix2 k (j 1)) := by
  pointwise [k0_pay3, k0_pay1]

/-- Rounding the sum to sixteen bits changes nothing here. -/
theorem narrow_apply (x : Vec Ideal S2560x1024 .f32) (j : S2560x1024.Idx) : k0_pay4 (F := Ideal) x j = x j := by
  pointwise [k0_pay4]

/-- At a row block's last point the output block is what the scratch holds. -/
theorem out_eq_scratch (c : Dev nD) (t : Fin cfg0.N) (h : t.val % 4 = 3) :
    (outsAt0 m c t.val t.isLt).1 = k0_pay4 (F := Ideal) (outsAt0 m c t.val t.isLt).2 := by
  have := lt_points t
  rw [outsAt0_C m c t (by omega) (by omega) h]
  frame_out

/-- The array after the run is the reference's product. -/
theorem final (c : Dev nD) : (Gen.dats m 0 c).arrAt 2 (cfgs 0).N
    = ProjDwRefIdeal.Read.val_main_v7 (F := Ideal) (m ((c : Thread nD τ).loc main_arg0)) (m ((c : Thread nD τ).loc main_arg1)) := by
  refine (Gen.dats m 0 c).arrAt_eq_of_covers 2 _ (by decide +kernel) fun t hf y => ?_
  blk_simp
  have h3 := (flush0_2 t).mp hf
  rw [after0_2, out_eq_scratch m c t h3, narrow_apply,
    Pipeline.eq_sum_fin_of_reset_step_apply_of_flush (fun n h => (outsAt0 m c n h).2) 4 (fun _ => 0) _
    (fun t h j => by have := lt_points t; rw [outsAt0_A m c t h (by omega) (by omega)]; frame_out; rw [first_apply])
    (fun t h j => by
      have := lt_points t
      by_cases h' : t.val % 4 = 3
      · rw [outsAt0_C m c t h (by omega) h']; frame_out; rw [step_apply]; exact congrArg (· + _) (congrFun (Memref.IsWhole.read_unread _ _) j)
      · rw [outsAt0_B m c t h (by omega) h']; frame_out; rw [step_apply]; exact congrArg (· + _) (congrFun (Memref.IsWhole.read_unread _ _) j))
    t h3 _, zero_add]
  pointwise [ProjDwRefIdeal.Read.val_main_v7, ProjDwRefIdeal.Read.val_main_v6, ProjDwRefIdeal.Read.val_main_v5, ProjDwRefIdeal.Read.val_main_v4,
    ProjDwRefIdeal.Read.val_main_v3, ProjDwRefIdeal.Read.val_main_v1]
  refine Fin.sum_mul_add_congr fun s k hl => ?_
  blk_point [iblk, V, idx_val t, idx_val ⟨_, Pipeline.run_point_lt_of_flush t h3 s⟩]

/-- The kernel's product and the reference's are equal. -/
theorem algebraic : Cert.algebraic_ProjDwIdeal_ProjDwRefIdeal (hProjDwIdeal := ProjDwIdeal.Gen.facts) (hProjDwRefIdeal := ProjDwRefIdeal.Gen.facts) := by
  pair_intro
  · run_from ProjDwIdeal.Value.run_blocks m g
  · run_from ProjDwRefIdeal.Value.run m' g'
    exact (final m c).symm

end Cert.ProjDwValue

end
-- ==== Proof.MixDxValue.lean ====
/- The gradient at the output projection's input: the kernel multiplies blocks of 2048 rows with the transposed weights. -/
module

public import proofs.«01_k».proof.Defs
public import proofs.«01_k».proof.Proof.Gen.MixDxIdeal
public import proofs.«01_k».proof.Proof.Gen.MixDxRefIdeal
public import proofs.«01_k».proof.Proof.Gen.MixDxIdeal.Value
public import proofs.«01_k».proof.Proof.Gen.MixDxRefIdeal.Read
public import Idealize.ShloMosaic.Lib.Pipeline.ValueKit
public import Idealize.ShloMosaic.Lib.Claim

public section

set_option maxRecDepth 16384

noncomputable section

namespace Cert.MixDxValue

open Idealize.ShloMosaic Idealize.ShloMosaic.TcCoe Idealize.SL.Sem
open Idealize.ShloMosaic.Pipeline (Dat)
open Cert.MixDxIdeal Cert.MixDxIdeal.Gen

variable (m : (ℓ : Loc nD τ sig) → Buf (Elt Ideal) ℓ)

/-- Where each window's block lies, as a function of the grid point. -/
theorem idx_val : ∀ t : Fin cfg0.N, win0_0.index t = ![t.val, 0]
    ∧ win0_1.index t = ![0, 0] ∧ win0_2.index t = ![t.val, 0] :=
  (by decide +kernel : ∀ t : Fin grid0.N, _)

/-- The product of a block of rows. -/
theorem pay_apply (x0 : Vec Ideal S2048x1024 .bf16) (x1 : Vec Ideal S1024x1024 .bf16) (j : S2048x1024.Idx) :
    k0_pay1 (F := Ideal) x0 x1 j = 0 + ∑ k : Fin 1024, x0 (ix2 (j 0) k) * x1 (ix2 (j 1) k) := by
  pointwise [k0_pay1]

/-- The array after the run is the reference's product. -/
theorem final (c : Dev nD) : (Gen.dats m 0 c).arrAt 2 (cfgs 0).N
    = MixDxRefIdeal.Read.val_main_v3 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2]
  frame_out
  rw [pay_apply]
  refine (zero_add (M := EReal) _).trans ?_
  pointwise [MixDxRefIdeal.Read.val_main_v3, MixDxRefIdeal.Read.val_main_v2]
  refine Finset.sum_congr rfl fun k _ => ?_
  blk_point [iblk, V, idx_val t]

/-- The kernel's product and the reference's are equal. -/
theorem algebraic : Cert.algebraic_MixDxIdeal_MixDxRefIdeal (hMixDxIdeal := MixDxIdeal.Gen.facts) (hMixDxRefIdeal := MixDxRefIdeal.Gen.facts) := by
  pair_intro
  · run_from MixDxIdeal.Value.run_blocks m g
  · run_from MixDxRefIdeal.Value.run m' g'
    exact (final m c).symm

end Cert.MixDxValue

end
-- ==== Proof.MixDwValue.lean ====
/- The gradient of the output projection's weights: the kernel adds four partial products over blocks of 1024 rows in a
   scratch buffer; the reference contracts all rows at once. -/
module

public import proofs.«01_k».proof.Defs
public import proofs.«01_k».proof.Proof.Gen.MixDwIdeal
public import proofs.«01_k».proof.Proof.Gen.MixDwRefIdeal
public import proofs.«01_k».proof.Proof.Gen.MixDwIdeal.Value
public import proofs.«01_k».proof.Proof.Gen.MixDwRefIdeal.Read
public import Idealize.ShloMosaic.Lib.Pipeline.ValueKit
public import Idealize.ShloMosaic.Lib.Claim

public section

set_option maxRecDepth 16384

noncomputable section

namespace Cert.MixDwValue

open Idealize.ShloMosaic Idealize.ShloMosaic.TcCoe Idealize.SL.Sem
open Idealize.ShloMosaic.Pipeline (Dat)
open Cert.MixDwIdeal Cert.MixDwIdeal.Gen

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val % 4, 0]
    ∧ win0_1.index t = ![t.val % 4, 0] ∧ win0_2.index t = ![0, 0] :=
  (by decide +kernel : ∀ t : Fin grid0.N, _)

/-- The first partial product of a row block. -/
theorem first_apply (x0 : Vec Ideal S1024x1024 .bf16) (x1 : Vec Ideal S1024x1024 .bf16) (j : S1024x1024.Idx) :
    k0_pay2 (F := Ideal) x0 x1 j = 0 + ∑ k : Fin 1024, x0 (ix2 k (j 0)) * x1 (ix2 k (j 1)) := by
  pointwise [k0_pay2, k0_pay1]

/-- A later partial product is added to what the scratch holds. -/
theorem step_apply (x0 : Vec Ideal S1024x1024 .bf16) (x1 : Vec Ideal S1024x1024 .bf16) (acc : Vec Ideal S1024x1024 .f32)
    (j : S1024x1024.Idx) :
    k0_pay3 (F := Ideal) x0 x1 acc j = acc j + ∑ k : Fin 1024, x0 (ix2 k (j 0)) * x1 (ix2 k (j 1)) := by
  pointwise [k0_pay3, k0_pay1]

/-- Rounding the sum to sixteen bits changes nothing here. -/
theorem narrow_apply (x : Vec Ideal S1024x1024 .f32) (j : S1024x1024.Idx) : k0_pay4 (F := Ideal) x j = x j := by
  pointwise [k0_pay4]

/-- At a row block's last point the output block is what the scratch holds. -/
theorem out_eq_scratch (c : Dev nD) (t : Fin cfg0.N) (h : t.val % 4 = 3) :
    (outsAt0 m c t.val t.isLt).1 = k0_pay4 (F := Ideal) (outsAt0 m c t.val t.isLt).2 := by
  have := lt_points t
  rw [outsAt0_C m c t (by omega) (by omega) h]
  frame_out

/-- The array after the run is the reference's product. -/
theorem final (c : Dev nD) : (Gen.dats m 0 c).arrAt 2 (cfgs 0).N
    = MixDwRefIdeal.Read.val_main_v6 (F := Ideal) (m ((c : Thread nD τ).loc main_arg0)) (m ((c : Thread nD τ).loc main_arg1)) := by
  refine (Gen.dats m 0 c).arrAt_eq_of_covers 2 _ (by decide +kernel) fun t hf y => ?_
  blk_simp
  have h3 := (flush0_2 t).mp hf
  rw [after0_2, out_eq_scratch m c t h3, narrow_apply,
    Pipeline.eq_sum_fin_of_reset_step_apply_of_flush (fun n h => (outsAt0 m c n h).2) 4 (fun _ => 0) _
    (fun t h j => by have := lt_points t; rw [outsAt0_A m c t h (by omega) (by omega)]; frame_out; rw [first_apply])
    (fun t h j => by
      have := lt_points t
      by_cases h' : t.val % 4 = 3
      · rw [outsAt0_C m c t h (by omega) h']; frame_out; rw [step_apply]; exact congrArg (· + _) (congrFun (Memref.IsWhole.read_unread _ _) j)
      · rw [outsAt0_B m c t h (by omega) h']; frame_out; rw [step_apply]; exact congrArg (· + _) (congrFun (Memref.IsWhole.read_unread _ _) j))
    t h3 _, zero_add]
  pointwise [MixDwRefIdeal.Read.val_main_v6, MixDwRefIdeal.Read.val_main_v5, MixDwRefIdeal.Read.val_main_v4,
    MixDwRefIdeal.Read.val_main_v3, MixDwRefIdeal.Read.val_main_v1]
  refine Fin.sum_mul_add_congr fun s k hl => (EReal.mul_comm _ _).trans ?_
  blk_point [iblk, V, idx_val t, idx_val ⟨_, Pipeline.run_point_lt_of_flush t h3 s⟩]

/-- The kernel's product and the reference's are equal. -/
theorem algebraic : Cert.algebraic_MixDwIdeal_MixDwRefIdeal (hMixDwIdeal := MixDwIdeal.Gen.facts) (hMixDwRefIdeal := MixDwRefIdeal.Gen.facts) := by
  pair_intro
  · run_from MixDwIdeal.Value.run_blocks m g
  · run_from MixDwRefIdeal.Value.run m' g'
    exact (final m c).symm

end Cert.MixDwValue

end
-- ==== Proof.ProjValue.lean ====
/- The input projection: the kernel multiplies blocks of 2048 rows with blocks of 1280 columns, the weights held transposed. -/
module

public import proofs.«01_k».proof.Defs
public import proofs.«01_k».proof.Proof.Gen.ProjIdeal
public import proofs.«01_k».proof.Proof.Gen.ProjRefIdeal
public import proofs.«01_k».proof.Proof.Gen.ProjIdeal.Value
public import proofs.«01_k».proof.Proof.Gen.ProjRefIdeal.Read
public import Idealize.ShloMosaic.Lib.Pipeline.ValueKit
public import Idealize.ShloMosaic.Lib.Claim

public section

set_option maxRecDepth 16384

noncomputable section

namespace Cert.ProjValue

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- Where each window's block lies, as a function of the grid point. -/
theorem idx_val : ∀ t : Fin cfg0.N, win0_0.index t = ![t.val / 2, 0]
    ∧ win0_1.index t = ![t.val % 2, 0] ∧ win0_2.index t = ![t.val / 2, t.val % 2] :=
  (by decide +kernel : ∀ t : Fin grid0.N, _)

/-- The product of a block of rows. -/
theorem pay_apply (x0 : Vec Ideal S2048x1024 .bf16) (x1 : Vec Ideal S1280x1024 .bf16) (j : S2048x1280.Idx) :
    k0_pay1 (F := Ideal) x0 x1 j = 0 + ∑ k : Fin 1024, x0 (ix2 (j 0) k) * x1 (ix2 (j 1) k) := by
  pointwise [k0_pay1]

/-- The array after the run is the reference's product. -/
theorem final (c : Dev nD) : (Gen.dats m 0 c).arrAt 2 (cfgs 0).N
    = ProjRefIdeal.Read.val_main_v1 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2]
  frame_out
  rw [pay_apply]
  refine (zero_add (M := EReal) _).trans ?_
  pointwise [ProjRefIdeal.Read.val_main_v1, ProjRefIdeal.Read.val_main_v0]
  refine Finset.sum_congr rfl fun k _ => ?_
  blk_point [iblk, V, idx_val t]

/-- The kernel's product and the reference's are equal. -/
theorem algebraic : Cert.algebraic_ProjIdeal_ProjRefIdeal (hProjIdeal := ProjIdeal.Gen.facts) (hProjRefIdeal := ProjRefIdeal.Gen.facts) := by
  pair_intro
  · run_from ProjIdeal.Value.run_blocks m g
  · run_from ProjRefIdeal.Value.run m' g'
    exact (final m c).symm

end Cert.ProjValue

end
-- ==== Proof.MixValue.lean ====
/- The output projection: the kernel multiplies blocks of 2048 rows with the weights. -/
module

public import proofs.«01_k».proof.Defs
public import proofs.«01_k».proof.Proof.Gen.MixIdeal
public import proofs.«01_k».proof.Proof.Gen.MixRefIdeal
public import proofs.«01_k».proof.Proof.Gen.MixIdeal.Value
public import proofs.«01_k».proof.Proof.Gen.MixRefIdeal.Read
public import Idealize.ShloMosaic.Lib.Pipeline.ValueKit
public import Idealize.ShloMosaic.Lib.Claim

public section

set_option maxRecDepth 16384

noncomputable section

namespace Cert.MixValue

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- Where each window's block lies, as a function of the grid point. -/
theorem idx_val : ∀ t : Fin cfg0.N, win0_0.index t = ![t.val, 0]
    ∧ win0_1.index t = ![0, 0] ∧ win0_2.index t = ![t.val, 0] :=
  (by decide +kernel : ∀ t : Fin grid0.N, _)

/-- The product of a block of rows. -/
theorem pay_apply (x0 : Vec Ideal S2048x1024 .bf16) (x1 : Vec Ideal S1024x1024 .bf16) (j : S2048x1024.Idx) :
    k0_pay1 (F := Ideal) x0 x1 j = 0 + ∑ k : Fin 1024, x0 (ix2 (j 0) k) * x1 (ix2 k (j 1)) := by
  pointwise [k0_pay1]

/-- The array after the run is the reference's product. -/
theorem final (c : Dev nD) : (Gen.dats m 0 c).arrAt 2 (cfgs 0).N
    = MixRefIdeal.Read.val_main_v1 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2]
  frame_out
  rw [pay_apply]
  refine (zero_add (M := EReal) _).trans ?_
  pointwise [MixRefIdeal.Read.val_main_v1, MixRefIdeal.Read.val_main_v0]
  refine Finset.sum_congr rfl fun k _ => ?_
  blk_point [iblk, V, idx_val t]

/-- The kernel's product and the reference's are equal. -/
theorem algebraic : Cert.algebraic_MixIdeal_MixRefIdeal (hMixIdeal := MixIdeal.Gen.facts) (hMixRefIdeal := MixRefIdeal.Gen.facts) := by
  pair_intro
  · run_from MixIdeal.Value.run_blocks m g
  · run_from MixRefIdeal.Value.run m' g'
    exact (final m c).symm

end Cert.MixValue

end
-- ==== Proof.NormRow.lean ====
/- One row's norm, and its gradient, as both the kernels and the references compute it. -/
module

public import Idealize.ShloMosaic.Lib.Pipeline.ValueKit

@[expose] public section

noncomputable section

namespace Cert.NormRow

open Idealize.ShloMosaic

/-- A row's mean square, with the small number added. -/
def ms (x : Fin 1024 → EReal) : EReal := Ideal.div (∑ k : Fin 1024, x k * x k) (Ideal.ofBits .f32 0x44800000#32) + Ideal.ofBits .f32 0x358637BD#32

/-- The norm at a place of the row. -/
def norm (x g : Fin 1024 → EReal) (k : Fin 1024) : EReal := x k * Ideal.rsqrt (ms x) * g k

/-- What reaches every place of the row through its mean square. -/
def through (x d g : Fin 1024 → EReal) : EReal :=
  Ideal.div ((∑ k : Fin 1024, x k * (d k * g k)) * (Ideal.ofBits .f32 0xBF000000#32 * Ideal.div (Ideal.rsqrt (ms x)) (ms x))) (Ideal.ofBits .f32 0x44800000#32)

/-- The gradient at a place of the row. -/
def grad (x d g : Fin 1024 → EReal) (k : Fin 1024) : EReal := d k * g k * Ideal.rsqrt (ms x) + x k * through x d g + through x d g * x k

/-- The row's part of the gain's gradient. -/
def gain (x d : Fin 1024 → EReal) (k : Fin 1024) : EReal := x k * Ideal.rsqrt (ms x) * d k

end Cert.NormRow

end
-- ==== Proof.PostNormValue.lean ====
/- The gradient through the norm after the feed-forward layer: the kernel takes blocks of 1024 rows, and adds their
   gradients of the gain one after another; the reference sums over all rows at once. -/
module

public import proofs.«01_k».proof.Defs
public import proofs.«01_k».proof.Proof.NormRow
public import proofs.«01_k».proof.Proof.Gen.PostNormIdeal
public import proofs.«01_k».proof.Proof.Gen.PostNormRefIdeal
public import proofs.«01_k».proof.Proof.Gen.PostNormIdeal.Value
public import proofs.«01_k».proof.Proof.Gen.PostNormRefIdeal.Read
public import Idealize.ShloMosaic.Lib.Pipeline.ValueKit
public import Idealize.ShloMosaic.Lib.Claim

public section

set_option maxRecDepth 16384

noncomputable section

namespace Cert.PostNormValue

open Idealize.ShloMosaic Idealize.ShloMosaic.TcCoe Idealize.SL.Sem
open Idealize.ShloMosaic.Pipeline (Dat)
open Cert.PostNormIdeal Cert.PostNormIdeal.Gen

section rows

/-- The kernel's mean square of a row. -/
theorem ms_kernel (v0 : Vec Ideal S1024x1024 .f32) (r : Fin 1024) : k0_pay2 (F := Ideal) v0 (ix2 r 0) = NormRow.ms (fun k => v0 (ix2 r k)) := by
  unfold NormRow.ms
  pointwise [k0_pay2]

/-- The reference's mean square of a row. -/
theorem ms_ref (x : FVec Ideal S4096x1024 .f32) (r : Fin 4096) : PostNormRefIdeal.Read.val_main_v6 (F := Ideal) x (ix2 r 0) = NormRow.ms (fun k => x (ix2 r k)) := by
  unfold NormRow.ms
  pointwise [PostNormRefIdeal.Read.val_main_v0, PostNormRefIdeal.Read.val_main_v1, PostNormRefIdeal.Read.val_main_v2, PostNormRefIdeal.Read.val_main_v3, PostNormRefIdeal.Read.val_main_v4, PostNormRefIdeal.Read.val_main_v5, PostNormRefIdeal.Read.val_main_v6, PostNormRefIdeal.Read.val_main_cst, PostNormRefIdeal.Read.val_main_cst_0, PostNormRefIdeal.Read.val_main_cst_1]

/-- The kernel's gradient at a place. -/
theorem kernel_grad (v0 v1 : Vec Ideal S1024x1024 .f32) (v2 : Vec Ideal S1x1024 .f32) (j : S1024x1024.Idx) : k0_pay5 (F := Ideal) v0 v1 v2 j
    = NormRow.grad (fun k => v0 (ix2 (j 0) k)) (fun k => v1 (ix2 (j 0) k)) (fun k => v2 (ix2 0 k)) (j 1) := by
  idx_vars j
  unfold NormRow.grad NormRow.through
  pointwise [k0_pay5, k0_pay3]
  simp only [Fin.sum_univ_one, ms_kernel]

/-- The reference's gradient at a place. -/
theorem ref_grad (x0 x1 : FVec Ideal S4096x1024 .f32) (x2 : FVec Ideal S1024 .f32) (i : S4096x1024.Idx) : PostNormRefIdeal.Read.val_main_v36 (F := Ideal) x0 x1 x2 i
    = NormRow.grad (fun k => x0 (ix2 (i 0) k)) (fun k => x1 (ix2 (i 0) k)) (fun k => x2 (ix1 k)) (i 1) := by
  idx_vars i
  unfold NormRow.grad NormRow.through
  pointwise [PostNormRefIdeal.Read.val_main_v7, PostNormRefIdeal.Read.val_main_v8, PostNormRefIdeal.Read.val_main_v9, PostNormRefIdeal.Read.val_main_v10, PostNormRefIdeal.Read.val_main_v11, PostNormRefIdeal.Read.val_main_v13, PostNormRefIdeal.Read.val_main_v14, PostNormRefIdeal.Read.val_main_v19, PostNormRefIdeal.Read.val_main_v20, PostNormRefIdeal.Read.val_main_v22, PostNormRefIdeal.Read.val_main_v23, PostNormRefIdeal.Read.val_main_v24, PostNormRefIdeal.Read.val_main_v25, PostNormRefIdeal.Read.val_main_v26, PostNormRefIdeal.Read.val_main_v27, PostNormRefIdeal.Read.val_main_v28, PostNormRefIdeal.Read.val_main_v29, PostNormRefIdeal.Read.val_main_v30, PostNormRefIdeal.Read.val_main_v31, PostNormRefIdeal.Read.val_main_v32, PostNormRefIdeal.Read.val_main_v33, PostNormRefIdeal.Read.val_main_v34, PostNormRefIdeal.Read.val_main_v35, PostNormRefIdeal.Read.val_main_v36, PostNormRefIdeal.Read.val_main_cst_2, PostNormRefIdeal.Read.val_main_cst_5, PostNormRefIdeal.Read.val_main_cst_6, PostNormRefIdeal.Read.val_main_cst_7]
  simp only [Fin.sum_univ_one, ms_ref]

/-- A block's first sum of the gain's gradient. -/
theorem first_apply (v0 v1 : Vec Ideal S1024x1024 .f32) (j : S1x1024.Idx) : k0_pay4 (F := Ideal) v0 v1 j
    = 0 + ∑ r : Fin 1024, NormRow.gain (fun k => v0 (ix2 r k)) (fun k => v1 (ix2 r k)) (j 1) := by
  unfold NormRow.gain
  pointwise [k0_pay4, k0_pay3]
  simp only [ms_kernel, zero_add]

/-- A later block's sum is added. -/
theorem step_apply (v0 v1 : Vec Ideal S1024x1024 .f32) (acc : Vec Ideal S1x1024 .f32) (j : S1x1024.Idx) : k0_pay1 (F := Ideal) (k0_pay4 (F := Ideal) v0 v1) acc j
    = acc j + ∑ r : Fin 1024, NormRow.gain (fun k => v0 (ix2 r k)) (fun k => v1 (ix2 r k)) (j 1) := by
  unfold NormRow.gain
  pointwise [k0_pay1, k0_pay4, k0_pay3]
  simp only [ms_kernel]

/-- The reference's gradient of the gain. -/
theorem ref_gain (x0 x1 : FVec Ideal S4096x1024 .f32) (i : S1x1024.Idx) : PostNormRefIdeal.Read.val_main_v37 (F := Ideal) x0 x1 i
    = ∑ r : Fin 4096, NormRow.gain (fun k => x0 (ix2 r k)) (fun k => x1 (ix2 r k)) (i 1) := by
  unfold NormRow.gain
  pointwise [PostNormRefIdeal.Read.val_main_v7, PostNormRefIdeal.Read.val_main_v11, PostNormRefIdeal.Read.val_main_v12, PostNormRefIdeal.Read.val_main_v16, PostNormRefIdeal.Read.val_main_v17, PostNormRefIdeal.Read.val_main_v18, PostNormRefIdeal.Read.val_main_v21, PostNormRefIdeal.Read.val_main_v37, PostNormRefIdeal.Read.val_main_cst_3, PostNormRefIdeal.Read.val_main_cst_4]
  simp only [Fin.sum_univ_one, ms_ref]

end rows

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- What a point leaves of the gradient. -/
theorem left3 (c : Dev nD) (t : Fin cfg0.N) : (outsAt0 m c t.val t.isLt).1 = k0_pay5 (F := Ideal) (iblk m c 0 t) (iblk m c 1 t) (iblk m c 2 t) := by
  have := lt_points t
  by_cases h : t.val % 4 = 0
  · rw [outsAt0_A m c t h (by omega)]; frame_out
  · rw [outsAt0_B m c t h (by omega)]; frame_out

/-- The gradient after the run. -/
theorem final3 (c : Dev nD) : (Gen.dats m 0 c).arrAt 3 (cfgs 0).N
    = PostNormRefIdeal.Read.val_main_v36 (F := Ideal) (m ((c : Thread nD τ).loc main_arg0)) (m ((c : Thread nD τ).loc main_arg1)) (m ((c : Thread nD τ).loc main_arg2)) := by
  refine (Gen.dats m 0 c).arrAt_eq_of_covers 3 _ (by decide +kernel) fun t hf y => ?_
  blk_simp
  rw [after0_3, left3, kernel_grad]
  have ht := lt_points t
  have hy0 : (y 0).val < 1024 := (y 0).isLt
  refine Eq.trans ?_ ((ref_grad (m ((c : Thread nD τ).loc main_arg0)) (m ((c : Thread nD τ).loc main_arg1)) (m ((c : Thread nD τ).loc main_arg2)) (ix2 ⟨1024 * t.val + (y 0).val, by omega⟩ (y 1))).symm.trans ?_)
  · refine congr (congr (congr (congrArg NormRow.grad (funext fun k => ?_)) (funext fun k => ?_)) (funext fun k => ?_)) rfl
    all_goals blk_point [iblk, V, idx_val t]
  · blk_point [iblk, V, idx_val t]

/-- The gain's gradient after the run. -/
theorem final4 (c : Dev nD) : (Gen.dats m 0 c).arrAt 4 (cfgs 0).N
    = PostNormRefIdeal.Read.val_main_v37 (F := Ideal) (m ((c : Thread nD τ).loc main_arg0)) (m ((c : Thread nD τ).loc main_arg1)) := by
  refine (Gen.dats m 0 c).arrAt_eq_of_covers 4 _ (by decide +kernel) fun t hf y => ?_
  blk_simp
  have h3 := (flush0_4 t).mp hf
  rw [after0_4,
    Pipeline.eq_sum_fin_of_reset_step_apply_of_flush (fun n h => (outsAt0 m c n h).2) 4 (fun _ => 0) _
    (fun t h j => by have := lt_points t; rw [outsAt0_A m c t h (by omega)]; frame_out; exact first_apply _ _ _)
    (fun t h j => by
      have := lt_points t
      rw [outsAt0_B m c t h (by omega)]; frame_out; rw [step_apply])
    t h3 _]
  refine (zero_add (M := EReal) _).trans (Eq.trans ?_ ((ref_gain (m ((c : Thread nD τ).loc main_arg0)) (m ((c : Thread nD τ).loc main_arg1)) (ix2 0 (y 1))).symm.trans ?_))
  · refine Fin.sum_mul_add_congr fun s r hl => ?_
    refine congr (congr (congrArg NormRow.gain (funext fun k => ?_)) (funext fun k => ?_)) rfl
    all_goals blk_point [iblk, V, idx_val t, idx_val ⟨_, Pipeline.run_point_lt_of_flush t h3 s⟩]
  · blk_point [iblk, V, idx_val t]

/-- The kernel's results and the reference's are equal. -/
theorem algebraic : Cert.algebraic_PostNormIdeal_PostNormRefIdeal (hPostNormIdeal := PostNormIdeal.Gen.facts) (hPostNormRefIdeal := PostNormRefIdeal.Gen.facts) := by
  pair_intro
  · run_from PostNormIdeal.Value.run_blocks m g
  · run_from PostNormRefIdeal.Value.run m' g'
    · exact (final3 m c).symm
    · exact (final4 m c).symm

end Cert.PostNormValue

end
-- ==== Proof.PreNormValue.lean ====
/- The gradient through the norm before the mixing layer: the kernel takes blocks of 512 rows, and adds their
   gradients of the gain one after another; the reference sums over all rows at once. The gradient that came past the
   layer is added, by the two in a different order. -/
module

public import proofs.«01_k».proof.Defs
public import proofs.«01_k».proof.Proof.NormRow
public import proofs.«01_k».proof.Proof.Gen.PreNormIdeal
public import proofs.«01_k».proof.Proof.Gen.PreNormRefIdeal
public import proofs.«01_k».proof.Proof.Gen.PreNormIdeal.Value
public import proofs.«01_k».proof.Proof.Gen.PreNormRefIdeal.Read
public import Idealize.ShloMosaic.Lib.Pipeline.ValueKit
public import Idealize.ShloMosaic.Lib.Claim

public section

set_option maxRecDepth 16384

noncomputable section

namespace Cert.PreNormValue

open Idealize.ShloMosaic Idealize.ShloMosaic.TcCoe Idealize.SL.Sem
open Idealize.ShloMosaic.Pipeline (Dat)
open Cert.PreNormIdeal Cert.PreNormIdeal.Gen

section rows

/-- The kernel's mean square of a row. -/
theorem ms_kernel (v0 : Vec Ideal S512x1024 .f32) (r : Fin 512) : k0_pay2 (F := Ideal) v0 (ix2 r 0) = NormRow.ms (fun k => v0 (ix2 r k)) := by
  unfold NormRow.ms
  pointwise [k0_pay2]

/-- The reference's mean square of a row. -/
theorem ms_ref (x : FVec Ideal S4096x1024 .f32) (r : Fin 4096) : PreNormRefIdeal.Read.val_main_v6 (F := Ideal) x (ix2 r 0) = NormRow.ms (fun k => x (ix2 r k)) := by
  unfold NormRow.ms
  pointwise [PreNormRefIdeal.Read.val_main_v0, PreNormRefIdeal.Read.val_main_v1, PreNormRefIdeal.Read.val_main_v2, PreNormRefIdeal.Read.val_main_v3, PreNormRefIdeal.Read.val_main_v4, PreNormRefIdeal.Read.val_main_v5, PreNormRefIdeal.Read.val_main_v6, PreNormRefIdeal.Read.val_main_cst, PreNormRefIdeal.Read.val_main_cst_0, PreNormRefIdeal.Read.val_main_cst_1]

/-- The kernel's gradient at a place. -/
theorem kernel_grad (v0 v1 v2 : Vec Ideal S512x1024 .f32) (v3 : Vec Ideal S1x1024 .f32) (j : S512x1024.Idx) : k0_pay5 (F := Ideal) v0 v1 v2 v3 j
    = v2 j + NormRow.grad (fun k => v0 (ix2 (j 0) k)) (fun k => v1 (ix2 (j 0) k)) (fun k => v3 (ix2 0 k)) (j 1) := by
  idx_vars j
  unfold NormRow.grad NormRow.through
  pointwise [k0_pay5, k0_pay3]
  simp only [Fin.sum_univ_one, ms_kernel]

/-- The reference's gradient at a place. -/
theorem ref_grad (x0 x1 x2 : FVec Ideal S4096x1024 .f32) (x3 : FVec Ideal S1024 .f32) (i : S4096x1024.Idx) : PreNormRefIdeal.Read.val_main_v36 (F := Ideal) x0 x1 x2 x3 i
    = x2 i + NormRow.grad (fun k => x0 (ix2 (i 0) k)) (fun k => x1 (ix2 (i 0) k)) (fun k => x3 (ix1 k)) (i 1) := by
  idx_vars i
  unfold NormRow.grad NormRow.through
  pointwise [PreNormRefIdeal.Read.val_main_v7, PreNormRefIdeal.Read.val_main_v8, PreNormRefIdeal.Read.val_main_v9, PreNormRefIdeal.Read.val_main_v10, PreNormRefIdeal.Read.val_main_v11, PreNormRefIdeal.Read.val_main_v13, PreNormRefIdeal.Read.val_main_v14, PreNormRefIdeal.Read.val_main_v19, PreNormRefIdeal.Read.val_main_v20, PreNormRefIdeal.Read.val_main_v22, PreNormRefIdeal.Read.val_main_v23, PreNormRefIdeal.Read.val_main_v24, PreNormRefIdeal.Read.val_main_v25, PreNormRefIdeal.Read.val_main_v26, PreNormRefIdeal.Read.val_main_v27, PreNormRefIdeal.Read.val_main_v28, PreNormRefIdeal.Read.val_main_v29, PreNormRefIdeal.Read.val_main_v30, PreNormRefIdeal.Read.val_main_v31, PreNormRefIdeal.Read.val_main_v32, PreNormRefIdeal.Read.val_main_v33, PreNormRefIdeal.Read.val_main_v34, PreNormRefIdeal.Read.val_main_v35, PreNormRefIdeal.Read.val_main_v36, PreNormRefIdeal.Read.val_main_cst_2, PreNormRefIdeal.Read.val_main_cst_5, PreNormRefIdeal.Read.val_main_cst_6, PreNormRefIdeal.Read.val_main_cst_7]
  simp only [Fin.sum_univ_one, ms_ref, add_assoc]

/-- A block's first sum of the gain's gradient. -/
theorem first_apply (v0 v1 : Vec Ideal S512x1024 .f32) (j : S1x1024.Idx) : k0_pay4 (F := Ideal) v0 v1 j
    = 0 + ∑ r : Fin 512, NormRow.gain (fun k => v0 (ix2 r k)) (fun k => v1 (ix2 r k)) (j 1) := by
  unfold NormRow.gain
  pointwise [k0_pay4, k0_pay3]
  simp only [ms_kernel, zero_add]

/-- A later block's sum is added. -/
theorem step_apply (v0 v1 : Vec Ideal S512x1024 .f32) (acc : Vec Ideal S1x1024 .f32) (j : S1x1024.Idx) : k0_pay1 (F := Ideal) (k0_pay4 (F := Ideal) v0 v1) acc j
    = acc j + ∑ r : Fin 512, NormRow.gain (fun k => v0 (ix2 r k)) (fun k => v1 (ix2 r k)) (j 1) := by
  unfold NormRow.gain
  pointwise [k0_pay1, k0_pay4, k0_pay3]
  simp only [ms_kernel]

/-- The reference's gradient of the gain. -/
theorem ref_gain (x0 x1 : FVec Ideal S4096x1024 .f32) (i : S1x1024.Idx) : PreNormRefIdeal.Read.val_main_v37 (F := Ideal) x0 x1 i
    = ∑ r : Fin 4096, NormRow.gain (fun k => x0 (ix2 r k)) (fun k => x1 (ix2 r k)) (i 1) := by
  unfold NormRow.gain
  pointwise [PreNormRefIdeal.Read.val_main_v7, PreNormRefIdeal.Read.val_main_v11, PreNormRefIdeal.Read.val_main_v12, PreNormRefIdeal.Read.val_main_v16, PreNormRefIdeal.Read.val_main_v17, PreNormRefIdeal.Read.val_main_v18, PreNormRefIdeal.Read.val_main_v21, PreNormRefIdeal.Read.val_main_v37, PreNormRefIdeal.Read.val_main_cst_3, PreNormRefIdeal.Read.val_main_cst_4]
  simp only [Fin.sum_univ_one, ms_ref]

end rows

variable (m : (ℓ : Loc nD τ sig) → Buf (Elt Ideal) ℓ)

/-- There are eight points. -/
theorem lt_points (t : Fin cfg0.N) : t.val < 8 := lt_of_lt_of_eq t.isLt (by decide)

/-- Where each window's block lies, as a function of the grid point. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- What a point leaves of the gradient. -/
theorem left4 (c : Dev nD) (t : Fin cfg0.N) : (outsAt0 m c t.val t.isLt).1 = k0_pay5 (F := Ideal) (iblk m c 0 t) (iblk m c 1 t) (iblk m c 2 t) (iblk m c 3 t) := by
  have := lt_points t
  by_cases h : t.val % 8 = 0
  · rw [outsAt0_A m c t h (by omega)]; frame_out
  · rw [outsAt0_B m c t h (by omega)]; frame_out

/-- The gradient after the run. -/
theorem final4 (c : Dev nD) : (Gen.dats m 0 c).arrAt 4 (cfgs 0).N
    = PreNormRefIdeal.Read.val_main_v36 (F := Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 4 _ (by decide +kernel) fun t hf y => ?_
  blk_simp
  rw [after0_4, left4, kernel_grad]
  have ht := lt_points t
  have hy0 : (y 0).val < 512 := (y 0).isLt
  refine Eq.trans ?_ ((ref_grad (m ((c : Thread nD τ).loc main_arg0)) (m ((c : Thread nD τ).loc main_arg1)) (m ((c : Thread nD τ).loc main_arg2)) (m ((c : Thread nD τ).loc main_arg3)) (ix2 ⟨512 * t.val + (y 0).val, by omega⟩ (y 1))).symm.trans ?_)
  · refine congr (congrArg (fun a b : EReal => a + b) ?_) (congr (congr (congr (congrArg NormRow.grad (funext fun k => ?_)) (funext fun k => ?_)) (funext fun k => ?_)) rfl)
    all_goals blk_point [iblk, V, idx_val t]
  · blk_point [iblk, V, idx_val t]

/-- The gain's gradient after the run. -/
theorem final5 (c : Dev nD) : (Gen.dats m 0 c).arrAt 5 (cfgs 0).N
    = PreNormRefIdeal.Read.val_main_v37 (F := Ideal) (m ((c : Thread nD τ).loc main_arg0)) (m ((c : Thread nD τ).loc main_arg1)) := by
  refine (Gen.dats m 0 c).arrAt_eq_of_covers 5 _ (by decide +kernel) fun t hf y => ?_
  blk_simp
  have h3 := (flush0_5 t).mp hf
  rw [after0_5,
    Pipeline.eq_sum_fin_of_reset_step_apply_of_flush (fun n h => (outsAt0 m c n h).2) 8 (fun _ => 0) _
    (fun t h j => by have := lt_points t; rw [outsAt0_A m c t h (by omega)]; frame_out; exact first_apply _ _ _)
    (fun t h j => by
      have := lt_points t
      rw [outsAt0_B m c t h (by omega)]; frame_out; rw [step_apply])
    t h3 _]
  refine (zero_add (M := EReal) _).trans (Eq.trans ?_ ((ref_gain (m ((c : Thread nD τ).loc main_arg0)) (m ((c : Thread nD τ).loc main_arg1)) (ix2 0 (y 1))).symm.trans ?_))
  · refine Fin.sum_mul_add_congr fun s r hl => ?_
    refine congr (congr (congrArg NormRow.gain (funext fun k => ?_)) (funext fun k => ?_)) rfl
    all_goals blk_point [iblk, V, idx_val t, idx_val ⟨_, Pipeline.run_point_lt_of_flush t h3 s⟩]
  · blk_point [iblk, V, idx_val t]

/-- The kernel's results and the reference's are equal. -/
theorem algebraic : Cert.algebraic_PreNormIdeal_PreNormRefIdeal (hPreNormIdeal := PreNormIdeal.Gen.facts) (hPreNormRefIdeal := PreNormRefIdeal.Gen.facts) := by
  pair_intro
  · run_from PreNormIdeal.Value.run_blocks m g
  · run_from PreNormRefIdeal.Value.run m' g'
    · exact (final4 m c).symm
    · exact (final5 m c).symm

end Cert.PreNormValue

end
-- ==== Proof.MidNormRows.lean ====
/- The rows of the gradients through the two norms between the mixing layer and the feed-forward layer, of the kernel's blocks
   and of the reference's arrays. -/
module

public import proofs.«01_k».proof.Proof.NormRow
public import proofs.«01_k».proof.Proof.Gen.MidNormIdeal.Value
public import proofs.«01_k».proof.Proof.Gen.MidNormRefIdeal.Read
public import Idealize.ShloMosaic.Lib.Pipeline.ValueKit

public section

set_option maxRecDepth 16384

noncomputable section

namespace Cert.MidNormRows

open Idealize.ShloMosaic Idealize.ShloMosaic.TcCoe
open Cert.MidNormIdeal Cert.MidNormIdeal.Gen

/-- The kernel's gradient at the sum: what came past the norm, and what came through it. -/
abbrev dxk {F : FTy → Type} [FloatOps F] (v0 v2 v3 : Vec F S512x1024 .f32) (v6 : Vec F S1x1024 .f32) : FVec F S512x1024 .f32 :=
  k0_pay10 v0 v3 (k0_pay8 v0 v2 v6) (k0_pay9 v0 v2 v6)

/-- The kernel's mean square of a row of the sum. -/
theorem ms_x (v0 : Vec Ideal S512x1024 .f32) (r : Fin 512) : k0_pay4 (F := Ideal) v0 (ix2 r 0) = NormRow.ms (fun k => v0 (ix2 r k)) := by
  unfold NormRow.ms
  pointwise [k0_pay4]

/-- The kernel's mean square of a row of the mixing layer's output. -/
theorem ms_y (v1 : Vec Ideal S512x1024 .f32) (r : Fin 512) : k0_pay11 (F := Ideal) v1 (ix2 r 0) = NormRow.ms (fun k => v1 (ix2 r k)) := by
  unfold NormRow.ms
  pointwise [k0_pay11]

/-- The reference's mean square of a row of the sum. -/
theorem ms_x_ref (x : FVec Ideal S4096x1024 .f32) (r : Fin 4096) : MidNormRefIdeal.Read.val_main_v6 (F := Ideal) x (ix2 r 0) = NormRow.ms (fun k => x (ix2 r k)) := by
  unfold NormRow.ms
  pointwise [MidNormRefIdeal.Read.val_main_v0, MidNormRefIdeal.Read.val_main_v1, MidNormRefIdeal.Read.val_main_v2, MidNormRefIdeal.Read.val_main_v3, MidNormRefIdeal.Read.val_main_v4, MidNormRefIdeal.Read.val_main_v5, MidNormRefIdeal.Read.val_main_v6, MidNormRefIdeal.Read.val_main_cst, MidNormRefIdeal.Read.val_main_cst_0, MidNormRefIdeal.Read.val_main_cst_1]

/-- The reference's mean square of a row of the mixing layer's output. -/
theorem ms_y_ref (x : FVec Ideal S4096x1024 .f32) (r : Fin 4096) : MidNormRefIdeal.Read.val_main_v43 (F := Ideal) x (ix2 r 0) = NormRow.ms (fun k => x (ix2 r k)) := by
  unfold NormRow.ms
  pointwise [MidNormRefIdeal.Read.val_main_v37, MidNormRefIdeal.Read.val_main_v38, MidNormRefIdeal.Read.val_main_v39, MidNormRefIdeal.Read.val_main_v40, MidNormRefIdeal.Read.val_main_v41, MidNormRefIdeal.Read.val_main_v42, MidNormRefIdeal.Read.val_main_v43, MidNormRefIdeal.Read.val_main_cst_8, MidNormRefIdeal.Read.val_main_cst_9, MidNormRefIdeal.Read.val_main_cst_10]

/-- The kernel's gradient at the sum, at a place. -/
theorem dx_kernel (v0 v2 v3 : Vec Ideal S512x1024 .f32) (v6 : Vec Ideal S1x1024 .f32) (j : S512x1024.Idx) : dxk (F := Ideal) v0 v2 v3 v6 j
    = v3 j + NormRow.grad (fun k => v0 (ix2 (j 0) k)) (fun k => v2 (ix2 (j 0) k)) (fun k => v6 (ix2 0 k)) (j 1) := by
  idx_vars j
  unfold NormRow.grad NormRow.through
  pointwise [dxk, k0_pay10, k0_pay9, k0_pay8, k0_pay7, k0_pay5]
  simp only [Fin.sum_univ_one, ms_x]

/-- The kernel's gradient at the mixing layer's output, at a place, from its gradient at the sum. -/
theorem dy_kernel (v0 v1 v3 : Vec Ideal S512x1024 .f32) (v4 : Vec Ideal S1x1024 .f32) (v36 v38 : FVec Ideal S512x1024 .f32) (j : S512x1024.Idx) :
    k0_pay14 (F := Ideal) v0 v1 v3 (k0_pay3 (F := Ideal) v4) v36 v38 j
    = NormRow.grad (fun k => v1 (ix2 (j 0) k)) (fun k => k0_pay10 (F := Ideal) v0 v3 v36 v38 (ix2 (j 0) k)) (fun k => v4 (ix2 0 k)) (j 1) := by
  idx_vars j
  unfold NormRow.grad NormRow.through
  pointwise [k0_pay14, k0_pay12, k0_pay3]
  simp only [Fin.sum_univ_one, ms_y]

/-- A block's part of the gradient of the first norm's gain. -/
theorem gain_y (v0 v1 v3 : Vec Ideal S512x1024 .f32) (v36 v38 : FVec Ideal S512x1024 .f32) (j : S1x1024.Idx) : k0_pay13 (F := Ideal) v0 v1 v3 v36 v38 j
    = ∑ r : Fin 512, NormRow.gain (fun k => v1 (ix2 r k)) (fun k => k0_pay10 (F := Ideal) v0 v3 v36 v38 (ix2 r k)) (j 1) := by
  unfold NormRow.gain
  pointwise [k0_pay13, k0_pay12]
  simp only [ms_y]

/-- A block's part of the gradient of the second norm's gain. -/
theorem gain_x (v0 v2 : Vec Ideal S512x1024 .f32) (j : S1x1024.Idx) : k0_pay6 (F := Ideal) v0 v2 j
    = ∑ r : Fin 512, NormRow.gain (fun k => v0 (ix2 r k)) (fun k => v2 (ix2 r k)) (j 1) := by
  unfold NormRow.gain
  pointwise [k0_pay6, k0_pay5]
  simp only [ms_x]

/-- A later block's part is added, for the first gain. -/
theorem add_y (a b : Vec Ideal S1x1024 .f32) (j : S1x1024.Idx) : k0_pay1 (F := Ideal) a b j = b j + a j := by
  pointwise [k0_pay1]

/-- A later block's part is added, for the second gain. -/
theorem add_x (a b : Vec Ideal S1x1024 .f32) (j : S1x1024.Idx) : k0_pay2 (F := Ideal) a b j = b j + a j := by
  pointwise [k0_pay2]

/-- The reference's gradient at the sum, at a place. -/
theorem dx_ref (x0 x2 x3 : FVec Ideal S4096x1024 .f32) (x5 : FVec Ideal S1024 .f32) (i : S4096x1024.Idx) : MidNormRefIdeal.Read.val_main_v36 (F := Ideal) x0 x2 x3 x5 i
    = x3 i + NormRow.grad (fun k => x0 (ix2 (i 0) k)) (fun k => x2 (ix2 (i 0) k)) (fun k => x5 (ix1 k)) (i 1) := by
  idx_vars i
  unfold NormRow.grad NormRow.through
  pointwise [MidNormRefIdeal.Read.val_main_v7, MidNormRefIdeal.Read.val_main_v8, MidNormRefIdeal.Read.val_main_v9, MidNormRefIdeal.Read.val_main_v10, MidNormRefIdeal.Read.val_main_v11, MidNormRefIdeal.Read.val_main_v13, MidNormRefIdeal.Read.val_main_v14, MidNormRefIdeal.Read.val_main_v19, MidNormRefIdeal.Read.val_main_v20, MidNormRefIdeal.Read.val_main_v22, MidNormRefIdeal.Read.val_main_v23, MidNormRefIdeal.Read.val_main_v24, MidNormRefIdeal.Read.val_main_v25, MidNormRefIdeal.Read.val_main_v26, MidNormRefIdeal.Read.val_main_v27, MidNormRefIdeal.Read.val_main_v28, MidNormRefIdeal.Read.val_main_v29, MidNormRefIdeal.Read.val_main_v30, MidNormRefIdeal.Read.val_main_v31, MidNormRefIdeal.Read.val_main_v32, MidNormRefIdeal.Read.val_main_v33, MidNormRefIdeal.Read.val_main_v34, MidNormRefIdeal.Read.val_main_v35, MidNormRefIdeal.Read.val_main_v36, MidNormRefIdeal.Read.val_main_cst_2, MidNormRefIdeal.Read.val_main_cst_5, MidNormRefIdeal.Read.val_main_cst_6, MidNormRefIdeal.Read.val_main_cst_7]
  simp only [Fin.sum_univ_one, ms_x_ref, add_assoc]

/-- The reference's gradient at the mixing layer's output, at a place, from its gradient at the sum. -/
theorem dy_ref (x0 x1 x2 x3 : FVec Ideal S4096x1024 .f32) (x4 x5 : FVec Ideal S1024 .f32) (i : S4096x1024.Idx) : MidNormRefIdeal.Read.val_main_v73 (F := Ideal) x0 x1 x2 x3 x4 x5 i
    = NormRow.grad (fun k => x1 (ix2 (i 0) k)) (fun k => MidNormRefIdeal.Read.val_main_v36 (F := Ideal) x0 x2 x3 x5 (ix2 (i 0) k)) (fun k => x4 (ix1 k)) (i 1) := by
  idx_vars i
  unfold NormRow.grad NormRow.through
  pointwise [MidNormRefIdeal.Read.val_main_v44, MidNormRefIdeal.Read.val_main_v45, MidNormRefIdeal.Read.val_main_v46, MidNormRefIdeal.Read.val_main_v47, MidNormRefIdeal.Read.val_main_v50, MidNormRefIdeal.Read.val_main_v56, MidNormRefIdeal.Read.val_main_v57, MidNormRefIdeal.Read.val_main_v59, MidNormRefIdeal.Read.val_main_v60, MidNormRefIdeal.Read.val_main_v61, MidNormRefIdeal.Read.val_main_v62, MidNormRefIdeal.Read.val_main_v63, MidNormRefIdeal.Read.val_main_v64, MidNormRefIdeal.Read.val_main_v65, MidNormRefIdeal.Read.val_main_v66, MidNormRefIdeal.Read.val_main_v67, MidNormRefIdeal.Read.val_main_v68, MidNormRefIdeal.Read.val_main_v69, MidNormRefIdeal.Read.val_main_v70, MidNormRefIdeal.Read.val_main_v71, MidNormRefIdeal.Read.val_main_v72, MidNormRefIdeal.Read.val_main_v73, MidNormRefIdeal.Read.val_main_cst_11, MidNormRefIdeal.Read.val_main_cst_14, MidNormRefIdeal.Read.val_main_cst_15, MidNormRefIdeal.Read.val_main_cst_16]
  simp only [Fin.sum_univ_one, ms_y_ref]

/-- The reference's gradient of the first norm's gain. -/
theorem gain_y_ref (x0 x1 x2 x3 : FVec Ideal S4096x1024 .f32) (x5 : FVec Ideal S1024 .f32) (i : S1x1024.Idx) : MidNormRefIdeal.Read.val_main_v74 (F := Ideal) x0 x1 x2 x3 x5 i
    = ∑ r : Fin 4096, NormRow.gain (fun k => x1 (ix2 r k)) (fun k => MidNormRefIdeal.Read.val_main_v36 (F := Ideal) x0 x2 x3 x5 (ix2 r k)) (i 1) := by
  unfold NormRow.gain
  pointwise [MidNormRefIdeal.Read.val_main_v44, MidNormRefIdeal.Read.val_main_v48, MidNormRefIdeal.Read.val_main_v49, MidNormRefIdeal.Read.val_main_v53, MidNormRefIdeal.Read.val_main_v54, MidNormRefIdeal.Read.val_main_v55, MidNormRefIdeal.Read.val_main_v58, MidNormRefIdeal.Read.val_main_v74, MidNormRefIdeal.Read.val_main_cst_12, MidNormRefIdeal.Read.val_main_cst_13]
  simp only [Fin.sum_univ_one, ms_y_ref]

/-- The reference's gradient of the second norm's gain. -/
theorem gain_x_ref (x0 x2 : FVec Ideal S4096x1024 .f32) (i : S1x1024.Idx) : MidNormRefIdeal.Read.val_main_v75 (F := Ideal) x0 x2 i
    = ∑ r : Fin 4096, NormRow.gain (fun k => x0 (ix2 r k)) (fun k => x2 (ix2 r k)) (i 1) := by
  unfold NormRow.gain
  pointwise [MidNormRefIdeal.Read.val_main_v7, MidNormRefIdeal.Read.val_main_v11, MidNormRefIdeal.Read.val_main_v12, MidNormRefIdeal.Read.val_main_v16, MidNormRefIdeal.Read.val_main_v17, MidNormRefIdeal.Read.val_main_v18, MidNormRefIdeal.Read.val_main_v21, MidNormRefIdeal.Read.val_main_v75, MidNormRefIdeal.Read.val_main_cst_3, MidNormRefIdeal.Read.val_main_cst_4]
  simp only [Fin.sum_univ_one, ms_x_ref]

end Cert.MidNormRows

end
-- ==== Proof.MidNormValue.lean ====
/- The gradients through the two norms between the mixing layer and the feed-forward layer: the kernel takes blocks of 512
   rows, and adds their gradients of the two gains one after another; the reference sums over all rows at once. The gradient
   that came past the second norm is added, by the two in a different order, before the first norm's is taken. -/
module

public import proofs.«01_k».proof.Defs
public import proofs.«01_k».proof.Proof.MidNormRows
public import proofs.«01_k».proof.Proof.Gen.MidNormIdeal
public import proofs.«01_k».proof.Proof.Gen.MidNormRefIdeal
public import proofs.«01_k».proof.Proof.Gen.MidNormIdeal.Value
public import proofs.«01_k».proof.Proof.Gen.MidNormRefIdeal.Read
public import Idealize.ShloMosaic.Lib.Pipeline.ValueKit
public import Idealize.ShloMosaic.Lib.Claim

public section

set_option maxRecDepth 16384

noncomputable section

namespace Cert.MidNormValue

open Idealize.ShloMosaic Idealize.ShloMosaic.TcCoe Idealize.SL.Sem
open Idealize.ShloMosaic.Pipeline (Dat)
open Cert.MidNormIdeal Cert.MidNormIdeal.Gen Cert.MidNormRows

variable (m : (ℓ : Loc nD τ sig) → Buf (Elt Ideal) ℓ)

/-- There are eight points. -/
theorem lt_points (t : Fin cfg0.N) : t.val < 8 := lt_of_lt_of_eq t.isLt (by decide)

/-- Where each window's block lies, as a function of the grid point. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The gradient at the sum, of the point's blocks. -/
abbrev dxb (c : Dev nD) (t : Fin cfg0.N) : FVec Ideal S512x1024 .f32 := dxk (F := Ideal) (iblk m c 0 t) (iblk m c 2 t) (iblk m c 3 t) (iblk m c 5 t)

/-- What a point leaves of the gradient at the sum. -/
theorem left6 (c : Dev nD) (t : Fin cfg0.N) : (outsAt0 m c t.val t.isLt).1 = dxb m c t := by
  have := lt_points t
  by_cases h : t.val % 8 = 0
  · rw [outsAt0_A m c t h (by omega) h (by omega)]; frame_out
  · rw [outsAt0_B m c t h (by omega) h (by omega)]; frame_out

/-- What a point leaves of the gradient at the mixing layer's output. -/
theorem left7 (c : Dev nD) (t : Fin cfg0.N) : (outsAt0 m c t.val t.isLt).2.1
    = k0_pay14 (F := Ideal) (iblk m c 0 t) (iblk m c 1 t) (iblk m c 3 t) (k0_pay3 (F := Ideal) (iblk m c 4 t)) (k0_pay8 (F := Ideal) (iblk m c 0 t) (iblk m c 2 t) (iblk m c 5 t)) (k0_pay9 (F := Ideal) (iblk m c 0 t) (iblk m c 2 t) (iblk m c 5 t)) := by
  have := lt_points t
  by_cases h : t.val % 8 = 0
  · rw [outsAt0_A m c t h (by omega) h (by omega)]; frame_out
  · rw [outsAt0_B m c t h (by omega) h (by omega)]; frame_out

/-- The point's gradient at the sum is the reference's, at the row of the whole array. -/
theorem dx_at (c : Dev nD) (t : Fin cfg0.N) (r : Fin 512) (k : Fin 1024) (n : Fin 4096) (hn : n.val = 512 * t.val + r.val) :
    dxb m c t (ix2 r k) = MidNormRefIdeal.Read.val_main_v36 (F := Ideal) (m ((c : Thread nD τ).loc main_arg0)) (m ((c : Thread nD τ).loc main_arg2)) (m ((c : Thread nD τ).loc main_arg3)) (m ((c : Thread nD τ).loc main_arg5)) (ix2 n k) := by
  have ht := lt_points t
  have hb : 512 * t.val + r.val < 4096 := by omega
  obtain rfl : n = ⟨512 * t.val + r.val, hb⟩ := Fin.ext hn
  refine (dx_kernel _ _ _ _ _).trans (Eq.trans ?_ (dx_ref (m ((c : Thread nD τ).loc main_arg0)) (m ((c : Thread nD τ).loc main_arg2)) (m ((c : Thread nD τ).loc main_arg3)) (m ((c : Thread nD τ).loc main_arg5)) (ix2 _ k)).symm)
  refine congr (congrArg (fun a b : EReal => a + b) ?_) (congr (congr (congr (congrArg NormRow.grad (funext fun k => ?_)) (funext fun k => ?_)) (funext fun k => ?_)) rfl)
  all_goals blk_point [iblk, V, idx_val t]

/-- The gradient at the sum after the run. -/
theorem final6 (c : Dev nD) : (Gen.dats m 0 c).arrAt 6 (cfgs 0).N
    = MidNormRefIdeal.Read.val_main_v36 (F := Ideal) (m ((c : Thread nD τ).loc main_arg0)) (m ((c : Thread nD τ).loc main_arg2)) (m ((c : Thread nD τ).loc main_arg3)) (m ((c : Thread nD τ).loc main_arg5)) := by
  refine (Gen.dats m 0 c).arrAt_eq_of_covers 6 _ (by decide +kernel) fun t hf y => ?_
  blk_simp
  rw [after0_6, left6]
  have ht := lt_points t
  have hy0 : (y 0).val < 512 := (y 0).isLt
  refine Eq.trans (congrArg (dxb m c t) (eq_ix2 y)) ((dx_at m c t (y 0) (y 1) ⟨512 * t.val + (y 0).val, by omega⟩ rfl).trans ?_)
  blk_point [iblk, V, idx_val t]

/-- The gradient at the mixing layer's output after the run. -/
theorem final7 (c : Dev nD) : (Gen.dats m 0 c).arrAt 7 (cfgs 0).N
    = MidNormRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Gen.dats m 0 c).arrAt_eq_of_covers 7 _ (by decide +kernel) fun t hf y => ?_
  blk_simp
  rw [after0_7, left7, dy_kernel]
  have ht := lt_points t
  have hy0 : (y 0).val < 512 := (y 0).isLt
  refine Eq.trans ?_ ((dy_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (y 0).val, by omega⟩ (y 1))).symm.trans ?_)
  · refine congr (congr (congr (congrArg NormRow.grad (funext fun k => ?_)) (funext fun k => dx_at m c t (y 0) k _ rfl)) (funext fun k => ?_)) rfl
    all_goals blk_point [iblk, V, idx_val t]
  · blk_point [iblk, V, idx_val t]

/-- The first gain's gradient after the run. -/
theorem final8 (c : Dev nD) : (Gen.dats m 0 c).arrAt 8 (cfgs 0).N
    = MidNormRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (Gen.dats m 0 c).arrAt_eq_of_covers 8 _ (by decide +kernel) fun t hf y => ?_
  blk_simp
  have h3 := (flush0_8 t).mp hf
  rw [after0_8,
    Pipeline.eq_sum_fin_of_reset_step_apply_of_flush (fun n h => (outsAt0 m c n h).2.2.1) 8 (fun _ => 0)
      (fun t j => ∑ r : Fin 512, NormRow.gain (fun k => iblk m c 1 t (ix2 r k)) (fun k => dxb m c t (ix2 r k)) (j 1))
    (fun t h j => by
      have := lt_points t
      rw [outsAt0_A m c t h (by omega) h (by omega)]; frame_out; exact (gain_y _ _ _ _ _ _).trans (zero_add (M := EReal) _).symm)
    (fun t h j => by
      have := lt_points t
      rw [outsAt0_B m c t h (by omega) h (by omega)]; frame_out; rw [add_y, gain_y])
    t h3 _]
  refine (zero_add (M := EReal) _).trans (Eq.trans ?_ ((gain_y_ref (m ((c : Thread nD τ).loc main_arg0)) (m ((c : Thread nD τ).loc main_arg1)) (m ((c : Thread nD τ).loc main_arg2)) (m ((c : Thread nD τ).loc main_arg3)) (m ((c : Thread nD τ).loc main_arg5)) (ix2 0 (y 1))).symm.trans ?_))
  · refine Fin.sum_mul_add_congr fun s r hl => ?_
    refine congr (congr (congrArg NormRow.gain (funext fun k => ?_)) (funext fun k => dx_at m c _ r k _ (by have := lt_points t; dsimp only; omega))) rfl
    all_goals blk_point [iblk, V, idx_val t, idx_val ⟨_, Pipeline.run_point_lt_of_flush t h3 s⟩]
  · blk_point [iblk, V, idx_val t]

/-- The second gain's gradient after the run. -/
theorem final9 (c : Dev nD) : (Gen.dats m 0 c).arrAt 9 (cfgs 0).N
    = MidNormRefIdeal.Read.val_main_v75 (F := Ideal) (m ((c : Thread nD τ).loc main_arg0)) (m ((c : Thread nD τ).loc main_arg2)) := by
  refine (Gen.dats m 0 c).arrAt_eq_of_covers 9 _ (by decide +kernel) fun t hf y => ?_
  blk_simp
  have h3 := (flush0_9 t).mp hf
  rw [after0_9,
    Pipeline.eq_sum_fin_of_reset_step_apply_of_flush (fun n h => (outsAt0 m c n h).2.2.2) 8 (fun _ => 0)
      (fun t j => ∑ r : Fin 512, NormRow.gain (fun k => iblk m c 0 t (ix2 r k)) (fun k => iblk m c 2 t (ix2 r k)) (j 1))
    (fun t h j => by
      have := lt_points t
      rw [outsAt0_A m c t h (by omega) h (by omega)]; frame_out; exact (gain_x _ _ _).trans (zero_add (M := EReal) _).symm)
    (fun t h j => by
      have := lt_points t
      rw [outsAt0_B m c t h (by omega) h (by omega)]; frame_out; rw [add_x, gain_x])
    t h3 _]
  refine (zero_add (M := EReal) _).trans (Eq.trans ?_ ((gain_x_ref (m ((c : Thread nD τ).loc main_arg0)) (m ((c : Thread nD τ).loc main_arg2)) (ix2 0 (y 1))).symm.trans ?_))
  · refine Fin.sum_mul_add_congr fun s r hl => ?_
    refine congr (congr (congrArg NormRow.gain (funext fun k => ?_)) (funext fun k => ?_)) rfl
    all_goals blk_point [iblk, V, idx_val t, idx_val ⟨_, Pipeline.run_point_lt_of_flush t h3 s⟩]
  · blk_point [iblk, V, idx_val t]

/-- The kernel's results and the reference's are equal. -/
theorem algebraic : Cert.algebraic_MidNormIdeal_MidNormRefIdeal (hMidNormIdeal := MidNormIdeal.Gen.facts) (hMidNormRefIdeal := MidNormRefIdeal.Gen.facts) := by
  pair_intro
  · run_from MidNormIdeal.Value.run_blocks m g
  · run_from MidNormRefIdeal.Value.run m' g'
    · exact (final6 m c).symm
    · obtain ⟨e0, e1, e2, e3, e4, e5⟩ := hagree c
      refine Eq.trans ?_ (final7 m c).symm
      rw [← e0, ← e1, ← e2, ← e3, ← e4, ← e5]
      exact (MidNormRefIdeal.Read.val_main_v73_eq m' c)
    · obtain ⟨e0, e1, e2, e3, e4, e5⟩ := hagree c
      refine Eq.trans ?_ (final8 m c).symm
      rw [← e0, ← e1, ← e2, ← e3, ← e5]
      exact (MidNormRefIdeal.Read.val_main_v74_eq m' c)
    · exact (final9 m c).symm

end Cert.MidNormValue

end
-- ==== Proof.PreNormFwdValue.lean ====
/- The norm before the mixing layer: the kernel takes blocks of 1024 rows. -/
module

public import proofs.«01_k».proof.Defs
public import proofs.«01_k».proof.Proof.NormRow
public import proofs.«01_k».proof.Proof.Gen.PreNormFwdIdeal
public import proofs.«01_k».proof.Proof.Gen.PreNormFwdRefIdeal
public import proofs.«01_k».proof.Proof.Gen.PreNormFwdIdeal.Value
public import proofs.«01_k».proof.Proof.Gen.PreNormFwdRefIdeal.Read
public import Idealize.ShloMosaic.Lib.Pipeline.ValueKit
public import Idealize.ShloMosaic.Lib.Claim

public section

set_option maxRecDepth 16384

noncomputable section

namespace Cert.PreNormFwdValue

open Idealize.ShloMosaic Idealize.ShloMosaic.TcCoe Idealize.SL.Sem
open Idealize.ShloMosaic.Pipeline (Dat)
open Cert.PreNormFwdIdeal Cert.PreNormFwdIdeal.Gen

/-- The kernel's norm at a place. -/
theorem norm_kernel (v0 : Vec Ideal S1024x1024 .f32) (v1 : Vec Ideal S1x1024 .f32) (j : S1024x1024.Idx) : k0_pay1 (F := Ideal) v0 v1 j
    = NormRow.norm (fun k => v0 (ix2 (j 0) k)) (fun k => v1 (ix2 0 k)) (j 1) := by
  idx_vars j
  unfold NormRow.norm NormRow.ms
  pointwise [k0_pay1]

/-- The reference's norm at a place. -/
theorem norm_ref (x0 : FVec Ideal S4096x1024 .f32) (x1 : FVec Ideal S1024 .f32) (i : S4096x1024.Idx) : PreNormFwdRefIdeal.Read.val_main_v13 (F := Ideal) x0 x1 i
    = NormRow.norm (fun k => x0 (ix2 (i 0) k)) (fun k => x1 (ix1 k)) (i 1) := by
  idx_vars i
  unfold NormRow.norm NormRow.ms
  pointwise [PreNormFwdRefIdeal.Read.val_main_v0, PreNormFwdRefIdeal.Read.val_main_v1, PreNormFwdRefIdeal.Read.val_main_v2, PreNormFwdRefIdeal.Read.val_main_v3, PreNormFwdRefIdeal.Read.val_main_v4, PreNormFwdRefIdeal.Read.val_main_v5, PreNormFwdRefIdeal.Read.val_main_v6, PreNormFwdRefIdeal.Read.val_main_v7, PreNormFwdRefIdeal.Read.val_main_v8, PreNormFwdRefIdeal.Read.val_main_v9, PreNormFwdRefIdeal.Read.val_main_v10, PreNormFwdRefIdeal.Read.val_main_v11, PreNormFwdRefIdeal.Read.val_main_v12, PreNormFwdRefIdeal.Read.val_main_v13, PreNormFwdRefIdeal.Read.val_main_cst, PreNormFwdRefIdeal.Read.val_main_cst_0, PreNormFwdRefIdeal.Read.val_main_cst_1]

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val, 0] ∧ win0_1.index t = ![0, 0] ∧ win0_2.index t = ![t.val, 0] :=
  (by decide +kernel : ∀ t : Fin grid0.N, _)

/-- The norm after the run. -/
theorem final (c : Dev nD) : (Gen.dats m 0 c).arrAt 2 (cfgs 0).N
    = PreNormFwdRefIdeal.Read.val_main_v13 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2]
  frame_out
  have ht := lt_points t
  have hy0 : (y 0).val < 1024 := (y 0).isLt
  refine (norm_kernel _ _ _).trans (Eq.trans ?_ ((norm_ref (m ((c : Thread nD τ).loc main_arg0)) (m ((c : Thread nD τ).loc main_arg1)) (ix2 ⟨1024 * t.val + (y 0).val, by omega⟩ (y 1))).symm.trans ?_))
  · refine congr (congr (congrArg NormRow.norm (funext fun k => ?_)) (funext fun k => ?_)) rfl
    all_goals blk_point [iblk, V, idx_val t]
  · blk_point [iblk, V, idx_val t]

/-- The kernel's results and the reference's are equal. -/
theorem algebraic : Cert.algebraic_PreNormFwdIdeal_PreNormFwdRefIdeal (hPreNormFwdIdeal := PreNormFwdIdeal.Gen.facts) (hPreNormFwdRefIdeal := PreNormFwdRefIdeal.Gen.facts) := by
  pair_intro
  · run_from PreNormFwdIdeal.Value.run_blocks m g
  · run_from PreNormFwdRefIdeal.Value.run m' g'
    exact (final m c).symm

end Cert.PreNormFwdValue

end
-- ==== Proof.MidNormFwdValue.lean ====
/- The two norms between the mixing layer and the feed-forward layer: the first is added to the layer's input, the second is
   taken of the sum. The kernel takes blocks of 1024 rows. -/
module

public import proofs.«01_k».proof.Defs
public import proofs.«01_k».proof.Proof.NormRow
public import proofs.«01_k».proof.Proof.Gen.MidNormFwdIdeal
public import proofs.«01_k».proof.Proof.Gen.MidNormFwdRefIdeal
public import proofs.«01_k».proof.Proof.Gen.MidNormFwdIdeal.Value
public import proofs.«01_k».proof.Proof.Gen.MidNormFwdRefIdeal.Read
public import Idealize.ShloMosaic.Lib.Pipeline.ValueKit
public import Idealize.ShloMosaic.Lib.Claim

public section

set_option maxRecDepth 16384

noncomputable section

namespace Cert.MidNormFwdValue

open Idealize.ShloMosaic Idealize.ShloMosaic.TcCoe Idealize.SL.Sem
open Idealize.ShloMosaic.Pipeline (Dat)
open Cert.MidNormFwdIdeal Cert.MidNormFwdIdeal.Gen

/-- The kernel's sum with the norm, at a place. -/
theorem sum_kernel (v0 v1 : Vec Ideal S1024x1024 .f32) (v2 : Vec Ideal S1x1024 .f32) (j : S1024x1024.Idx) : k0_pay1 (F := Ideal) v0 v1 v2 j
    = v0 j + NormRow.norm (fun k => v1 (ix2 (j 0) k)) (fun k => v2 (ix2 0 k)) (j 1) := by
  idx_vars j
  unfold NormRow.norm NormRow.ms
  pointwise [k0_pay1]

/-- The reference's sum with the norm, at a place. -/
theorem sum_ref (x0 x1 : FVec Ideal S4096x1024 .f32) (x2 : FVec Ideal S1024 .f32) (i : S4096x1024.Idx) : MidNormFwdRefIdeal.Read.val_main_v13 (F := Ideal) x0 x1 x2 i
    = x0 i + NormRow.norm (fun k => x1 (ix2 (i 0) k)) (fun k => x2 (ix1 k)) (i 1) := by
  idx_vars i
  unfold NormRow.norm NormRow.ms
  pointwise [MidNormFwdRefIdeal.Read.val_main_v0, MidNormFwdRefIdeal.Read.val_main_v1, MidNormFwdRefIdeal.Read.val_main_v2, MidNormFwdRefIdeal.Read.val_main_v3, MidNormFwdRefIdeal.Read.val_main_v4, MidNormFwdRefIdeal.Read.val_main_v5, MidNormFwdRefIdeal.Read.val_main_v6, MidNormFwdRefIdeal.Read.val_main_v7, MidNormFwdRefIdeal.Read.val_main_v8, MidNormFwdRefIdeal.Read.val_main_v9, MidNormFwdRefIdeal.Read.val_main_v10, MidNormFwdRefIdeal.Read.val_main_v11, MidNormFwdRefIdeal.Read.val_main_v12, MidNormFwdRefIdeal.Read.val_main_v13, MidNormFwdRefIdeal.Read.val_main_cst, MidNormFwdRefIdeal.Read.val_main_cst_0, MidNormFwdRefIdeal.Read.val_main_cst_1]

/-- The kernel's norm of the sum, at a place. -/
theorem norm_kernel (v0 v1 : Vec Ideal S1024x1024 .f32) (v2 v4 : Vec Ideal S1x1024 .f32) (j : S1024x1024.Idx) : k0_pay2 (F := Ideal) v0 v1 v2 v4 j
    = NormRow.norm (fun k => k0_pay1 (F := Ideal) v0 v1 v2 (ix2 (j 0) k)) (fun k => v4 (ix2 0 k)) (j 1) := by
  idx_vars j
  unfold NormRow.norm NormRow.ms
  pointwise [k0_pay2]

/-- The reference's norm of the sum, at a place. -/
theorem norm_ref (x0 x1 : FVec Ideal S4096x1024 .f32) (x2 x3 : FVec Ideal S1024 .f32) (i : S4096x1024.Idx) : MidNormFwdRefIdeal.Read.val_main_v27 (F := Ideal) x0 x1 x2 x3 i
    = NormRow.norm (fun k => MidNormFwdRefIdeal.Read.val_main_v13 (F := Ideal) x0 x1 x2 (ix2 (i 0) k)) (fun k => x3 (ix1 k)) (i 1) := by
  idx_vars i
  unfold NormRow.norm NormRow.ms
  pointwise [MidNormFwdRefIdeal.Read.val_main_v14, MidNormFwdRefIdeal.Read.val_main_v15, MidNormFwdRefIdeal.Read.val_main_v16, MidNormFwdRefIdeal.Read.val_main_v17, MidNormFwdRefIdeal.Read.val_main_v18, MidNormFwdRefIdeal.Read.val_main_v19, MidNormFwdRefIdeal.Read.val_main_v20, MidNormFwdRefIdeal.Read.val_main_v21, MidNormFwdRefIdeal.Read.val_main_v22, MidNormFwdRefIdeal.Read.val_main_v23, MidNormFwdRefIdeal.Read.val_main_v24, MidNormFwdRefIdeal.Read.val_main_v25, MidNormFwdRefIdeal.Read.val_main_v26, MidNormFwdRefIdeal.Read.val_main_v27, MidNormFwdRefIdeal.Read.val_main_cst_2, MidNormFwdRefIdeal.Read.val_main_cst_3, MidNormFwdRefIdeal.Read.val_main_cst_4]

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The point's sum is the reference's, at the row of the whole array. -/
theorem sum_at (c : Dev nD) (t : Fin cfg0.N) (r k : Fin 1024) (n : Fin 4096) (hn : n.val = 1024 * t.val + r.val) :
    k0_pay1 (F := Ideal) (iblk m c 0 t) (iblk m c 1 t) (iblk m c 2 t) (ix2 r k) = MidNormFwdRefIdeal.Read.val_main_v13 (F := Ideal) (m ((c : Thread nD τ).loc main_arg0)) (m ((c : Thread nD τ).loc main_arg1)) (m ((c : Thread nD τ).loc main_arg2)) (ix2 n k) := by
  have ht := lt_points t
  have hb : 1024 * t.val + r.val < 4096 := by omega
  obtain rfl : n = ⟨1024 * t.val + r.val, hb⟩ := Fin.ext hn
  refine (sum_kernel _ _ _ _).trans (Eq.trans ?_ (sum_ref (m ((c : Thread nD τ).loc main_arg0)) (m ((c : Thread nD τ).loc main_arg1)) (m ((c : Thread nD τ).loc main_arg2)) (ix2 _ k)).symm)
  refine congr (congrArg (fun a b : EReal => a + b) ?_) (congr (congr (congrArg NormRow.norm (funext fun k => ?_)) (funext fun k => ?_)) rfl)
  all_goals blk_point [iblk, V, idx_val t]

/-- The sum after the run. -/
theorem final4 (c : Dev nD) : (Gen.dats m 0 c).arrAt 4 (cfgs 0).N
    = MidNormFwdRefIdeal.Read.val_main_v13 (F := Ideal) (m ((c : Thread nD τ).loc main_arg0)) (m ((c : Thread nD τ).loc main_arg1)) (m ((c : Thread nD τ).loc main_arg2)) := by
  refine (Gen.dats m 0 c).arrAt_eq_of_covers 4 _ (by decide +kernel) fun t hf y => ?_
  blk_simp
  rw [after0_4]
  frame_out
  have ht := lt_points t
  have hy0 : (y 0).val < 1024 := (y 0).isLt
  refine Eq.trans (congrArg (k0_pay1 (F := Ideal) (iblk m c 0 t) (iblk m c 1 t) (iblk m c 2 t)) (eq_ix2 y)) ((sum_at m c t (y 0) (y 1) ⟨1024 * t.val + (y 0).val, by omega⟩ rfl).trans ?_)
  blk_point [iblk, V, idx_val t]

/-- The norm of the sum after the run. -/
theorem final5 (c : Dev nD) : (Gen.dats m 0 c).arrAt 5 (cfgs 0).N
    = MidNormFwdRefIdeal.Read.val_main_v27 (F := Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 5 _ (by decide +kernel) fun t hf y => ?_
  blk_simp
  rw [after0_5]
  frame_out
  have ht := lt_points t
  have hy0 : (y 0).val < 1024 := (y 0).isLt
  refine (norm_kernel _ _ _ _ _).trans (Eq.trans ?_ ((norm_ref (m ((c : Thread nD τ).loc main_arg0)) (m ((c : Thread nD τ).loc main_arg1)) (m ((c : Thread nD τ).loc main_arg2)) (m ((c : Thread nD τ).loc main_arg3)) (ix2 ⟨1024 * t.val + (y 0).val, by omega⟩ (y 1))).symm.trans ?_))
  · refine congr (congr (congrArg NormRow.norm (funext fun k => sum_at m c t (y 0) k _ rfl)) (funext fun k => ?_)) rfl
    all_goals blk_point [iblk, V, idx_val t]
  · blk_point [iblk, V, idx_val t]

/-- The kernel's results and the reference's are equal. -/
theorem algebraic : Cert.algebraic_MidNormFwdIdeal_MidNormFwdRefIdeal (hMidNormFwdIdeal := MidNormFwdIdeal.Gen.facts) (hMidNormFwdRefIdeal := MidNormFwdRefIdeal.Gen.facts) := by
  pair_intro
  · run_from MidNormFwdIdeal.Value.run_blocks m g
  · run_from MidNormFwdRefIdeal.Value.run m' g'
    · exact (final4 m c).symm
    · exact (final5 m c).symm

end Cert.MidNormFwdValue

end
-- ==== Proof.PostNormFwdValue.lean ====
/- The norm after the feed-forward layer, added to the layer's input: the kernel takes blocks of 1024 rows. -/
module

public import proofs.«01_k».proof.Defs
public import proofs.«01_k».proof.Proof.NormRow
public import proofs.«01_k».proof.Proof.Gen.PostNormFwdIdeal
public import proofs.«01_k».proof.Proof.Gen.PostNormFwdRefIdeal
public import proofs.«01_k».proof.Proof.Gen.PostNormFwdIdeal.Value
public import proofs.«01_k».proof.Proof.Gen.PostNormFwdRefIdeal.Read
public import Idealize.ShloMosaic.Lib.Pipeline.ValueKit
public import Idealize.ShloMosaic.Lib.Claim

public section

set_option maxRecDepth 16384

noncomputable section

namespace Cert.PostNormFwdValue

open Idealize.ShloMosaic Idealize.ShloMosaic.TcCoe Idealize.SL.Sem
open Idealize.ShloMosaic.Pipeline (Dat)
open Cert.PostNormFwdIdeal Cert.PostNormFwdIdeal.Gen

/-- The kernel's sum with the norm, at a place. -/
theorem sum_kernel (v0 v1 : Vec Ideal S1024x1024 .f32) (v2 : Vec Ideal S1x1024 .f32) (j : S1024x1024.Idx) : k0_pay1 (F := Ideal) v0 v1 v2 j
    = v0 j + NormRow.norm (fun k => v1 (ix2 (j 0) k)) (fun k => v2 (ix2 0 k)) (j 1) := by
  idx_vars j
  unfold NormRow.norm NormRow.ms
  pointwise [k0_pay1]

/-- The reference's sum with the norm, at a place. -/
theorem sum_ref (x0 x1 : FVec Ideal S4096x1024 .f32) (x2 : FVec Ideal S1024 .f32) (i : S4096x1024.Idx) : PostNormFwdRefIdeal.Read.val_main_v13 (F := Ideal) x0 x1 x2 i
    = x0 i + NormRow.norm (fun k => x1 (ix2 (i 0) k)) (fun k => x2 (ix1 k)) (i 1) := by
  idx_vars i
  unfold NormRow.norm NormRow.ms
  pointwise [PostNormFwdRefIdeal.Read.val_main_v0, PostNormFwdRefIdeal.Read.val_main_v1, PostNormFwdRefIdeal.Read.val_main_v2, PostNormFwdRefIdeal.Read.val_main_v3, PostNormFwdRefIdeal.Read.val_main_v4, PostNormFwdRefIdeal.Read.val_main_v5, PostNormFwdRefIdeal.Read.val_main_v6, PostNormFwdRefIdeal.Read.val_main_v7, PostNormFwdRefIdeal.Read.val_main_v8, PostNormFwdRefIdeal.Read.val_main_v9, PostNormFwdRefIdeal.Read.val_main_v10, PostNormFwdRefIdeal.Read.val_main_v11, PostNormFwdRefIdeal.Read.val_main_v12, PostNormFwdRefIdeal.Read.val_main_v13, PostNormFwdRefIdeal.Read.val_main_cst, PostNormFwdRefIdeal.Read.val_main_cst_0, PostNormFwdRefIdeal.Read.val_main_cst_1]

variable (m : (ℓ : Loc nD τ sig) → Buf (Elt Ideal) ℓ)

/-- There are four points. -/
theorem lt_points (t : Fin cfg0.N) : t.val < 4 := lt_of_lt_of_eq t.isLt (by decide)

/-- Where each window's block lies, as a function of the grid point. -/
theorem idx_val : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The sum after the run. -/
theorem final (c : Dev nD) : (Gen.dats m 0 c).arrAt 3 (cfgs 0).N
    = PostNormFwdRefIdeal.Read.val_main_v13 (F := Ideal) (m ((c : Thread nD τ).loc main_arg0)) (m ((c : Thread nD τ).loc main_arg1)) (m ((c : Thread nD τ).loc main_arg2)) := by
  refine (Gen.dats m 0 c).arrAt_eq_of_covers 3 _ (by decide +kernel) fun t hf y => ?_
  blk_simp
  rw [after0_3]
  frame_out
  have ht := lt_points t
  have hy0 : (y 0).val < 1024 := (y 0).isLt
  refine (sum_kernel _ _ _ _).trans (Eq.trans ?_ ((sum_ref (m ((c : Thread nD τ).loc main_arg0)) (m ((c : Thread nD τ).loc main_arg1)) (m ((c : Thread nD τ).loc main_arg2)) (ix2 ⟨1024 * t.val + (y 0).val, by omega⟩ (y 1))).symm.trans ?_))
  · refine congr (congrArg (fun a b : EReal => a + b) ?_) (congr (congr (congrArg NormRow.norm (funext fun k => ?_)) (funext fun k => ?_)) rfl)
    all_goals blk_point [iblk, V, idx_val t]
  · blk_point [iblk, V, idx_val t]

/-- The kernel's results and the reference's are equal. -/
theorem algebraic : Cert.algebraic_PostNormFwdIdeal_PostNormFwdRefIdeal (hPostNormFwdIdeal := PostNormFwdIdeal.Gen.facts) (hPostNormFwdRefIdeal := PostNormFwdRefIdeal.Gen.facts) := by
  pair_intro
  · run_from PostNormFwdIdeal.Value.run_blocks m g
  · run_from PostNormFwdRefIdeal.Value.run m' g'
    exact (final m c).symm

end Cert.PostNormFwdValue

end
-- ==== Proof.RefFrames.lean ====
/- The references run to their end and leave their arguments as they were. -/
module

public import proofs.«01_k».proof.Defs
public import proofs.«01_k».proof.Proof.Gen.BwdRefIdeal
public import proofs.«01_k».proof.Proof.Gen.BwdRefIdeal.Run
public import proofs.«01_k».proof.Proof.Gen.UpRefIdeal
public import proofs.«01_k».proof.Proof.Gen.UpRefIdeal.Run
public import proofs.«01_k».proof.Proof.Gen.UpDwRefIdeal
public import proofs.«01_k».proof.Proof.Gen.UpDwRefIdeal.Run
public import proofs.«01_k».proof.Proof.Gen.DownRefIdeal
public import proofs.«01_k».proof.Proof.Gen.DownRefIdeal.Run
public import proofs.«01_k».proof.Proof.Gen.DownDwRefIdeal
public import proofs.«01_k».proof.Proof.Gen.DownDwRefIdeal.Run
public import proofs.«01_k».proof.Proof.Gen.SumRefIdeal
public import proofs.«01_k».proof.Proof.Gen.SumRefIdeal.Run
public import proofs.«01_k».proof.Proof.Gen.ProjDxRefIdeal
public import proofs.«01_k».proof.Proof.Gen.ProjDxRefIdeal.Run
public import proofs.«01_k».proof.Proof.Gen.ProjDwRefIdeal
public import proofs.«01_k».proof.Proof.Gen.ProjDwRefIdeal.Run
public import proofs.«01_k».proof.Proof.Gen.MixDxRefIdeal
public import proofs.«01_k».proof.Proof.Gen.MixDxRefIdeal.Run
public import proofs.«01_k».proof.Proof.Gen.MixDwRefIdeal
public import proofs.«01_k».proof.Proof.Gen.MixDwRefIdeal.Run
public import proofs.«01_k».proof.Proof.Gen.ProjRefIdeal
public import proofs.«01_k».proof.Proof.Gen.ProjRefIdeal.Run
public import proofs.«01_k».proof.Proof.Gen.MixRefIdeal
public import proofs.«01_k».proof.Proof.Gen.MixRefIdeal.Run
public import proofs.«01_k».proof.Proof.Gen.PostNormRefIdeal
public import proofs.«01_k».proof.Proof.Gen.PostNormRefIdeal.Run
public import proofs.«01_k».proof.Proof.Gen.PreNormRefIdeal
public import proofs.«01_k».proof.Proof.Gen.MidNormRefIdeal
public import proofs.«01_k».proof.Proof.Gen.PreNormFwdRefIdeal
public import proofs.«01_k».proof.Proof.Gen.MidNormFwdRefIdeal
public import proofs.«01_k».proof.Proof.Gen.PostNormFwdRefIdeal
public import proofs.«01_k».proof.Proof.Gen.PreNormRefIdeal.Run
public import proofs.«01_k».proof.Proof.Gen.MidNormRefIdeal.Run
public import proofs.«01_k».proof.Proof.Gen.PreNormFwdRefIdeal.Run
public import proofs.«01_k».proof.Proof.Gen.MidNormFwdRefIdeal.Run
public import proofs.«01_k».proof.Proof.Gen.PostNormFwdRefIdeal.Run
public import Idealize.ShloMosaic.Lib.Claim

@[expose] public section

noncomputable section

namespace Cert.RefFrames

open Idealize.ShloMosaic Idealize.SL.Sem

/-- The run of Bwd's reference, read at its arguments and its counters. -/
theorem frame_Bwd : Cert.quiescent_BwdRefIdeal (hBwdRefIdeal := BwdRefIdeal.Gen.facts) := fun m ρ _ =>
  (θ_run BwdRefIdeal.defs _ _).mono (fun r h => ⟨fun c => (h c).2.2.2.2.2, sem_eq_zero_of_no_sems (by decide) r.2⟩)
    (BwdRefIdeal.Value.run (F := Ideal) m ρ)

/-- The run of Up's reference, read at its arguments and its counters. -/
theorem frame_Up : Cert.quiescent_UpRefIdeal (hUpRefIdeal := UpRefIdeal.Gen.facts) := fun m ρ _ =>
  (θ_run UpRefIdeal.defs _ _).mono (fun r h => ⟨fun c => (h c).2.2.2, sem_eq_zero_of_no_sems (by decide) r.2⟩)
    (UpRefIdeal.Value.run (F := Ideal) m ρ)

/-- The run of UpDw's reference, read at its arguments and its counters. -/
theorem frame_UpDw : Cert.quiescent_UpDwRefIdeal (hUpDwRefIdeal := UpDwRefIdeal.Gen.facts) := fun m ρ _ =>
  (θ_run UpDwRefIdeal.defs _ _).mono (fun r h => ⟨fun c => (h c).2, sem_eq_zero_of_no_sems (by decide) r.2⟩)
    (UpDwRefIdeal.Value.run (F := Ideal) m ρ)

/-- The run of Down's reference, read at its arguments and its counters. -/
theorem frame_Down : Cert.quiescent_DownRefIdeal (hDownRefIdeal := DownRefIdeal.Gen.facts) := fun m ρ _ =>
  (θ_run DownRefIdeal.defs _ _).mono (fun r h => ⟨fun c => (h c).2, sem_eq_zero_of_no_sems (by decide) r.2⟩)
    (DownRefIdeal.Value.run (F := Ideal) m ρ)

/-- The run of DownDw's reference, read at its arguments and its counters. -/
theorem frame_DownDw : Cert.quiescent_DownDwRefIdeal (hDownDwRefIdeal := DownDwRefIdeal.Gen.facts) := fun m ρ _ =>
  (θ_run DownDwRefIdeal.defs _ _).mono (fun r h => ⟨fun c => (h c).2, sem_eq_zero_of_no_sems (by decide) r.2⟩)
    (DownDwRefIdeal.Value.run (F := Ideal) m ρ)

/-- The run of Sum's reference, read at its arguments and its counters. -/
theorem frame_Sum : Cert.quiescent_SumRefIdeal (hSumRefIdeal := SumRefIdeal.Gen.facts) := fun m ρ _ =>
  (θ_run SumRefIdeal.defs _ _).mono (fun r h => ⟨fun c => (h c).2, sem_eq_zero_of_no_sems (by decide) r.2⟩)
    (SumRefIdeal.Value.run (F := Ideal) m ρ)

/-- The run of ProjDx's reference, read at its arguments and its counters. -/
theorem frame_ProjDx : Cert.quiescent_ProjDxRefIdeal (hProjDxRefIdeal := ProjDxRefIdeal.Gen.facts) := fun m ρ _ =>
  (θ_run ProjDxRefIdeal.defs _ _).mono (fun r h => ⟨fun c => (h c).2, sem_eq_zero_of_no_sems (by decide) r.2⟩)
    (ProjDxRefIdeal.Value.run (F := Ideal) m ρ)

/-- The run of ProjDw's reference, read at its arguments and its counters. -/
theorem frame_ProjDw : Cert.quiescent_ProjDwRefIdeal (hProjDwRefIdeal := ProjDwRefIdeal.Gen.facts) := fun m ρ _ =>
  (θ_run ProjDwRefIdeal.defs _ _).mono (fun r h => ⟨fun c => (h c).2, sem_eq_zero_of_no_sems (by decide) r.2⟩)
    (ProjDwRefIdeal.Value.run (F := Ideal) m ρ)

/-- The run of MixDx's reference, read at its arguments and its counters. -/
theorem frame_MixDx : Cert.quiescent_MixDxRefIdeal (hMixDxRefIdeal := MixDxRefIdeal.Gen.facts) := fun m ρ _ =>
  (θ_run MixDxRefIdeal.defs _ _).mono (fun r h => ⟨fun c => (h c).2, sem_eq_zero_of_no_sems (by decide) r.2⟩)
    (MixDxRefIdeal.Value.run (F := Ideal) m ρ)

/-- The run of MixDw's reference, read at its arguments and its counters. -/
theorem frame_MixDw : Cert.quiescent_MixDwRefIdeal (hMixDwRefIdeal := MixDwRefIdeal.Gen.facts) := fun m ρ _ =>
  (θ_run MixDwRefIdeal.defs _ _).mono (fun r h => ⟨fun c => (h c).2, sem_eq_zero_of_no_sems (by decide) r.2⟩)
    (MixDwRefIdeal.Value.run (F := Ideal) m ρ)

/-- The run of Proj's reference, read at its arguments and its counters. -/
theorem frame_Proj : Cert.quiescent_ProjRefIdeal (hProjRefIdeal := ProjRefIdeal.Gen.facts) := fun m ρ _ =>
  (θ_run ProjRefIdeal.defs _ _).mono (fun r h => ⟨fun c => (h c).2, sem_eq_zero_of_no_sems (by decide) r.2⟩)
    (ProjRefIdeal.Value.run (F := Ideal) m ρ)

/-- The run of Mix's reference, read at its arguments and its counters. -/
theorem frame_Mix : Cert.quiescent_MixRefIdeal (hMixRefIdeal := MixRefIdeal.Gen.facts) := fun m ρ _ =>
  (θ_run MixRefIdeal.defs _ _).mono (fun r h => ⟨fun c => (h c).2, sem_eq_zero_of_no_sems (by decide) r.2⟩)
    (MixRefIdeal.Value.run (F := Ideal) m ρ)

/-- The run of PostNorm's reference, read at its arguments and its counters. -/
theorem frame_PostNorm : Cert.quiescent_PostNormRefIdeal (hPostNormRefIdeal := PostNormRefIdeal.Gen.facts) := fun m ρ _ =>
  (θ_run PostNormRefIdeal.defs _ _).mono (fun r h => ⟨fun c => (h c).2.2, sem_eq_zero_of_no_sems (by decide) r.2⟩)
    (PostNormRefIdeal.Value.run (F := Ideal) m ρ)

/-- The run of PreNorm's reference, read at its arguments and its counters. -/
theorem frame_PreNorm : Cert.quiescent_PreNormRefIdeal (hPreNormRefIdeal := PreNormRefIdeal.Gen.facts) := fun m ρ _ =>
  (θ_run PreNormRefIdeal.defs _ _).mono (fun r h => ⟨fun c => (h c).2.2, sem_eq_zero_of_no_sems (by decide) r.2⟩)
    (PreNormRefIdeal.Value.run (F := Ideal) m ρ)

/-- The run of MidNorm's reference, read at its arguments and its counters. -/
theorem frame_MidNorm : Cert.quiescent_MidNormRefIdeal (hMidNormRefIdeal := MidNormRefIdeal.Gen.facts) := fun m ρ _ =>
  (θ_run MidNormRefIdeal.defs _ _).mono (fun r h => ⟨fun c => (h c).2.2.2.2, sem_eq_zero_of_no_sems (by decide) r.2⟩)
    (MidNormRefIdeal.Value.run (F := Ideal) m ρ)

/-- The run of PreNormFwd's reference, read at its arguments and its counters. -/
theorem frame_PreNormFwd : Cert.quiescent_PreNormFwdRefIdeal (hPreNormFwdRefIdeal := PreNormFwdRefIdeal.Gen.facts) := fun m ρ _ =>
  (θ_run PreNormFwdRefIdeal.defs _ _).mono (fun r h => ⟨fun c => (h c).2, sem_eq_zero_of_no_sems (by decide) r.2⟩)
    (PreNormFwdRefIdeal.Value.run (F := Ideal) m ρ)

/-- The run of MidNormFwd's reference, read at its arguments and its counters. -/
theorem frame_MidNormFwd : Cert.quiescent_MidNormFwdRefIdeal (hMidNormFwdRefIdeal := MidNormFwdRefIdeal.Gen.facts) := fun m ρ _ =>
  (θ_run MidNormFwdRefIdeal.defs _ _).mono (fun r h => ⟨fun c => (h c).2.2, sem_eq_zero_of_no_sems (by decide) r.2⟩)
    (MidNormFwdRefIdeal.Value.run (F := Ideal) m ρ)

/-- The run of PostNormFwd's reference, read at its arguments and its counters. -/
theorem frame_PostNormFwd : Cert.quiescent_PostNormFwdRefIdeal (hPostNormFwdRefIdeal := PostNormFwdRefIdeal.Gen.facts) := fun m ρ _ =>
  (θ_run PostNormFwdRefIdeal.defs _ _).mono (fun r h => ⟨fun c => (h c).2, sem_eq_zero_of_no_sems (by decide) r.2⟩)
    (PostNormFwdRefIdeal.Value.run (F := Ideal) m ρ)

end Cert.RefFrames

end
-- ==== Proof.BwdCore.lean ====
/- What the backward pass through the gated convolution does to one quarter of its columns, 256 of them: the kernel's text does the
   same four times, cut into different pieces; here it is written once. -/
module

public import proofs.«01_k».proof.Defs
public import proofs.«01_k».proof.Proof.Gen.BwdIdeal
public import proofs.«01_k».proof.Proof.Gen.BwdIdeal.Skeleton
public import Idealize.ShloMosaic.Lib.Claim
public import Idealize.ShloMosaic.Lib.Pipeline.ValueKit

@[expose] public section

set_option maxRecDepth 16384

noncomputable section

namespace Cert.BwdCore

open Idealize.ShloMosaic Idealize.SL.Sem
open Cert.BwdIdeal Cert.BwdIdeal.Gen

variable {F : FTy → Type} [FloatOps F] [Named F]

/-- The 528 rows of the up product a point sees: eight before its block (none before the first one), its own, eight after. -/
def ext (i : grid0.Coords) (a : Vec F S8x256 .f32) (b : Vec F S512x256 .f32) (c : Vec F S8x256 .f32) : FVec F S528x256 .f32 :=
  k0_pay6 i a b c

/-- The gradient at the gated product on the same rows, zero on the first eight. -/
def dye (i : grid0.Coords) (d : Vec F S512x1024 .bf16) (dn : Vec F S16x1024 .bf16) (w : Vec F S256x1024 .bf16) : FVec F S528x256 .f32 :=
  k0_pay5 i d dn w

/-- The convolution down the rows. -/
def conv (e : FVec F S528x256 .f32) (w : Vec F S3x256 .f32) (b : Vec F S1x256 .f32) : FVec F S528x256 .f32 := k0_pay11 e w b

/-- The activation of the gate. -/
def act (g : FVec F S528x256 .f32) : FVec F S528x256 .f32 := k0_pay17 g (mulf g g)

/-- The gradient at the gate's convolution. -/
def dcGate (dy g v : FVec F S528x256 .f32) : FVec F S528x256 .f32 := k0_pay18 dy g v (mulf g g)

/-- The gradient at the value's convolution. -/
def dcVal (dy g : FVec F S528x256 .f32) : FVec F S528x256 .f32 := mulf dy (act g)

/-- The convolution transposed, on the block's own rows. -/
def duOf (dc : FVec F S528x256 .f32) (w : Vec F S3x256 .f32) : FVec F S512x256 .bf16 :=
  truncf .bf16 (extractStridedSlice S512x256 ![8, 0]
    (addf (addf (mulf (broadcastTo S528x256 (extractStridedSlice S1x256 ![2, 0] (k0_pay9 w) slices_S3x256_o2_0_S1x256) broadcasts_S1x256_S528x256) dc)
        (mulf (broadcastTo S528x256 (extractStridedSlice S1x256 ![1, 0] (k0_pay9 w) slices_S3x256_o1_0_S1x256) broadcasts_S1x256_S528x256)
          (dynamicRotate 0 527#32 none dc rotates_S528x256_d0)))
      (mulf (broadcastTo S528x256 (extractStridedSlice S1x256 ![0, 0] (k0_pay9 w) slices_S3x256_o0_0_S1x256) broadcasts_S1x256_S528x256)
        (dynamicRotate 0 526#32 none dc rotates_S528x256_d0)))
    slices_S528x256_o8_0_S512x256) bitsLt_bf16_f32

/-- The sum of the block's own rows. -/
def rowSum (e : FVec F S528x256 .f32) : FVec F S1x256 .f32 :=
  shapeCast S1x256 (multiReduction .add [0] S256 (extractStridedSlice S512x256 ![8, 0] e slices_S528x256_o8_0_S512x256)
    0x00000000#32 reduces_S512x256_S256 (.inl rfl) rfl) shapeCasts_S256_S1x256

/-- The gradient of the middle tap: the rows' sum, put right at the block's ends. -/
def dw1 (p : FVec F S528x256 .f32) : FVec F S1x256 .f32 :=
  subf (addf (rowSum p) (extractStridedSlice S1x256 ![7, 0] p slices_S528x256_o7_0_S1x256))
    (extractStridedSlice S1x256 ![519, 0] p slices_S528x256_o519_0_S1x256)

/-- The gradient of the first tap: the rows' sum, put right at the block's ends. -/
def dw0 (p : FVec F S528x256 .f32) : FVec F S1x256 .f32 :=
  subf (subf (addf (addf (rowSum p) (extractStridedSlice S1x256 ![6, 0] p slices_S528x256_o6_0_S1x256))
      (extractStridedSlice S1x256 ![7, 0] p slices_S528x256_o7_0_S1x256))
    (extractStridedSlice S1x256 ![518, 0] p slices_S528x256_o518_0_S1x256))
    (extractStridedSlice S1x256 ![519, 0] p slices_S528x256_o519_0_S1x256)

/-- The block's part of the gradients of the three taps and the bias. -/
def partsOf (dc e : FVec F S528x256 .f32) : FVec F S8x256 .f32 :=
  concatenate S8x256 0 [⟨S1x256, dw0 (mulf (dynamicRotate 0 526#32 none dc rotates_S528x256_d0) e)⟩,
    ⟨S1x256, dw1 (mulf (dynamicRotate 0 527#32 none dc rotates_S528x256_d0) e)⟩, ⟨S1x256, rowSum (mulf dc e)⟩, ⟨S1x256, rowSum dc⟩,
    ⟨S4x256, broadcast S4x256 (Scalar.ofBits .f32 0x00000000#32)⟩]
    concatenates_S1x256_S1x256_S1x256_S1x256_S4x256_S8x256_d0

/-- Both halves of the up product's gradient times the up weights, transposed. -/
def term (g v : FVec F S512x256 .bf16) (wg wv : Vec F S1x1024x256 .bf16) : FVec F S512x1024 .f32 := k0_pay34 g v wg wv

/-- A block's columns of quarter `s`. -/
def cols {R : Nat} {e : EltTy} (X : Vec F ⟨2, ![R, 1024]⟩ e) (s : Fin 4) : Vec F ⟨2, ![R, 256]⟩ e :=
  View.ld X (Rect.unit (s := ⟨2, ![R, 1024]⟩) ![0, 256 * s.val] ![R, 256] (by
    intro a; match a with
    | ⟨0, _⟩ => exact (Nat.zero_add R).le
    | ⟨1, _⟩ => show 256 * s.val + 256 ≤ 1024; omega))

/-- The rows of quarter `s` of the down weights' block. -/
def rows (X : Vec F S1024x1024 .bf16) (s : Fin 4) : Vec F S256x1024 .bf16 :=
  View.ld X (Rect.unit (s := S1024x1024) ![256 * s.val, 0] ![256, 1024] (by
    intro a; match a with
    | ⟨0, _⟩ => show 256 * s.val + 256 ≤ 1024; omega
    | ⟨1, _⟩ => show 0 + 1024 ≤ 1024; omega))

/-- The columns of quarter `s` of a stacked block. -/
def cols3 (X : Vec F S1x1024x1024 .bf16) (s : Fin 4) : Vec F S1x1024x256 .bf16 :=
  View.ld X (Rect.unit (s := S1x1024x1024) ![0, 0, 256 * s.val] ![1, 1024, 256] (by
    intro a; match a with
    | ⟨0, _⟩ => show 0 + 1 ≤ 1; omega
    | ⟨1, _⟩ => show 0 + 1024 ≤ 1024; omega
    | ⟨2, _⟩ => show 256 * s.val + 256 ≤ 1024; omega))

/-- The block's own rows of the incoming gradient, read whole. -/
def all6 (X : Vec F S512x1024 .bf16) : Vec F S512x1024 .bf16 :=
  View.ld X (Rect.unit (s := S512x1024) ![0, 0] ![512, 1024] (by
    intro a; match a with
    | ⟨0, _⟩ => show 0 + 512 ≤ 512; omega
    | ⟨1, _⟩ => show 0 + 1024 ≤ 1024; omega))

/-- The sixteen rows after them, read whole. -/
def all7 (X : Vec F S16x1024 .bf16) : Vec F S16x1024 .bf16 :=
  View.ld X (Rect.unit (s := S16x1024) ![0, 0] ![16, 1024] (by
    intro a; match a with
    | ⟨0, _⟩ => show 0 + 16 ≤ 16; omega
    | ⟨1, _⟩ => show 0 + 1024 ≤ 1024; omega))

/-- What the point before left of the call's input gradient, read whole. -/
def allAcc (X : Vec F S512x1024 .f32) : Vec F S512x1024 .f32 :=
  View.ld X (Rect.unit (s := S512x1024) ![0, 0] ![512, 1024] (by
    intro a; match a with
    | ⟨0, _⟩ => show 0 + 512 ≤ 512; omega
    | ⟨1, _⟩ => show 0 + 1024 ≤ 1024; omega))

section block

variable (i : grid0.Coords) (x0 x1 : Vec F S512x1024 .f32) (x2 x3 x4 x5 : Vec F S8x1024 .f32) (x6 : Vec F S512x1024 .bf16)
  (x7 : Vec F S16x1024 .bf16) (x8 : Vec F S1024x1024 .bf16) (x9 x10 : Vec F S1x1024x1024 .bf16) (x11 x12 : Vec F S3x1024 .f32)
  (x13 x14 : Vec F S1x1024 .f32) (s : Fin 4)

/-- The gradient at the gate's convolution, quarter `s`. -/
def dcG : FVec F S528x256 .f32 :=
  dcGate (dye i (all6 x6) (all7 x7) (rows x8 s)) (conv (ext i (cols x2 s) (cols x0 s) (cols x4 s)) (cols x11 s) (cols x13 s))
    (conv (ext i (cols x3 s) (cols x1 s) (cols x5 s)) (cols x12 s) (cols x14 s))

/-- The gradient at the value's convolution, quarter `s`. -/
def dcV : FVec F S528x256 .f32 :=
  dcVal (dye i (all6 x6) (all7 x7) (rows x8 s)) (conv (ext i (cols x2 s) (cols x0 s) (cols x4 s)) (cols x11 s) (cols x13 s))

/-- The gate's half of the up product's gradient, quarter `s`. -/
def duG : FVec F S512x256 .bf16 := duOf (dcG i x0 x1 x2 x3 x4 x5 x6 x7 x8 x11 x12 x13 x14 s) (cols x11 s)

/-- The value's half of the up product's gradient, quarter `s`. -/
def duV : FVec F S512x256 .bf16 := duOf (dcV i x0 x2 x4 x6 x7 x8 x11 x13 s) (cols x12 s)

/-- The gate's half of the taps' and the bias's gradients, quarter `s`. -/
def ptG : FVec F S8x256 .f32 :=
  partsOf (dcG i x0 x1 x2 x3 x4 x5 x6 x7 x8 x11 x12 x13 x14 s) (ext i (cols x2 s) (cols x0 s) (cols x4 s))

/-- The value's half of the taps' and the bias's gradients, quarter `s`. -/
def ptV : FVec F S8x256 .f32 :=
  partsOf (dcV i x0 x2 x4 x6 x7 x8 x11 x13 s) (ext i (cols x3 s) (cols x1 s) (cols x5 s))

/-- Quarter `s` of the gradient at the call's input. -/
def tm : FVec F S512x1024 .f32 :=
  term (duG i x0 x1 x2 x3 x4 x5 x6 x7 x8 x11 x12 x13 x14 s) (duV i x0 x2 x4 x6 x7 x8 x11 x12 x13 s) (cols3 x9 s) (cols3 x10 s)

/-- The four quarters together. -/
def tmSum : FVec F S512x1024 .f32 :=
  addf (addf (addf (tm i x0 x1 x2 x3 x4 x5 x6 x7 x8 x9 x10 x11 x12 x13 x14 0) (tm i x0 x1 x2 x3 x4 x5 x6 x7 x8 x9 x10 x11 x12 x13 x14 1))
    (tm i x0 x1 x2 x3 x4 x5 x6 x7 x8 x9 x10 x11 x12 x13 x14 2)) (tm i x0 x1 x2 x3 x4 x5 x6 x7 x8 x9 x10 x11 x12 x13 x14 3)

end block

/-- Quarter by quarter, side by side. -/
def wide {R : Nat} {e : EltTy} (f : Fin 4 → Vec F ⟨2, ![R, 256]⟩ e) (y : (⟨2, ![R, 1024]⟩ : Shape).Idx) : Elt F e :=
  f ⟨(y 1).val / 256, by have : (y 1).val < 1024 := (y 1).isLt; omega⟩ (ix2 (y 0) ⟨(y 1).val % 256, by omega⟩)

theorem wide_at {R : Nat} {e : EltTy} (f : Fin 4 → Vec F ⟨2, ![R, 256]⟩ e) (y : (⟨2, ![R, 1024]⟩ : Shape).Idx)
    (x : (⟨2, ![R, 256]⟩ : Shape).Idx) (s : Fin 4) (h0 : (y 0).val = (x 0).val) (h1 : (y 1).val = 256 * s.val + (x 1).val) :
    wide f y = f s x := by
  have hx : (x 1).val < 256 := (x 1).isLt
  unfold wide
  have e1 : (⟨(y 1).val / 256, by have : (y 1).val < 1024 := (y 1).isLt; omega⟩ : Fin 4) = s := Fin.ext (by simp only; omega)
  rw [e1]
  refine congrArg (f s) ?_
  rw [eq_ix2 x]
  congr 1
  · exact Fin.ext h0
  · exact Fin.ext (by simp only; omega)

end Cert.BwdCore

end
-- ==== Proof.BwdPt.lean ====
/- The backward core's functions at an index, over the extended reals. -/
module

public import proofs.«01_k».proof.Proof.BwdCore
public import Idealize.ShloMosaic.Lib.Pipeline.ValueKit

public section

set_option maxRecDepth 16384

noncomputable section

namespace Cert.BwdPt

open Idealize.ShloMosaic Idealize.SL.Sem
open Cert.BwdIdeal Cert.BwdIdeal.Gen Cert.BwdCore

/-- The kernel's test for a row block that has one before it. -/
theorem top_cond : ∀ n : Fin 8, Scalar.cmpi .sgt (BitVec.ofNat 32 n.val) 0#32 = if 0 < n.val then 1#1 else 0#1 := by
  decide +kernel

/-- The kernel's test for a row block that has one after it. -/
theorem bot_cond : ∀ n : Fin 8, Scalar.cmpi .slt (BitVec.ofNat 32 n.val) 7#32 = if n.val < 7 then 1#1 else 0#1 := by
  decide +kernel

theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  exact h

/-- One, where there is a row block before. -/
theorem top_val (i : grid0.Coords) : k0_pay2 (F := Ideal) i = if 0 < (i 0).val then (1 : EReal) else 0 := by
  have hi : (i 0).val < 8 := (i 0).isLt
  show Scalar.select (Scalar.cmpi .sgt (BitVec.ofNat 32 (i 0).val) 0#32) (Ideal.ofBits .f32 0x3F800000#32) (Ideal.ofBits .f32 0x00000000#32) = _
  rw [top_cond ⟨(i 0).val, hi⟩, Ideal.ofBits_zero_f32, ofBits_one]
  by_cases h0 : 0 < (i 0).val
  · simp only [h0, if_true]; rfl
  · simp only [h0, if_false]; rfl

/-- The up product's rows that a point sees. -/
theorem ext_at (i : grid0.Coords) (a : Vec Ideal S8x256 .f32) (b : Vec Ideal S512x256 .f32) (c : Vec Ideal S8x256 .f32) (r : Fin 528) (l : Fin 256) :
    ext (F := Ideal) i a b c (ix2 r l) = if h : r.val < 8 then a (ix2 ⟨r.val, h⟩ l) * (if 0 < (i 0).val then (1 : EReal) else 0)
      else if h2 : r.val < 520 then b (ix2 ⟨r.val - 8, by omega⟩ l) else c (ix2 ⟨r.val - 520, by omega⟩ l) := by
  pointwise [ext, k0_pay6]
  simp only [top_val]
  by_cases h : r.val < 8
  · simp only [dif_pos h]
  · simp only [dif_neg h]
    by_cases h2 : r.val < 520
    · simp only [dif_pos h2, dif_pos (show r.val - 8 < 512 by omega)]
    · simp only [dif_neg h2, dif_neg (show ¬r.val - 8 < 512 by omega), Nat.sub_sub]

/-- The rows of the incoming gradient that a point sees. -/
theorem rows_at (i : grid0.Coords) (d : Vec Ideal S512x1024 .bf16) (dn : Vec Ideal S16x1024 .bf16) (r : Fin 528) (k : Fin 1024) :
    k0_pay3 (F := Ideal) i d dn (ix2 r k) = if h : r.val < 512 then d (ix2 ⟨r.val, h⟩ k)
      else dn (ix2 ⟨r.val - 512, by omega⟩ k) * (if (i 0).val < 7 then (1 : EReal) else 0) := by
  have hi : (i 0).val < 8 := (i 0).isLt
  pointwise [k0_pay3]
  rw [bot_cond ⟨(i 0).val, hi⟩]
  by_cases h : r.val < 512
  · simp only [dif_pos h]
  · simp only [dif_neg h]
    by_cases h7 : (i 0).val < 7
    · simp only [h7, if_true]
      exact (mul_one (M := EReal) _).symm
    · simp only [h7, if_false]
      exact (mul_zero (M₀ := EReal) _).symm

/-- The gradient at the gated product. -/
theorem dye_at (i : grid0.Coords) (d : Vec Ideal S512x1024 .bf16) (dn : Vec Ideal S16x1024 .bf16) (w : Vec Ideal S256x1024 .bf16) (r : Fin 528) (l : Fin 256) :
    dye (F := Ideal) i d dn w (ix2 r l) = if h : r.val < 8 then 0
      else ∑ k : Fin 1024, k0_pay3 (F := Ideal) i d dn (ix2 ⟨r.val - 8, by omega⟩ k) * w (ix2 l k) := by
  pointwise [dye, k0_pay5]

/-- The convolution, at a row with two before it. -/
theorem conv_at (e : FVec Ideal S528x256 .f32) (w : Vec Ideal S3x256 .f32) (b : Vec Ideal S1x256 .f32) (r : Fin 528) (h : 2 ≤ r.val) (l : Fin 256) :
    conv e w b (ix2 r l) = ((b (ix2 0 l) + w (ix2 0 l) * e (ix2 ⟨r.val - 2, by omega⟩ l)) + w (ix2 1 l) * e (ix2 ⟨r.val - 1, by omega⟩ l))
      + w (ix2 2 l) * e (ix2 r l) := by
  pointwise [conv, k0_pay11, k0_pay9]
  have e2 : (⟨(r.val + 528 - 2) % 528, Nat.mod_lt _ (by omega)⟩ : Fin 528) = ⟨r.val - 2, by omega⟩ := Fin.ext (by simp only []; omega)
  have e1 : (⟨(r.val + 528 - 1) % 528, Nat.mod_lt _ (by omega)⟩ : Fin 528) = ⟨r.val - 1, by omega⟩ := Fin.ext (by simp only []; omega)
  rw [e1, e2]

/-- The kernel's tanh of a gate. -/
@[expose] def th (g : EReal) : EReal := Ideal.tanh (Ideal.ofBits .f32 0x3F4C422A#32 * (g + Ideal.ofBits .f32 0x3D372713#32 * (g * g * g)))

theorem act_at (g : FVec Ideal S528x256 .f32) (j : S528x256.Idx) :
    act g j = Ideal.ofBits .f32 0x3F000000#32 * g j * (Ideal.ofBits .f32 0x3F800000#32 + th (g j)) := by
  pointwise [act, k0_pay17, k0_pay16, k0_pay15, k0_pay14]
  rfl

theorem dcGate_at (dy g v : FVec Ideal S528x256 .f32) (j : S528x256.Idx) :
    dcGate dy g v j = dy j * v j * (Ideal.ofBits .f32 0x3F000000#32 * (Ideal.ofBits .f32 0x3F800000#32 + th (g j))
      + Ideal.ofBits .f32 0x3F000000#32 * g j * (Ideal.ofBits .f32 0x3F800000#32 - th (g j) * th (g j))
        * (Ideal.ofBits .f32 0x3F4C422A#32 + ((241015141496493 / 2251799813685248 : ℝ) : EReal) * (g j * g j))) := by
  pointwise [dcGate, k0_pay18, k0_pay16, k0_pay15, k0_pay14]
  rw [IdealRules.named_const.ideal_named_scalar _ _ _ _ rfl]
  rfl

theorem dcVal_at (dy g : FVec Ideal S528x256 .f32) (j : S528x256.Idx) : dcVal dy g j = dy j * act g j := by
  pointwise [dcVal]

/-- The transposed convolution. -/
theorem duOf_at (dc : FVec Ideal S528x256 .f32) (w : Vec Ideal S3x256 .f32) (r : Fin 512) (l : Fin 256) :
    duOf dc w (ix2 r l) = (w (ix2 2 l) * dc (ix2 ⟨8 + r.val, by omega⟩ l) + w (ix2 1 l) * dc (ix2 ⟨9 + r.val, by omega⟩ l))
      + w (ix2 0 l) * dc (ix2 ⟨10 + r.val, by omega⟩ l) := by
  pointwise [duOf, k0_pay9]
  have e1 : (⟨(8 + r.val + 528 - 527) % 528, Nat.mod_lt _ (by omega)⟩ : Fin 528) = ⟨9 + r.val, by omega⟩ := Fin.ext (by simp only []; omega)
  have e2 : (⟨(8 + r.val + 528 - 526) % 528, Nat.mod_lt _ (by omega)⟩ : Fin 528) = ⟨10 + r.val, by omega⟩ := Fin.ext (by simp only []; omega)
  rw [e1, e2]

theorem rowSum_at (e : FVec Ideal S528x256 .f32) (z : Fin 1) (l : Fin 256) :
    rowSum e (ix2 z l) = ∑ a : Fin 512, e (ix2 ⟨8 + a.val, by omega⟩ l) := by
  pointwise [rowSum]

/-- A rotated product at a row of the block. -/
theorem rot2_at (dc e : FVec Ideal S528x256 .f32) (a : Fin 512) (l : Fin 256) :
    mulf (dynamicRotate 0 526#32 none dc rotates_S528x256_d0) e (ix2 ⟨8 + a.val, by omega⟩ l)
    = dc (ix2 ⟨10 + a.val, by omega⟩ l) * e (ix2 ⟨8 + a.val, by omega⟩ l) := by
  pointwise []
  have e2 : (⟨(8 + a.val + 528 - 526) % 528, Nat.mod_lt _ (by omega)⟩ : Fin 528) = ⟨10 + a.val, by omega⟩ := Fin.ext (by simp only []; omega)
  rw [e2]

theorem rot1_at (dc e : FVec Ideal S528x256 .f32) (a : Fin 512) (l : Fin 256) :
    mulf (dynamicRotate 0 527#32 none dc rotates_S528x256_d0) e (ix2 ⟨8 + a.val, by omega⟩ l)
    = dc (ix2 ⟨9 + a.val, by omega⟩ l) * e (ix2 ⟨8 + a.val, by omega⟩ l) := by
  pointwise []
  have e2 : (⟨(8 + a.val + 528 - 527) % 528, Nat.mod_lt _ (by omega)⟩ : Fin 528) = ⟨9 + a.val, by omega⟩ := Fin.ext (by simp only []; omega)
  rw [e2]

/-- The first tap's gradient: the rotated product's sum, put right at the block's ends. -/
theorem dw0_at (dc e : FVec Ideal S528x256 .f32) (z : Fin 1) (l : Fin 256) :
    dw0 (mulf (dynamicRotate 0 526#32 none dc rotates_S528x256_d0) e) (ix2 z l)
    = (∑ a : Fin 512, dc (ix2 ⟨10 + a.val, by omega⟩ l) * e (ix2 ⟨8 + a.val, by omega⟩ l)) + dc (ix2 8 l) * e (ix2 6 l)
      + dc (ix2 9 l) * e (ix2 7 l) - dc (ix2 520 l) * e (ix2 518 l) - dc (ix2 521 l) * e (ix2 519 l) := by
  pointwise [dw0]
  simp only [rowSum_at]
  exact congrArg (fun s : EReal => s + dc (ix2 8 l) * e (ix2 6 l) + dc (ix2 9 l) * e (ix2 7 l) - dc (ix2 520 l) * e (ix2 518 l) - dc (ix2 521 l) * e (ix2 519 l))
    (Finset.sum_congr rfl fun a _ => rot2_at dc e a l)

theorem dw1_at (dc e : FVec Ideal S528x256 .f32) (z : Fin 1) (l : Fin 256) :
    dw1 (mulf (dynamicRotate 0 527#32 none dc rotates_S528x256_d0) e) (ix2 z l)
    = (∑ a : Fin 512, dc (ix2 ⟨9 + a.val, by omega⟩ l) * e (ix2 ⟨8 + a.val, by omega⟩ l)) + dc (ix2 8 l) * e (ix2 7 l)
      - dc (ix2 520 l) * e (ix2 519 l) := by
  pointwise [dw1]
  simp only [rowSum_at]
  exact congrArg (fun s : EReal => s + dc (ix2 8 l) * e (ix2 7 l) - dc (ix2 520 l) * e (ix2 519 l))
    (Finset.sum_congr rfl fun a _ => rot1_at dc e a l)

/-- The eight rows of a block's part. -/
theorem partsOf_at (dc e : FVec Ideal S528x256 .f32) (p : Fin 8) (l : Fin 256) :
    partsOf dc e (ix2 p l) = if p.val < 1 then dw0 (mulf (dynamicRotate 0 526#32 none dc rotates_S528x256_d0) e) (ix2 0 l)
      else if p.val < 2 then dw1 (mulf (dynamicRotate 0 527#32 none dc rotates_S528x256_d0) e) (ix2 0 l)
      else if p.val < 3 then rowSum (mulf dc e) (ix2 0 l) else if p.val < 4 then rowSum dc (ix2 0 l) else 0 := by
  pointwise [partsOf]
  have hz (n : ℕ) (hn : n < 1) : (⟨n, hn⟩ : Fin 1) = 0 := Fin.ext (by simp only [Fin.val_zero]; omega)
  by_cases h1 : p.val < 1
  · simp only [dif_pos h1, if_pos h1, hz]
  by_cases h2 : p.val < 2
  · simp only [dif_neg h1, if_neg h1, dif_pos (show p.val - 1 < 1 by omega), if_pos h2, hz]
  by_cases h3 : p.val < 3
  · simp only [dif_neg h1, if_neg h1, dif_neg (show ¬p.val - 1 < 1 by omega), if_neg h2, dif_pos (show p.val - 1 - 1 < 1 by omega), if_pos h3, hz]
  by_cases h4 : p.val < 4
  · simp only [dif_neg h1, if_neg h1, dif_neg (show ¬p.val - 1 < 1 by omega), if_neg h2, dif_neg (show ¬p.val - 1 - 1 < 1 by omega), if_neg h3,
      dif_pos (show p.val - 1 - 1 - 1 < 1 by omega), if_pos h4, hz]
  · simp only [dif_neg h1, if_neg h1, dif_neg (show ¬p.val - 1 < 1 by omega), if_neg h2, dif_neg (show ¬p.val - 1 - 1 < 1 by omega), if_neg h3,
      dif_neg (show ¬p.val - 1 - 1 - 1 < 1 by omega), if_neg h4]

theorem term_at (g v : FVec Ideal S512x256 .bf16) (wg wv : Vec Ideal S1x1024x256 .bf16) (r : Fin 512) (k : Fin 1024) :
    term g v wg wv (ix2 r k) = (∑ l : Fin 256, g (ix2 r l) * wg (ix3 0 k l)) + ∑ l : Fin 256, v (ix2 r l) * wv (ix3 0 k l) := by
  pointwise [term, k0_pay34]

end Cert.BwdPt

end
-- ==== Proof.BwdRef.lean ====
/- The reference's backward pass at an index: the convolution, the gradients at it, and the transposed convolution. -/
module

public import proofs.«01_k».proof.Defs
public import proofs.«01_k».proof.Proof.BwdPt
public import proofs.«01_k».proof.Proof.Gen.BwdRefIdeal
public import proofs.«01_k».proof.Proof.Gen.BwdRefIdeal.Read
public import Idealize.ShloMosaic.Lib.Pipeline.ValueKit
public import Idealize.ShloMosaic.Lib.Claim

public section

set_option maxRecDepth 16384

noncomputable section

namespace Cert.BwdRef

open Idealize.ShloMosaic Idealize.SL.Sem
open Cert.BwdRefIdeal Cert.BwdRefIdeal.Gen Cert.BwdRefIdeal.Read

variable (x0 : FVec Ideal S4096x1024 .bf16) (x1 : FVec Ideal S1024x8192 .f32) (x2 : FVec Ideal S3x8192 .f32) (x3 : FVec Ideal S8192 .f32)
  (x4 : FVec Ideal S4096x1024 .f32) (x5 : FVec Ideal S4096x1024 .bf16)

/-- The up product, two rows of zeros before it. -/
theorem pad_at (n : Fin 4098) (q : Fin 8192) : val_main_v25 (F := Ideal) x0 x1 (ix2 n q) = if h : n.val < 2 then 0 else val_main_v1 (F := Ideal) x0 x1 (ix2 ⟨n.val - 2, by omega⟩ q) := by
  pointwise [val_main_v25, val_main_v24, val_main_cst]

/-- The up product. -/
theorem up_at (n : Fin 4096) (q : Fin 8192) : val_main_v1 (F := Ideal) x0 x1 (ix2 n q) = ∑ k : Fin 1024, x0 (ix2 n k) * x1 (ix2 k q) := by
  pointwise [val_main_v1, val_main_v0]

/-- The convolution. -/
theorem conv_at (n : Fin 4096) (q : Fin 8192) : val_main_v37 (F := Ideal) x0 x1 x2 x3 (ix2 n q)
    = x3 (ix1 q) + (((0 + x2 (ix2 0 q) * val_main_v25 (F := Ideal) x0 x1 (ix2 ⟨n.val, by omega⟩ q)) + x2 (ix2 1 q) * val_main_v25 (F := Ideal) x0 x1 (ix2 ⟨1 + n.val, by omega⟩ q))
      + x2 (ix2 2 q) * val_main_v25 (F := Ideal) x0 x1 (ix2 ⟨2 + n.val, by omega⟩ q)) := by
  pointwise [val_main_v37, val_main_v36, val_main_v35, val_main_v34, val_main_v33, val_main_v32, val_main_v31, val_main_v30, val_main_v29, val_main_v28, val_main_v27, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_1]

/-- The gradient at the gated product. -/
theorem dy_at (n : Fin 4096) (q : Fin 4096) : val_main_v64 (F := Ideal) x4 x5 (ix2 n q) = ∑ k : Fin 1024, x5 (ix2 n k) * x4 (ix2 q k) := by
  pointwise [val_main_v64, val_main_v63]

/-- The gradient at the convolution: the gate's columns. -/
theorem dgate_at (n : Fin 4096) (q : Fin 4096) (p : Fin 8192) (hp : p.val = q.val) : val_main_v81 (F := Ideal) x0 x1 x2 x3 x4 x5 (ix2 n p)
    = 0 + val_main_v78 (F := Ideal) x0 x1 x2 x3 x4 x5 (ix2 n q) := by
  pointwise [val_main_v81, val_main_v80, val_main_v79, val_main_cst_12, val_main_cst_13]
  have hq : q.val < 4096 := q.isLt
  have hk : (⟨p.val, by omega⟩ : Fin 4096) = q := Fin.ext (by simp only []; omega)
  rw [dif_neg (show ¬(4096 ≤ p.val ∧ p.val - 4096 < 4096) by omega), dif_pos (show p.val < 4096 by omega), hk]
  exact zero_add (M := EReal) _

/-- The gradient at the convolution: the value's columns. -/
theorem dval_at (n : Fin 4096) (q : Fin 4096) (p : Fin 8192) (hp : p.val = 4096 + q.val) : val_main_v81 (F := Ideal) x0 x1 x2 x3 x4 x5 (ix2 n p)
    = val_main_v65 (F := Ideal) x0 x1 x2 x3 x4 x5 (ix2 n q) + 0 := by
  pointwise [val_main_v81, val_main_v80, val_main_v79, val_main_cst_12, val_main_cst_13]
  have hq : q.val < 4096 := q.isLt
  have hk : (⟨p.val - 4096, by omega⟩ : Fin 4096) = q := Fin.ext (by simp only []; omega)
  rw [dif_pos (show 4096 ≤ p.val ∧ p.val - 4096 < 4096 by omega), dif_neg (show ¬p.val < 4096 by omega), hk]
  exact add_zero (M := EReal) _

/-- The value's gradient, of the gate and the gradient at the product. -/
theorem v65_at (n : Fin 4096) (q : Fin 4096) : val_main_v65 (F := Ideal) x0 x1 x2 x3 x4 x5 (ix2 n q)
    = val_main_v38 (F := Ideal) x0 x1 x2 x3 (ix2 n q) * (Ideal.ofBits .f32 0x3F000000#32 * (Ideal.ofBits .f32 0x3F800000#32 + BwdPt.th (val_main_v38 (F := Ideal) x0 x1 x2 x3 (ix2 n q))))
      * val_main_v64 (F := Ideal) x4 x5 (ix2 n q) := by
  pointwise [val_main_v65, val_main_v60, val_main_v59, val_main_v58, val_main_v57, val_main_v56, val_main_v50, val_main_v49, val_main_v48, val_main_v47, val_main_v46, val_main_v45, val_main_v41, val_main_v40, val_main_cst_3, val_main_cst_4, val_main_cst_7, val_main_cst_8]
  rfl

/-- The gate's gradient. -/
theorem v78_at (n : Fin 4096) (q : Fin 4096) (g v y : EReal) (hg : val_main_v38 (F := Ideal) x0 x1 x2 x3 (ix2 n q) = g)
    (hv : val_main_v39 (F := Ideal) x0 x1 x2 x3 (ix2 n q) = v) (hy : val_main_v64 (F := Ideal) x4 x5 (ix2 n q) = y) :
    val_main_v78 (F := Ideal) x0 x1 x2 x3 x4 x5 (ix2 n q)
    = (y * v * (Ideal.ofBits .f32 0x3F000000#32 * (Ideal.ofBits .f32 0x3F800000#32 + BwdPt.th g))
      + Ideal.ofBits .f32 0x3F4C422A#32 * (Ideal.ofBits .f32 0x3F000000#32 * (g * (y * v)) * ((Ideal.ofBits .f32 0x3F800000#32 + BwdPt.th g) * (Ideal.ofBits .f32 0x3F800000#32 - BwdPt.th g))))
      + Ideal.ofBits .f32 0x3D372713#32 * (Ideal.ofBits .f32 0x3F4C422A#32 * (Ideal.ofBits .f32 0x3F000000#32 * (g * (y * v)) * ((Ideal.ofBits .f32 0x3F800000#32 + BwdPt.th g) * (Ideal.ofBits .f32 0x3F800000#32 - BwdPt.th g))))
        * (Ideal.ofBits .f32 0x40400000#32 * (g * g)) := by
  pointwise [val_main_v78, val_main_v77, val_main_v76, val_main_v75, val_main_v74, val_main_v73, val_main_v72, val_main_v71, val_main_v70, val_main_v69, val_main_v68, val_main_v67, val_main_v66, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst_2, val_main_cst_3, val_main_cst_4, val_main_cst_5, val_main_cst_6, val_main_cst_7, val_main_cst_8, val_main_cst_9, val_main_cst_10, val_main_cst_11]
  simp only [hg, hv, hy]
  rfl

theorem gate_at (n q : Fin 4096) : val_main_v38 (F := Ideal) x0 x1 x2 x3 (ix2 n q) = val_main_v37 (F := Ideal) x0 x1 x2 x3 (ix2 n ⟨q.val, by omega⟩) := by
  pointwise [val_main_v38]

theorem val_at (n q : Fin 4096) : val_main_v39 (F := Ideal) x0 x1 x2 x3 (ix2 n q) = val_main_v37 (F := Ideal) x0 x1 x2 x3 (ix2 n ⟨4096 + q.val, by omega⟩) := by
  pointwise [val_main_v39]

/-- The gradient at the convolution by its row's number, zero past the last row. -/
@[expose] def dz (n : Nat) (q : Fin 8192) : EReal := if h : n < 4096 then val_main_v81 (F := Ideal) x0 x1 x2 x3 x4 x5 (ix2 ⟨n, h⟩ q) else 0

/-- The up product's gradient is the convolution transposed. -/
theorem du_at (n : Fin 4096) (q : Fin 8192) : val_main_v94 (F := Ideal) x0 x1 x2 x3 x4 x5 (ix2 n q)
    = (x2 (ix2 2 q) * dz x0 x1 x2 x3 x4 x5 n.val q + x2 (ix2 1 q) * dz x0 x1 x2 x3 x4 x5 (n.val + 1) q) + x2 (ix2 0 q) * dz x0 x1 x2 x3 x4 x5 (n.val + 2) q := by
  pointwise [val_main_v94, val_main_v92, val_main_v91, val_main_v89, val_main_v88, val_main_v87, val_main_v85, val_main_v84, val_main_v82, val_main_v20, val_main_v19, val_main_v18, val_main_v17, val_main_v16, val_main_v15, val_main_v14, val_main_v13, val_main_v12, val_main_v10, val_main_v9, val_main_v8, val_main_v7, val_main_v6, val_main_v5, val_main_v4, val_main_v3, val_main_v2, val_main_cst_14, val_main_cst_15, val_main_cst_16]
  have hn : n.val < 4096 := n.isLt
  have e0 : dz x0 x1 x2 x3 x4 x5 n.val q = val_main_v81 (F := Ideal) x0 x1 x2 x3 x4 x5 (ix2 n q) := dif_pos hn
  rw [e0]
  congr 2
  · by_cases h : n.val + 1 < 4096
    · rw [dif_pos (show 1 ≤ 2 + n.val ∧ 2 + n.val - 1 < 4096 by omega), dz, dif_pos h]
      have e : (⟨2 + n.val - 1, by omega⟩ : Fin 4096) = ⟨n.val + 1, h⟩ := Fin.ext (by simp only []; omega)
      rw [e]
    · rw [dif_neg (show ¬(1 ≤ 2 + n.val ∧ 2 + n.val - 1 < 4096) by omega), dz, dif_neg h]
      exact (mul_zero (M₀ := EReal) _).symm
  · by_cases h : n.val + 2 < 4096
    · rw [dif_pos (show 2 + n.val < 4096 by omega), dz, dif_pos h]
      have e : (⟨2 + n.val, by omega⟩ : Fin 4096) = ⟨n.val + 2, h⟩ := Fin.ext (by simp only []; omega)
      rw [e]
    · rw [dif_neg (show ¬2 + n.val < 4096 by omega), dz, dif_neg h]
      exact (mul_zero (M₀ := EReal) _).symm

/-- The gradient at the call's input. -/
theorem dh_at (n : Fin 4096) (k : Fin 1024) : val_main_v111 (F := Ideal) x0 x1 x2 x3 x4 x5 (ix2 n k)
    = ∑ q : Fin 8192, val_main_v94 (F := Ideal) x0 x1 x2 x3 x4 x5 (ix2 n q) * x1 (ix2 k q) := by
  pointwise [val_main_v111]

/-- The padded up product by its row's number. -/
@[expose] def uz (n : Nat) (q : Fin 8192) : EReal := if h : n < 4098 then val_main_v25 (F := Ideal) x0 x1 (ix2 ⟨n, h⟩ q) else 0

/-- The first tap's row. -/
theorem row0_at (i : Fin 8) (z : Fin 1) (q : Fin 8192) : val_main_v113 (F := Ideal) x0 x1 x2 x3 x4 x5 (ix3 i z q)
    = ∑ a : Fin 512, val_main_v81 (F := Ideal) x0 x1 x2 x3 x4 x5 (ix2 ⟨512 * i.val + a.val, by omega⟩ q) * val_main_v25 (F := Ideal) x0 x1 (ix2 ⟨512 * i.val + a.val, by omega⟩ q) := by
  pointwise [val_main_v113, val_main_v110, val_main_v109, val_main_v108, val_main_v107, val_main_v90, val_main_v27, val_main_cst_23, val_main_cst_24]
  refine (Fintype.sum_unique _).trans (Finset.sum_congr rfl fun a _ => ?_)
  simp only [Nat.mul_comm i.val 512]

/-- The second tap's row. -/
theorem row1_at (i : Fin 8) (z : Fin 1) (q : Fin 8192) : val_main_v114 (F := Ideal) x0 x1 x2 x3 x4 x5 (ix3 i z q)
    = ∑ a : Fin 512, val_main_v81 (F := Ideal) x0 x1 x2 x3 x4 x5 (ix2 ⟨512 * i.val + a.val, by omega⟩ q) * val_main_v25 (F := Ideal) x0 x1 (ix2 ⟨512 * i.val + a.val + 1, by omega⟩ q) := by
  pointwise [val_main_v114, val_main_v106, val_main_v105, val_main_v104, val_main_v103, val_main_v86, val_main_v31, val_main_cst_21, val_main_cst_22]
  refine (Fintype.sum_unique _).trans (Finset.sum_congr rfl fun a _ => ?_)
  simp only [Nat.mul_comm i.val 512, Nat.add_comm 1]

/-- The last tap's row. -/
theorem row2_at (i : Fin 8) (z : Fin 1) (q : Fin 8192) : val_main_v115 (F := Ideal) x0 x1 x2 x3 x4 x5 (ix3 i z q)
    = ∑ a : Fin 512, val_main_v81 (F := Ideal) x0 x1 x2 x3 x4 x5 (ix2 ⟨512 * i.val + a.val, by omega⟩ q) * val_main_v25 (F := Ideal) x0 x1 (ix2 ⟨512 * i.val + a.val + 2, by omega⟩ q) := by
  pointwise [val_main_v115, val_main_v102, val_main_v101, val_main_v100, val_main_v99, val_main_v83, val_main_v34, val_main_cst_19, val_main_cst_20]
  refine (Fintype.sum_unique _).trans (Finset.sum_congr rfl fun a _ => ?_)
  simp only [Nat.mul_comm i.val 512, Nat.add_comm 2]

/-- The bias's row. -/
theorem row3_at (i : Fin 8) (z : Fin 1) (q : Fin 8192) : val_main_v116 (F := Ideal) x0 x1 x2 x3 x4 x5 (ix3 i z q)
    = ∑ a : Fin 512, val_main_v81 (F := Ideal) x0 x1 x2 x3 x4 x5 (ix2 ⟨512 * i.val + a.val, by omega⟩ q) := by
  pointwise [val_main_v116, val_main_v98, val_main_v97, val_main_v96, val_main_v95, val_main_cst_17, val_main_cst_18]
  refine (Fintype.sum_unique _).trans (Finset.sum_congr rfl fun a _ => ?_)
  simp only [Nat.mul_comm i.val 512]

/-- The eight rows of a block's part. -/
theorem parts_at (p : Fin 64) (q : Fin 8192) (i : Fin 8) (b : Fin 8) (hp : p.val = 8 * i.val + b.val) : val_main_v118 (F := Ideal) x0 x1 x2 x3 x4 x5 (ix2 p q)
    = if b.val < 1 then ∑ a : Fin 512, dz x0 x1 x2 x3 x4 x5 (512 * i.val + a.val) q * uz x0 x1 (512 * i.val + a.val) q
      else if b.val < 2 then ∑ a : Fin 512, dz x0 x1 x2 x3 x4 x5 (512 * i.val + a.val) q * uz x0 x1 (512 * i.val + a.val + 1) q
      else if b.val < 3 then ∑ a : Fin 512, dz x0 x1 x2 x3 x4 x5 (512 * i.val + a.val) q * uz x0 x1 (512 * i.val + a.val + 2) q
      else if b.val < 4 then ∑ a : Fin 512, dz x0 x1 x2 x3 x4 x5 (512 * i.val + a.val) q else 0 := by
  pointwise [val_main_v118, val_main_v117]
  have hi : i.val < 8 := i.isLt
  have hb : b.val < 8 := b.isLt
  have hm : p.val % 8 = b.val := by omega
  have hx : p.val / 8 = i.val := by omega
  have hdz (a : Fin 512) : dz x0 x1 x2 x3 x4 x5 (512 * i.val + a.val) q = val_main_v81 (F := Ideal) x0 x1 x2 x3 x4 x5 (ix2 ⟨512 * i.val + a.val, by omega⟩ q) :=
    dif_pos (by omega)
  have huz (n : ℕ) (hn : n < 4098) : uz x0 x1 n q = val_main_v25 (F := Ideal) x0 x1 (ix2 ⟨n, hn⟩ q) := dif_pos hn
  by_cases h1 : b.val < 1
  · rw [dif_pos (by omega), if_pos h1, row0_at]
    exact Finset.sum_congr rfl fun a _ => by rw [hdz, huz _ (by omega)]; simp only [hx]
  by_cases h2 : b.val < 2
  · rw [dif_neg (by omega), if_neg h1, dif_pos (by omega), if_pos h2, row1_at]
    exact Finset.sum_congr rfl fun a _ => by rw [hdz, huz _ (by omega)]; simp only [hx]
  by_cases h3 : b.val < 3
  · rw [dif_neg (by omega), if_neg h1, dif_neg (by omega), if_neg h2, dif_pos (by omega), if_pos h3, row2_at]
    exact Finset.sum_congr rfl fun a _ => by rw [hdz, huz _ (by omega)]; simp only [hx]
  by_cases h4 : b.val < 4
  · rw [dif_neg (by omega), if_neg h1, dif_neg (by omega), if_neg h2, dif_neg (by omega), if_neg h3, dif_pos (by omega), if_pos h4, row3_at]
    exact Finset.sum_congr rfl fun a _ => by rw [hdz]; simp only [hx]
  · rw [dif_neg (by omega), if_neg h1, dif_neg (by omega), if_neg h2, dif_neg (by omega), if_neg h3, dif_neg (by omega), if_neg h4]
    pointwise [val_main_v112, val_main_cst_25]

end Cert.BwdRef

end
-- ==== Proof.BwdBlk.lean ====
/- The backward call's blocks: what each holds of the arguments. -/
module

public import proofs.«01_k».proof.Proof.BwdRef
public import proofs.«01_k».proof.Proof.Gen.BwdIdeal.Value

public section

set_option maxRecDepth 16384

noncomputable section

namespace Cert.BwdBlk

open Idealize.ShloMosaic Idealize.ShloMosaic.TcCoe Idealize.SL.Sem
open Idealize.ShloMosaic.Pipeline (Dat)
open Cert.BwdIdeal Cert.BwdIdeal.Gen Cert.BwdCore

variable (m : (ℓ : Loc nD τ sig) → Buf (Elt Ideal) ℓ)

/-- A grid point's number is below 32. -/
theorem lt_points (t : Fin cfg0.N) : t.val < 32 := lt_of_lt_of_eq t.isLt (show cfg0.N = 32 from N_0)

/-- Where each window's block lies, as a function of the grid point. -/
theorem idx_val : ∀ t : Fin cfg0.N, win0_0.index t = ![t.val / 4, t.val % 4] ∧ win0_1.index t = ![t.val / 4, t.val % 4]
    ∧ win0_2.index t = ![t.val / 4 * 64 - 1, t.val % 4] ∧ win0_3.index t = ![t.val / 4 * 64 - 1, t.val % 4]
    ∧ win0_4.index t = ![min (t.val / 4 * 64 + 64) 511, t.val % 4] ∧ win0_5.index t = ![min (t.val / 4 * 64 + 64) 511, t.val % 4]
    ∧ win0_6.index t = ![t.val / 4, 0] ∧ win0_7.index t = ![min (t.val / 4 * 32 + 32) 255, 0]
    ∧ win0_8.index t = ![t.val % 4, 0] ∧ win0_9.index t = ![t.val % 4, 0, 0] ∧ win0_10.index t = ![4 + t.val % 4, 0, 0]
    ∧ win0_11.index t = ![0, t.val % 4] ∧ win0_12.index t = ![0, t.val % 4]
    ∧ win0_13.index t = ![0, t.val % 4] ∧ win0_14.index t = ![0, t.val % 4]
    ∧ win0_15.index t = ![t.val / 4, t.val % 4] ∧ win0_16.index t = ![t.val / 4, t.val % 4] ∧ win0_17.index t = ![t.val / 4, 0]
    ∧ win0_18.index t = ![t.val / 4, t.val % 4] ∧ win0_19.index t = ![t.val / 4, t.val % 4] ∧ (grid0.coords t 0).val = t.val / 4 :=
  (by decide +kernel : ∀ t : Fin grid0.N, _)

theorem row_block (t : Fin cfg0.N) : (grid0.coords t 0).val = t.val / 4 := by
  obtain ⟨-, -, -, -, -, -, -, -, -, -, -, -, -, -, -, -, -, -, -, -, h⟩ := idx_val t; exact h

variable (c : Dev nD) (t : Fin cfg0.N)

/-- The up product that the host computes is the reference's. -/
theorem host_up : V m c main_v1 = BwdRefIdeal.Read.val_main_v1 (F := Ideal) (m ((c : Thread nD τ).loc main_arg0)) (m ((c : Thread nD τ).loc main_arg1)) := rfl

/-- Its gate half. -/
theorem host_ug (n : Fin 4096) (p : Fin 4096) (q : Fin 8192) (hq : q.val = p.val) : V m c main_v2 (ix2 n p)
    = BwdRefIdeal.Read.val_main_v1 (F := Ideal) (m ((c : Thread nD τ).loc main_arg0)) (m ((c : Thread nD τ).loc main_arg1)) (ix2 n q) := by
  refine (show V m c main_v2 (ix2 n p) = extractStridedSlice S4096x4096 ![0, 0] (V m c main_v1) slices_S4096x8192_S4096x4096_0_0 (ix2 n p) from rfl).trans ?_
  rw [host_up]
  pointwise []
  exact congrArg (fun z => BwdRefIdeal.Read.val_main_v1 (F := Ideal) (m ((c : Thread nD τ).loc main_arg0)) (m ((c : Thread nD τ).loc main_arg1)) (ix2 n z)) (Fin.ext hq.symm)

/-- Its value half. -/
theorem host_uv (n : Fin 4096) (p : Fin 4096) (q : Fin 8192) (hq : q.val = 4096 + p.val) : V m c main_v3 (ix2 n p)
    = BwdRefIdeal.Read.val_main_v1 (F := Ideal) (m ((c : Thread nD τ).loc main_arg0)) (m ((c : Thread nD τ).loc main_arg1)) (ix2 n q) := by
  refine (show V m c main_v3 (ix2 n p) = extractStridedSlice S4096x4096 ![0, 4096] (V m c main_v1) slices_S4096x8192_S4096x4096_0_4096 (ix2 n p) from rfl).trans ?_
  rw [host_up]
  pointwise []
  exact congrArg (fun z => BwdRefIdeal.Read.val_main_v1 (F := Ideal) (m ((c : Thread nD τ).loc main_arg0)) (m ((c : Thread nD τ).loc main_arg1)) (ix2 n z)) (Fin.ext hq.symm)

theorem blk0 (r : Fin 512) (l : Fin 1024) (n : Fin 4096) (hn : n.val = 512 * (t.val / 4) + r.val) (q : Fin 8192) (hq : q.val = 1024 * (t.val % 4) + l.val) :
    iblk m c 0 t (ix2 r l) = BwdRefIdeal.Read.val_main_v1 (F := Ideal) (m ((c : Thread nD τ).loc main_arg0)) (m ((c : Thread nD τ).loc main_arg1)) (ix2 n q) := by
  have e : iblk m c 0 t (ix2 r l) = V m c main_v2 (ix2 n ⟨1024 * (t.val % 4) + l.val, by omega⟩) := by
    blk_ext [iblk, idx_val t]
  exact e.trans (host_ug m c n _ q hq)

theorem blk1 (r : Fin 512) (l : Fin 1024) (n : Fin 4096) (hn : n.val = 512 * (t.val / 4) + r.val) (q : Fin 8192) (hq : q.val = 4096 + (1024 * (t.val % 4) + l.val)) :
    iblk m c 1 t (ix2 r l) = BwdRefIdeal.Read.val_main_v1 (F := Ideal) (m ((c : Thread nD τ).loc main_arg0)) (m ((c : Thread nD τ).loc main_arg1)) (ix2 n q) := by
  have e : iblk m c 1 t (ix2 r l) = V m c main_v3 (ix2 n ⟨1024 * (t.val % 4) + l.val, by omega⟩) := by
    blk_ext [iblk, idx_val t]
  exact e.trans (host_uv m c n _ q hq)

theorem blk2 (h : 0 < t.val / 4) (r : Fin 8) (l : Fin 1024) (n : Fin 4096) (hn : n.val + 8 = 512 * (t.val / 4) + r.val) (q : Fin 8192) (hq : q.val = 1024 * (t.val % 4) + l.val) :
    iblk m c 2 t (ix2 r l) = BwdRefIdeal.Read.val_main_v1 (F := Ideal) (m ((c : Thread nD τ).loc main_arg0)) (m ((c : Thread nD τ).loc main_arg1)) (ix2 n q) := by
  have e : iblk m c 2 t (ix2 r l) = V m c main_v2 (ix2 n ⟨1024 * (t.val % 4) + l.val, by omega⟩) := by
    blk_ext [iblk, idx_val t]
  exact e.trans (host_ug m c n _ q hq)

theorem blk3 (h : 0 < t.val / 4) (r : Fin 8) (l : Fin 1024) (n : Fin 4096) (hn : n.val + 8 = 512 * (t.val / 4) + r.val) (q : Fin 8192) (hq : q.val = 4096 + (1024 * (t.val % 4) + l.val)) :
    iblk m c 3 t (ix2 r l) = BwdRefIdeal.Read.val_main_v1 (F := Ideal) (m ((c : Thread nD τ).loc main_arg0)) (m ((c : Thread nD τ).loc main_arg1)) (ix2 n q) := by
  have e : iblk m c 3 t (ix2 r l) = V m c main_v3 (ix2 n ⟨1024 * (t.val % 4) + l.val, by omega⟩) := by
    blk_ext [iblk, idx_val t]
  exact e.trans (host_uv m c n _ q hq)

theorem blk4 (h : t.val / 4 < 7) (r : Fin 8) (l : Fin 1024) (n : Fin 4096) (hn : n.val = 512 * (t.val / 4) + 512 + r.val) (q : Fin 8192) (hq : q.val = 1024 * (t.val % 4) + l.val) :
    iblk m c 4 t (ix2 r l) = BwdRefIdeal.Read.val_main_v1 (F := Ideal) (m ((c : Thread nD τ).loc main_arg0)) (m ((c : Thread nD τ).loc main_arg1)) (ix2 n q) := by
  have e : iblk m c 4 t (ix2 r l) = V m c main_v2 (ix2 n ⟨1024 * (t.val % 4) + l.val, by omega⟩) := by
    blk_ext [iblk, idx_val t]
  exact e.trans (host_ug m c n _ q hq)

theorem blk5 (h : t.val / 4 < 7) (r : Fin 8) (l : Fin 1024) (n : Fin 4096) (hn : n.val = 512 * (t.val / 4) + 512 + r.val) (q : Fin 8192) (hq : q.val = 4096 + (1024 * (t.val % 4) + l.val)) :
    iblk m c 5 t (ix2 r l) = BwdRefIdeal.Read.val_main_v1 (F := Ideal) (m ((c : Thread nD τ).loc main_arg0)) (m ((c : Thread nD τ).loc main_arg1)) (ix2 n q) := by
  have e : iblk m c 5 t (ix2 r l) = V m c main_v3 (ix2 n ⟨1024 * (t.val % 4) + l.val, by omega⟩) := by
    blk_ext [iblk, idx_val t]
  exact e.trans (host_uv m c n _ q hq)

theorem blk6 (r : Fin 512) (k : Fin 1024) (n : Fin 4096) (hn : n.val = 512 * (t.val / 4) + r.val) :
    iblk m c 6 t (ix2 r k) = m ((c : Thread nD τ).loc main_arg5) (ix2 n k) := by
  blk_point [iblk, V, idx_val t]

theorem blk7 (h : t.val / 4 < 7) (r : Fin 16) (k : Fin 1024) (n : Fin 4096) (hn : n.val = 512 * (t.val / 4) + 512 + r.val) :
    iblk m c 7 t (ix2 r k) = m ((c : Thread nD τ).loc main_arg5) (ix2 n k) := by
  blk_point [iblk, V, idx_val t]

theorem blk8 (l : Fin 1024) (k : Fin 1024) (q : Fin 4096) (hq : q.val = 1024 * (t.val % 4) + l.val) :
    iblk m c 8 t (ix2 l k) = m ((c : Thread nD τ).loc main_arg4) (ix2 q k) := by
  blk_point [iblk, V, idx_val t]

theorem blk9 (k : Fin 1024) (l : Fin 1024) (q : Fin 8192) (hq : q.val = 1024 * (t.val % 4) + l.val) :
    iblk m c 9 t (ix3 0 k l) = m ((c : Thread nD τ).loc main_arg1) (ix2 k q) := by
  blk_point [iblk, V, idx_val t]

theorem blk10 (k : Fin 1024) (l : Fin 1024) (q : Fin 8192) (hq : q.val = 4096 + (1024 * (t.val % 4) + l.val)) :
    iblk m c 10 t (ix3 0 k l) = m ((c : Thread nD τ).loc main_arg1) (ix2 k q) := by
  blk_point [iblk, V, idx_val t]

theorem blk11 (w : Fin 3) (l : Fin 1024) (q : Fin 8192) (hq : q.val = 1024 * (t.val % 4) + l.val) :
    iblk m c 11 t (ix2 w l) = m ((c : Thread nD τ).loc main_arg2) (ix2 w q) := by
  blk_point [iblk, V, idx_val t]

theorem blk12 (w : Fin 3) (l : Fin 1024) (q : Fin 8192) (hq : q.val = 4096 + (1024 * (t.val % 4) + l.val)) :
    iblk m c 12 t (ix2 w l) = m ((c : Thread nD τ).loc main_arg2) (ix2 w q) := by
  blk_point [iblk, V, idx_val t]

theorem blk13 (l : Fin 1024) (q : Fin 8192) (hq : q.val = 1024 * (t.val % 4) + l.val) :
    iblk m c 13 t (ix2 0 l) = m ((c : Thread nD τ).loc main_arg3) (ix1 q) := by
  blk_point [iblk, V, idx_val t]

theorem blk14 (l : Fin 1024) (q : Fin 8192) (hq : q.val = 4096 + (1024 * (t.val % 4) + l.val)) :
    iblk m c 14 t (ix2 0 l) = m ((c : Thread nD τ).loc main_arg3) (ix1 q) := by
  blk_point [iblk, V, idx_val t]

theorem cols_at {R : Nat} {e : EltTy} (X : Vec Ideal ⟨2, ![R, 1024]⟩ e) (s : Fin 4) (r : Fin R) (l : Fin 256) :
    cols X s (ix2 r l) = X (ix2 r ⟨256 * s.val + l.val, by omega⟩) := by
  unfold cols
  pointwise []
  refine congrArg X (funext fun a => Fin.ext ?_)
  match a with
  | ⟨0, _⟩ => exact Nat.zero_add _
  | ⟨1, _⟩ => rfl

theorem rows_at (X : Vec Ideal S1024x1024 .bf16) (s : Fin 4) (l : Fin 256) (k : Fin 1024) :
    rows X s (ix2 l k) = X (ix2 ⟨256 * s.val + l.val, by omega⟩ k) := by
  unfold rows
  pointwise!

theorem cols3_at (X : Vec Ideal S1x1024x1024 .bf16) (s : Fin 4) (k : Fin 1024) (l : Fin 256) :
    cols3 X s (ix3 0 k l) = X (ix3 0 k ⟨256 * s.val + l.val, by omega⟩) := by
  unfold cols3
  pointwise!

theorem all6_eq (X : Vec Ideal S512x1024 .bf16) : all6 X = X := by
  unfold all6
  funext j
  idx_vars j
  pointwise!

theorem all7_eq (X : Vec Ideal S16x1024 .bf16) : all7 X = X := by
  unfold all7
  funext j
  idx_vars j
  pointwise!

theorem allAcc_eq (X : Vec Ideal S512x1024 .f32) : allAcc X = X := by
  unfold allAcc
  funext j
  idx_vars j
  pointwise!

end Cert.BwdBlk

end
-- ==== Proof.BwdReal.lean ====
/- Real values among the extended reals: what the backward pass computes of real arguments is real, and there the kernel's form of
   the gate's gradient is the reference's, and the sums corrected at a block's ends are the shifted sums. -/
module

public import proofs.«01_k».proof.Proof.BwdPt
public import proofs.«01_k».proof.Proof.BwdRef

public section

set_option maxRecDepth 16384

noncomputable section

namespace Cert.BwdReal

open Idealize.ShloMosaic

/-- A real number. -/
@[expose] def IsR (x : EReal) : Prop := ∃ r : ℝ, x = (r : EReal)

theorem IsR.coe (r : ℝ) : IsR (r : EReal) := ⟨r, rfl⟩

theorem IsR.zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.tanh {x : EReal} (hx : IsR x) : IsR (Ideal.tanh x) := by
  obtain ⟨a, rfl⟩ := hx; exact ⟨Real.tanh a, rfl⟩

theorem IsR.sum {n : Nat} {f : Fin n → EReal} (h : ∀ k, IsR (f k)) : IsR (∑ k : Fin n, f k) :=
  Finset.sum_induction _ IsR (fun _ _ => IsR.add) IsR.zero fun k _ => h k

/-- A value whose absolute value is below infinity is real. -/
theorem IsR.of_ne {x : EReal} (h1 : x ≠ ⊤) (h2 : x ≠ ⊥) : IsR x := ⟨x.toReal, (EReal.coe_toReal h1 h2).symm⟩

theorem half_val : Ideal.ofBits .f32 0x3F000000#32 = ((1 / 2 : ℝ) : EReal) := by
  simp [Ideal.ofBits, Ideal.ieee, -EReal.coe_mul]; norm_num

theorem one_val : Ideal.ofBits .f32 0x3F800000#32 = ((1 : ℝ) : EReal) := by
  simp [Ideal.ofBits, Ideal.ieee, -EReal.coe_mul]; norm_num

theorem three_val : Ideal.ofBits .f32 0x40400000#32 = ((3 : ℝ) : EReal) := by
  simp [Ideal.ofBits, Ideal.ieee, -EReal.coe_mul]; norm_num

theorem c_val : Ideal.ofBits .f32 0x3F4C422A#32 = ((13386282 / 16777216 : ℝ) : EReal) := by
  simp [Ideal.ofBits, Ideal.ieee, -EReal.coe_mul]; norm_num

theorem k_val : Ideal.ofBits .f32 0x3D372713#32 = ((12003091 / 268435456 : ℝ) : EReal) := by
  simp [Ideal.ofBits, Ideal.ieee, -EReal.coe_mul]; norm_num

theorem IsR.th {g : EReal} (hg : IsR g) : IsR (BwdPt.th g) := by
  unfold BwdPt.th
  rw [c_val, k_val]
  exact ((IsR.coe _).mul (hg.add ((IsR.coe _).mul ((hg.mul hg).mul hg)))).tanh

/-- The kernel's form of the gate's gradient is the reference's. -/
theorem gate_eq {y v g : EReal} (hy : IsR y) (hv : IsR v) (hg : IsR g) :
    y * v * (Ideal.ofBits .f32 0x3F000000#32 * (Ideal.ofBits .f32 0x3F800000#32 + BwdPt.th g)
      + Ideal.ofBits .f32 0x3F000000#32 * g * (Ideal.ofBits .f32 0x3F800000#32 - BwdPt.th g * BwdPt.th g)
        * (Ideal.ofBits .f32 0x3F4C422A#32 + ((241015141496493 / 2251799813685248 : ℝ) : EReal) * (g * g)))
    = (y * v * (Ideal.ofBits .f32 0x3F000000#32 * (Ideal.ofBits .f32 0x3F800000#32 + BwdPt.th g))
      + Ideal.ofBits .f32 0x3F4C422A#32 * (Ideal.ofBits .f32 0x3F000000#32 * (g * (y * v)) * ((Ideal.ofBits .f32 0x3F800000#32 + BwdPt.th g) * (Ideal.ofBits .f32 0x3F800000#32 - BwdPt.th g))))
      + Ideal.ofBits .f32 0x3D372713#32 * (Ideal.ofBits .f32 0x3F4C422A#32 * (Ideal.ofBits .f32 0x3F000000#32 * (g * (y * v)) * ((Ideal.ofBits .f32 0x3F800000#32 + BwdPt.th g) * (Ideal.ofBits .f32 0x3F800000#32 - BwdPt.th g))))
        * (Ideal.ofBits .f32 0x40400000#32 * (g * g)) := by
  obtain ⟨T, hT⟩ := hg.th
  rw [hT, half_val, one_val, three_val, c_val, k_val]
  obtain ⟨y, rfl⟩ := hy
  obtain ⟨v, rfl⟩ := hv
  obtain ⟨g, rfl⟩ := hg
  simp only [← EReal.coe_mul, ← EReal.coe_add, ← EReal.coe_sub]
  congr 1
  ring

/-- The value's gradient, its factors in the reference's order. -/
theorem val_eq (y g h o : EReal) : y * (h * g * o) = g * (h * o) * y := by
  rw [mul_comm h g, mul_assoc g h o, mul_comm y]

/-- A sum one further along, put right at its ends. -/
theorem shift_one (f : Nat → EReal) (h : IsR (f 512)) :
    (∑ a : Fin 512, f (a.val + 1)) + f 0 - f 512 = ∑ a : Fin 512, f a.val := by
  obtain ⟨r, hr⟩ := h
  rw [Fin.sum_univ_eq_sum_range (fun a => f (a + 1)) 512, Fin.sum_univ_eq_sum_range f 512, ← Finset.sum_range_succ', Finset.sum_range_succ, hr]
  exact EReal.add_sub_cancel_right

/-- A sum two further along, put right at its ends. -/
theorem shift_two (f : Nat → EReal) (h : IsR (f 512)) (h' : IsR (f 513)) :
    (∑ a : Fin 512, f (a.val + 2)) + f 0 + f 1 - f 512 - f 513 = ∑ a : Fin 512, f a.val := by
  obtain ⟨r, hr⟩ := h
  obtain ⟨r', hr'⟩ := h'
  have e : (∑ a ∈ Finset.range 512, f (a + 2)) + f 0 + f 1 = (∑ a ∈ Finset.range 512, f a) + f 513 + f 512 := by
    have h1 := Finset.sum_range_succ' (fun a => f (a + 1)) 512
    have h2 := Finset.sum_range_succ' f 513
    have h3 := Finset.sum_range_succ f 513
    have h4 := Finset.sum_range_succ f 512
    rw [add_right_comm, ← h1, ← h2, h3, h4, add_right_comm]
  rw [Fin.sum_univ_eq_sum_range (fun a => f (a + 2)) 512, Fin.sum_univ_eq_sum_range f 512, e, hr, hr', EReal.add_sub_cancel_right,
    EReal.add_sub_cancel_right]

open Cert.BwdRefIdeal Cert.BwdRefIdeal.Gen Cert.BwdRefIdeal.Read Idealize.SL.Sem

section ref

variable (x0 : FVec Ideal S4096x1024 .bf16) (x1 : FVec Ideal S1024x8192 .f32) (x2 : FVec Ideal S3x8192 .f32) (x3 : FVec Ideal S8192 .f32)
  (x4 : FVec Ideal S4096x1024 .f32) (x5 : FVec Ideal S4096x1024 .bf16)
  (h0 : ∀ j, IsR (x0 j)) (h1 : ∀ j, IsR (x1 j)) (h2 : ∀ j, IsR (x2 j)) (h3 : ∀ j, IsR (x3 j)) (h4 : ∀ j, IsR (x4 j)) (h5 : ∀ j, IsR (x5 j))

include h0 h1 in
theorem pad_real (n : Fin 4098) (q : Fin 8192) : IsR (val_main_v25 (F := Ideal) x0 x1 (ix2 n q)) := by
  rw [BwdRef.pad_at]
  split
  · exact IsR.zero
  · rw [BwdRef.up_at]
    exact IsR.sum fun k => (h0 _).mul (h1 _)

include h0 h1 h2 h3 in
theorem conv_real (n : Fin 4096) (q : Fin 8192) : IsR (val_main_v37 (F := Ideal) x0 x1 x2 x3 (ix2 n q)) := by
  rw [BwdRef.conv_at]
  have hp := pad_real x0 x1 h0 h1
  exact (h3 _).add (((IsR.zero.add ((h2 _).mul (hp _ _))).add ((h2 _).mul (hp _ _))).add ((h2 _).mul (hp _ _)))

include h4 h5 in
theorem dy_real (n : Fin 4096) (q : Fin 4096) : IsR (val_main_v64 (F := Ideal) x4 x5 (ix2 n q)) := by
  rw [BwdRef.dy_at]
  exact IsR.sum fun k => (h5 _).mul (h4 _)

include h0 h1 h2 h3 h4 h5 in
/-- The gate's gradient, in the kernel's form. -/
theorem dgate_at (n : Fin 4096) (q : Fin 4096) (p : Fin 8192) (hp : p.val = q.val) : val_main_v81 (F := Ideal) x0 x1 x2 x3 x4 x5 (ix2 n p)
    = val_main_v64 (F := Ideal) x4 x5 (ix2 n q) * val_main_v39 (F := Ideal) x0 x1 x2 x3 (ix2 n q)
      * (Ideal.ofBits .f32 0x3F000000#32 * (Ideal.ofBits .f32 0x3F800000#32 + BwdPt.th (val_main_v38 (F := Ideal) x0 x1 x2 x3 (ix2 n q)))
      + Ideal.ofBits .f32 0x3F000000#32 * val_main_v38 (F := Ideal) x0 x1 x2 x3 (ix2 n q)
          * (Ideal.ofBits .f32 0x3F800000#32 - BwdPt.th (val_main_v38 (F := Ideal) x0 x1 x2 x3 (ix2 n q)) * BwdPt.th (val_main_v38 (F := Ideal) x0 x1 x2 x3 (ix2 n q)))
        * (Ideal.ofBits .f32 0x3F4C422A#32 + ((241015141496493 / 2251799813685248 : ℝ) : EReal)
          * (val_main_v38 (F := Ideal) x0 x1 x2 x3 (ix2 n q) * val_main_v38 (F := Ideal) x0 x1 x2 x3 (ix2 n q)))) := by
  rw [BwdRef.dgate_at x0 x1 x2 x3 x4 x5 n q p hp, zero_add, BwdRef.v78_at x0 x1 x2 x3 x4 x5 n q _ _ _ rfl rfl rfl, gate_eq]
  · exact dy_real x4 x5 h4 h5 n q
  · rw [BwdRef.val_at]; exact conv_real x0 x1 x2 x3 h0 h1 h2 h3 _ _
  · rw [BwdRef.gate_at]; exact conv_real x0 x1 x2 x3 h0 h1 h2 h3 _ _

/-- The value's gradient, in the kernel's form. -/
theorem dval_at (n : Fin 4096) (q : Fin 4096) (p : Fin 8192) (hp : p.val = 4096 + q.val) : val_main_v81 (F := Ideal) x0 x1 x2 x3 x4 x5 (ix2 n p)
    = val_main_v64 (F := Ideal) x4 x5 (ix2 n q) * (Ideal.ofBits .f32 0x3F000000#32 * val_main_v38 (F := Ideal) x0 x1 x2 x3 (ix2 n q)
      * (Ideal.ofBits .f32 0x3F800000#32 + BwdPt.th (val_main_v38 (F := Ideal) x0 x1 x2 x3 (ix2 n q)))) := by
  rw [BwdRef.dval_at x0 x1 x2 x3 x4 x5 n q p hp, add_zero, BwdRef.v65_at]
  exact (val_eq _ _ _ _).symm

include h0 h1 h2 h3 h4 h5 in
/-- The gradient at the convolution is real. -/
theorem dz_real (n : Nat) (q : Fin 8192) : IsR (BwdRef.dz x0 x1 x2 x3 x4 x5 n q) := by
  unfold BwdRef.dz
  split
  · have hd := dy_real x4 x5 h4 h5
    have hg : ∀ n q, IsR (val_main_v38 (F := Ideal) x0 x1 x2 x3 (ix2 n q)) := fun n q => by
      rw [BwdRef.gate_at]; exact conv_real x0 x1 x2 x3 h0 h1 h2 h3 _ _
    have hv : ∀ n q, IsR (val_main_v39 (F := Ideal) x0 x1 x2 x3 (ix2 n q)) := fun n q => by
      rw [BwdRef.val_at]; exact conv_real x0 x1 x2 x3 h0 h1 h2 h3 _ _
    by_cases hq : q.val < 4096
    · rw [dgate_at x0 x1 x2 x3 x4 x5 h0 h1 h2 h3 h4 h5 _ ⟨q.val, hq⟩ q rfl, half_val, one_val, c_val]
      exact ((hd _ _).mul (hv _ _)).mul (((IsR.coe _).mul ((IsR.coe _).add (hg _ _).th)).add
        ((((IsR.coe _).mul (hg _ _)).mul ((IsR.coe _).sub ((hg _ _).th.mul (hg _ _).th))).mul ((IsR.coe _).add ((IsR.coe _).mul ((hg _ _).mul (hg _ _))))))
    · rw [dval_at x0 x1 x2 x3 x4 x5 _ ⟨q.val - 4096, by omega⟩ q (by simp only []; omega), half_val, one_val]
      exact (hd _ _).mul (((IsR.coe _).mul (hg _ _)).mul ((IsR.coe _).add (hg _ _).th))
  · exact IsR.zero

end ref

end Cert.BwdReal

end
-- ==== Proof.BwdLocal.lean ====
/- What a block computes of its rows' gradients and products, given what those rows are in the whole: the convolution transposed, and
   the block's part of the taps' and the bias's gradients. -/
module

public import proofs.«01_k».proof.Proof.BwdPt
public import proofs.«01_k».proof.Proof.BwdReal

public section

set_option maxRecDepth 16384

noncomputable section

namespace Cert.BwdLocal

open Idealize.ShloMosaic Idealize.SL.Sem
open Cert.BwdIdeal Cert.BwdIdeal.Gen Cert.BwdCore

variable (dc e : FVec Ideal S528x256 .f32) (w : Vec Ideal S3x256 .f32) (l : Fin 256) (I : Nat) (D U : Nat → EReal)
  (hdc : ∀ (r : Fin 528) (p : Nat), 8 ≤ r.val → r.val < 522 → I + r.val = p + 8 → dc (ix2 r l) = D p)
  (he : ∀ (r : Fin 528) (p : Nat), 6 ≤ r.val → r.val < 520 → I + r.val = p + 6 → e (ix2 r l) = U p)

include hdc in
theorem du (r : Fin 512) : duOf dc w (ix2 r l)
    = (w (ix2 2 l) * D (I + r.val) + w (ix2 1 l) * D (I + r.val + 1)) + w (ix2 0 l) * D (I + r.val + 2) := by
  rw [BwdPt.duOf_at, hdc _ (I + r.val) (by simp only []; omega) (by simp only []; omega) (by simp only []; omega),
    hdc _ (I + r.val + 1) (by simp only []; omega) (by simp only []; omega) (by simp only []; omega),
    hdc _ (I + r.val + 2) (by simp only []; omega) (by simp only []; omega) (by simp only []; omega)]

include hdc he in
theorem tap0 (hD : ∀ n, BwdReal.IsR (D n)) (hU : ∀ n, BwdReal.IsR (U n)) (z : Fin 1) :
    dw0 (mulf (dynamicRotate 0 526#32 none dc rotates_S528x256_d0) e) (ix2 z l) = ∑ a : Fin 512, D (I + a.val) * U (I + a.val) := by
  rw [BwdPt.dw0_at, hdc 8 I (by decide) (by decide) rfl, hdc 9 (I + 1) (by decide) (by decide) rfl,
    hdc 520 (I + 512) (by decide) (by decide) rfl, hdc 521 (I + 513) (by decide) (by decide) rfl,
    he 6 I (by decide) (by decide) rfl, he 7 (I + 1) (by decide) (by decide) rfl,
    he 518 (I + 512) (by decide) (by decide) rfl, he 519 (I + 513) (by decide) (by decide) rfl]
  refine Eq.trans ?_ (BwdReal.shift_two (fun a => D (I + a) * U (I + a)) ((hD _).mul (hU _)) ((hD _).mul (hU _)))
  refine congrArg (fun S => S + D I * U I + D (I + 1) * U (I + 1) - D (I + 512) * U (I + 512) - D (I + 513) * U (I + 513)) ?_
  refine Finset.sum_congr rfl fun a _ => ?_
  rw [hdc _ (I + (a.val + 2)) (by simp only []; omega) (by simp only []; omega) (by simp only []; omega),
    he _ (I + (a.val + 2)) (by simp only []; omega) (by simp only []; omega) (by simp only []; omega)]

include hdc he in
theorem tap1 (hD : ∀ n, BwdReal.IsR (D n)) (hU : ∀ n, BwdReal.IsR (U n)) (z : Fin 1) :
    dw1 (mulf (dynamicRotate 0 527#32 none dc rotates_S528x256_d0) e) (ix2 z l) = ∑ a : Fin 512, D (I + a.val) * U (I + a.val + 1) := by
  rw [BwdPt.dw1_at, hdc 8 I (by decide) (by decide) rfl,
    hdc 520 (I + 512) (by decide) (by decide) rfl,
    he 7 (I + 1) (by decide) (by decide) rfl, he 519 (I + 513) (by decide) (by decide) rfl]
  refine Eq.trans ?_ (BwdReal.shift_one (fun a => D (I + a) * U (I + a + 1)) ((hD _).mul (hU _)))
  refine congrArg (fun S => S + D I * U (I + 1) - D (I + 512) * U (I + 513)) ?_
  refine Finset.sum_congr rfl fun a _ => ?_
  rw [hdc _ (I + (a.val + 1)) (by simp only []; omega) (by simp only []; omega) (by simp only []; omega),
    he _ (I + (a.val + 1) + 1) (by simp only []; omega) (by simp only []; omega) (by simp only []; omega)]

include hdc he in
theorem tap2 (z : Fin 1) : rowSum (mulf dc e) (ix2 z l) = ∑ a : Fin 512, D (I + a.val) * U (I + a.val + 2) := by
  rw [BwdPt.rowSum_at]
  refine Finset.sum_congr rfl fun a _ => ?_
  refine Eq.trans (b := dc (ix2 ⟨8 + a.val, by omega⟩ l) * e (ix2 ⟨8 + a.val, by omega⟩ l)) (by pointwise []) ?_
  rw [hdc _ (I + a.val) (by simp only []; omega) (by simp only []; omega) (by simp only []; omega),
    he _ (I + a.val + 2) (by simp only []; omega) (by simp only []; omega) (by simp only []; omega)]

include hdc in
theorem bias (z : Fin 1) : rowSum dc (ix2 z l) = ∑ a : Fin 512, D (I + a.val) := by
  rw [BwdPt.rowSum_at]
  refine Finset.sum_congr rfl fun a _ => ?_
  rw [hdc _ (I + a.val) (by simp only []; omega) (by simp only []; omega) (by simp only []; omega)]

include hdc he in
/-- The eight rows of the block's part. -/
theorem parts (hD : ∀ n, BwdReal.IsR (D n)) (hU : ∀ n, BwdReal.IsR (U n)) (p : Fin 8) : partsOf dc e (ix2 p l)
    = if p.val < 1 then ∑ a : Fin 512, D (I + a.val) * U (I + a.val) else if p.val < 2 then ∑ a : Fin 512, D (I + a.val) * U (I + a.val + 1)
      else if p.val < 3 then ∑ a : Fin 512, D (I + a.val) * U (I + a.val + 2) else if p.val < 4 then ∑ a : Fin 512, D (I + a.val) else 0 := by
  rw [BwdPt.partsOf_at, tap0 dc e l I D U hdc he hD hU, tap1 dc e l I D U hdc he hD hU, tap2 dc e l I D U hdc he, bias dc l I D hdc]

end Cert.BwdLocal

end
-- ==== Proof.BwdAt.lean ====
/- The backward call at a point: the gradients its rows see, its blocks of the up product's gradient and its part of the taps' and the
   bias's gradients, as the reference's. -/
module

public import proofs.«01_k».proof.Proof.BwdBlk
public import proofs.«01_k».proof.Proof.BwdLocal

public section

set_option maxRecDepth 16384

noncomputable section

namespace Cert.BwdAt

open Idealize.ShloMosaic Idealize.ShloMosaic.TcCoe Idealize.SL.Sem
open Idealize.ShloMosaic.Pipeline (Dat)
open Cert.BwdIdeal Cert.BwdIdeal.Gen Cert.BwdCore Cert.BwdBlk

variable (m : (ℓ : Loc nD τ sig) → Buf (Elt Ideal) ℓ) (c : Dev nD) (t : Fin cfg0.N) (s : Fin 4) (l : Fin 256)

/-- The gate's rows of the up product. -/
theorem ext_gate (q : Fin 8192) (hq : q.val = 1024 * (t.val % 4) + (256 * s.val + l.val)) (r : Fin 528) (n : Fin 4098)
    (h6 : 6 ≤ r.val) (hn : 512 * (t.val / 4) + r.val = n.val + 6) :
    ext (F := Ideal) (grid0.coords t) (cols (iblk m c 2 t) s) (cols (iblk m c 0 t) s) (cols (iblk m c 4 t) s) (ix2 r l)
    = BwdRefIdeal.Read.val_main_v25 (F := Ideal) (m ((c : Thread nD τ).loc main_arg0)) (m ((c : Thread nD τ).loc main_arg1)) (ix2 n q) := by
  have ht := lt_points t
  rw [BwdPt.ext_at, BwdRef.pad_at, row_block]
  by_cases h2 : n.val < 2
  · rw [dif_pos (show r.val < 8 by omega), if_neg (show ¬0 < t.val / 4 by omega), dif_pos h2, mul_zero]
  · rw [dif_neg h2]
    by_cases h8 : r.val < 8
    · rw [dif_pos h8, if_pos (show 0 < t.val / 4 by omega), mul_one, cols_at]
      exact blk2 m c t (by omega) _ _ _ (by simp only []; omega) q hq
    · rw [dif_neg h8]
      by_cases h5 : r.val < 520
      · rw [dif_pos h5, cols_at]
        exact blk0 m c t _ _ _ (by simp only []; omega) q hq
      · rw [dif_neg h5, cols_at]
        exact blk4 m c t (by omega) _ _ _ (by simp only []; omega) q hq

/-- The value's rows of the up product. -/
theorem ext_val (q : Fin 8192) (hq : q.val = 4096 + (1024 * (t.val % 4) + (256 * s.val + l.val))) (r : Fin 528) (n : Fin 4098)
    (h6 : 6 ≤ r.val) (hn : 512 * (t.val / 4) + r.val = n.val + 6) :
    ext (F := Ideal) (grid0.coords t) (cols (iblk m c 3 t) s) (cols (iblk m c 1 t) s) (cols (iblk m c 5 t) s) (ix2 r l)
    = BwdRefIdeal.Read.val_main_v25 (F := Ideal) (m ((c : Thread nD τ).loc main_arg0)) (m ((c : Thread nD τ).loc main_arg1)) (ix2 n q) := by
  have ht := lt_points t
  rw [BwdPt.ext_at, BwdRef.pad_at, row_block]
  by_cases h2 : n.val < 2
  · rw [dif_pos (show r.val < 8 by omega), if_neg (show ¬0 < t.val / 4 by omega), dif_pos h2, mul_zero]
  · rw [dif_neg h2]
    by_cases h8 : r.val < 8
    · rw [dif_pos h8, if_pos (show 0 < t.val / 4 by omega), mul_one, cols_at]
      exact blk3 m c t (by omega) _ _ _ (by simp only []; omega) q hq
    · rw [dif_neg h8]
      by_cases h5 : r.val < 520
      · rw [dif_pos h5, cols_at]
        exact blk1 m c t _ _ _ (by simp only []; omega) q hq
      · rw [dif_neg h5, cols_at]
        exact blk5 m c t (by omega) _ _ _ (by simp only []; omega) q hq

/-- The gate. -/
theorem gate_at (q : Fin 8192) (hq : q.val = 1024 * (t.val % 4) + (256 * s.val + l.val)) (r : Fin 528) (n : Fin 4096)
    (h8 : 8 ≤ r.val) (hn : 512 * (t.val / 4) + r.val = n.val + 8) :
    conv (F := Ideal) (ext (grid0.coords t) (cols (iblk m c 2 t) s) (cols (iblk m c 0 t) s) (cols (iblk m c 4 t) s))
      (cols (iblk m c 11 t) s) (cols (iblk m c 13 t) s) (ix2 r l)
    = BwdRefIdeal.Read.val_main_v37 (F := Ideal) (m ((c : Thread nD τ).loc main_arg0)) (m ((c : Thread nD τ).loc main_arg1))
        (m ((c : Thread nD τ).loc main_arg2)) (m ((c : Thread nD τ).loc main_arg3)) (ix2 n q) := by
  rw [BwdPt.conv_at _ _ _ r (by omega), BwdRef.conv_at, cols_at, cols_at, cols_at, cols_at,
    blk13 m c t _ q hq, blk11 m c t _ _ q hq, blk11 m c t _ _ q hq, blk11 m c t _ _ q hq,
    ext_gate m c t s l q hq _ ⟨n.val, by omega⟩ (by simp only []; omega) (by simp only []; omega),
    ext_gate m c t s l q hq _ ⟨1 + n.val, by omega⟩ (by simp only []; omega) (by simp only []; omega),
    ext_gate m c t s l q hq _ ⟨2 + n.val, by omega⟩ (by omega) (by simp only []; omega)]
  refine (add_assoc _ _ _).trans ((add_assoc _ _ _).trans (congrArg _ ?_))
  exact (add_assoc _ _ _).symm.trans (congrArg (· + _) (congrArg (· + _) (zero_add _).symm))

/-- The value. -/
theorem val_at (q : Fin 8192) (hq : q.val = 4096 + (1024 * (t.val % 4) + (256 * s.val + l.val))) (r : Fin 528) (n : Fin 4096)
    (h8 : 8 ≤ r.val) (hn : 512 * (t.val / 4) + r.val = n.val + 8) :
    conv (F := Ideal) (ext (grid0.coords t) (cols (iblk m c 3 t) s) (cols (iblk m c 1 t) s) (cols (iblk m c 5 t) s))
      (cols (iblk m c 12 t) s) (cols (iblk m c 14 t) s) (ix2 r l)
    = BwdRefIdeal.Read.val_main_v37 (F := Ideal) (m ((c : Thread nD τ).loc main_arg0)) (m ((c : Thread nD τ).loc main_arg1))
        (m ((c : Thread nD τ).loc main_arg2)) (m ((c : Thread nD τ).loc main_arg3)) (ix2 n q) := by
  rw [BwdPt.conv_at _ _ _ r (by omega), BwdRef.conv_at, cols_at, cols_at, cols_at, cols_at,
    blk14 m c t _ q hq, blk12 m c t _ _ q hq, blk12 m c t _ _ q hq, blk12 m c t _ _ q hq,
    ext_val m c t s l q hq _ ⟨n.val, by omega⟩ (by simp only []; omega) (by simp only []; omega),
    ext_val m c t s l q hq _ ⟨1 + n.val, by omega⟩ (by simp only []; omega) (by simp only []; omega),
    ext_val m c t s l q hq _ ⟨2 + n.val, by omega⟩ (by omega) (by simp only []; omega)]
  refine (add_assoc _ _ _).trans ((add_assoc _ _ _).trans (congrArg _ ?_))
  exact (add_assoc _ _ _).symm.trans (congrArg (· + _) (congrArg (· + _) (zero_add _).symm))

/-- The gradient at the gated product. -/
theorem dy_at (q : Fin 4096) (hq : q.val = 1024 * (t.val % 4) + (256 * s.val + l.val)) (r : Fin 528) (n : Fin 4096)
    (h8 : 8 ≤ r.val) (hn : 512 * (t.val / 4) + r.val = n.val + 8) :
    dye (F := Ideal) (grid0.coords t) (all6 (iblk m c 6 t)) (all7 (iblk m c 7 t)) (rows (iblk m c 8 t) s) (ix2 r l)
    = BwdRefIdeal.Read.val_main_v64 (F := Ideal) (m ((c : Thread nD τ).loc main_arg4)) (m ((c : Thread nD τ).loc main_arg5)) (ix2 n q) := by
  have ht := lt_points t
  rw [BwdPt.dye_at, dif_neg (by omega), BwdRef.dy_at]
  refine Finset.sum_congr rfl fun k _ => ?_
  rw [BwdPt.rows_at, row_block, rows_at, blk8 m c t _ _ q hq, all6_eq, all7_eq]
  refine congrArg (· * _) ?_
  by_cases h5 : r.val - 8 < 512
  · rw [dif_pos h5]
    exact blk6 m c t _ _ n (by simp only []; omega)
  · rw [dif_neg h5, if_pos (show t.val / 4 < 7 by omega), mul_one]
    exact blk7 m c t (by omega) _ _ n (by simp only []; omega)

/-- Past the last row there is no gradient. -/
theorem dy_past (r : Fin 528) (h : 520 ≤ r.val) (hi : t.val / 4 = 7) :
    dye (F := Ideal) (grid0.coords t) (all6 (iblk m c 6 t)) (all7 (iblk m c 7 t)) (rows (iblk m c 8 t) s) (ix2 r l) = 0 := by
  rw [BwdPt.dye_at, dif_neg (by omega)]
  refine Finset.sum_eq_zero fun k _ => ?_
  rw [BwdPt.rows_at, row_block, dif_neg (by simp only []; omega), if_neg (by omega), mul_zero, zero_mul]

variable (h0 : ∀ j, BwdReal.IsR (m ((c : Thread nD τ).loc main_arg0) j)) (h1 : ∀ j, BwdReal.IsR (m ((c : Thread nD τ).loc main_arg1) j))
  (h2 : ∀ j, BwdReal.IsR (m ((c : Thread nD τ).loc main_arg2) j)) (h3 : ∀ j, BwdReal.IsR (m ((c : Thread nD τ).loc main_arg3) j))
  (h4 : ∀ j, BwdReal.IsR (m ((c : Thread nD τ).loc main_arg4) j)) (h5 : ∀ j, BwdReal.IsR (m ((c : Thread nD τ).loc main_arg5) j))

/-- The reference's gradient at the convolution, by its row's number. -/
abbrev D (n : Nat) (q : Fin 8192) : EReal :=
  BwdRef.dz (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n q

/-- The reference's padded up product, by its row's number. -/
abbrev U (n : Nat) (q : Fin 8192) : EReal := BwdRef.uz (m ((c : Thread nD τ).loc main_arg0)) (m ((c : Thread nD τ).loc main_arg1)) n q

include h0 h1 h2 h3 h4 h5 in
/-- The gradient at the gate's convolution. -/
theorem dcG_at (q : Fin 8192) (hq : q.val = 1024 * (t.val % 4) + (256 * s.val + l.val)) (r : Fin 528) (p : Nat)
    (h8 : 8 ≤ r.val) (h522 : r.val < 522) (hp : 512 * (t.val / 4) + r.val = p + 8) :
    dcG (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 12 t) (iblk m c 13 t) (iblk m c 14 t) s (ix2 r l) = D m c p q := by
  have ht := lt_points t
  unfold dcG
  rw [BwdPt.dcGate_at]
  by_cases hpp : p < 4096
  · rw [D, BwdRef.dz, dif_pos hpp, BwdReal.dgate_at _ _ _ _ _ _ h0 h1 h2 h3 h4 h5 _ ⟨q.val, by omega⟩ q rfl,
      dy_at m c t s l ⟨q.val, by omega⟩ hq r ⟨p, hpp⟩ h8 hp, gate_at m c t s l q hq r ⟨p, hpp⟩ h8 hp,
      val_at m c t s l ⟨4096 + q.val, by omega⟩ (by simp only []; omega) r ⟨p, hpp⟩ h8 hp, BwdRef.gate_at, BwdRef.val_at]
  · rw [D, BwdRef.dz, dif_neg hpp, dy_past m c t s l r (by omega) (by omega), zero_mul, zero_mul]

/-- The gradient at the value's convolution. -/
theorem dcV_at (q : Fin 8192) (hq : q.val = 4096 + (1024 * (t.val % 4) + (256 * s.val + l.val))) (r : Fin 528) (p : Nat)
    (h8 : 8 ≤ r.val) (h522 : r.val < 522) (hp : 512 * (t.val / 4) + r.val = p + 8) :
    dcV (F := Ideal) (grid0.coords t) (iblk m c 0 t) (iblk m c 2 t) (iblk m c 4 t) (iblk m c 6 t)
      (iblk m c 7 t) (iblk m c 8 t) (iblk m c 11 t) (iblk m c 13 t) s (ix2 r l) = D m c p q := by
  have ht := lt_points t
  unfold dcV
  rw [BwdPt.dcVal_at, BwdPt.act_at]
  by_cases hpp : p < 4096
  · rw [D, BwdRef.dz, dif_pos hpp, BwdReal.dval_at _ _ _ _ _ _ _ ⟨q.val - 4096, by omega⟩ q (by simp only []; omega),
      dy_at m c t s l ⟨q.val - 4096, by omega⟩ (by simp only []; omega) r ⟨p, hpp⟩ h8 hp,
      gate_at m c t s l ⟨q.val - 4096, by omega⟩ (by simp only []; omega) r ⟨p, hpp⟩ h8 hp, BwdRef.gate_at]
  · rw [D, BwdRef.dz, dif_neg hpp, dy_past m c t s l r (by omega) (by omega), zero_mul]

include h0 h1 h2 h3 h4 h5 in
/-- The gate's half of the up product's gradient. -/
theorem duG_at (q : Fin 8192) (hq : q.val = 1024 * (t.val % 4) + (256 * s.val + l.val)) (r : Fin 512) (n : Fin 4096)
    (hn : n.val = 512 * (t.val / 4) + r.val) :
    duG (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 12 t) (iblk m c 13 t) (iblk m c 14 t) s (ix2 r l)
    = BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 n q) := by
  unfold duG
  rw [BwdLocal.du _ _ l (512 * (t.val / 4)) (fun p => D m c p q) (fun r p a b e => dcG_at m c t s l h0 h1 h2 h3 h4 h5 q hq r p a b e),
    BwdRef.du_at, hn, cols_at, cols_at, cols_at, blk11 m c t _ _ q hq, blk11 m c t _ _ q hq, blk11 m c t _ _ q hq]

/-- The value's half of the up product's gradient. -/
theorem duV_at (q : Fin 8192) (hq : q.val = 4096 + (1024 * (t.val % 4) + (256 * s.val + l.val))) (r : Fin 512) (n : Fin 4096)
    (hn : n.val = 512 * (t.val / 4) + r.val) :
    duV (F := Ideal) (grid0.coords t) (iblk m c 0 t) (iblk m c 2 t) (iblk m c 4 t) (iblk m c 6 t)
      (iblk m c 7 t) (iblk m c 8 t) (iblk m c 11 t) (iblk m c 12 t) (iblk m c 13 t) s (ix2 r l)
    = BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 n q) := by
  unfold duV
  rw [BwdLocal.du _ _ l (512 * (t.val / 4)) (fun p => D m c p q) (fun r p a b e => dcV_at m c t s l q hq r p a b e),
    BwdRef.du_at, hn, cols_at, cols_at, cols_at, blk12 m c t _ _ q hq, blk12 m c t _ _ q hq, blk12 m c t _ _ q hq]

include h0 h1 in
theorem U_real (q : Fin 8192) (n : Nat) : BwdReal.IsR (U m c n q) := by
  unfold U BwdRef.uz
  split
  · exact BwdReal.pad_real _ _ h0 h1 _ _
  · exact BwdReal.IsR.zero

include h0 h1 h2 h3 h4 h5 in
/-- The gate's half of the taps' and the bias's gradients. -/
theorem ptG_at (q : Fin 8192) (hq : q.val = 1024 * (t.val % 4) + (256 * s.val + l.val)) (b : Fin 8) (p : Fin 64)
    (hp : p.val = 8 * (t.val / 4) + b.val) :
    ptG (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 12 t) (iblk m c 13 t) (iblk m c 14 t) s (ix2 b l)
    = BwdRefIdeal.Read.val_main_v118 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 p q) := by
  have ht := lt_points t
  unfold ptG
  rw [BwdRef.parts_at _ _ _ _ _ _ p q ⟨t.val / 4, by omega⟩ b hp]
  exact BwdLocal.parts _ _ l (512 * (t.val / 4)) (fun p => D m c p q) (fun p => U m c p q)
    (fun r p a b e => dcG_at m c t s l h0 h1 h2 h3 h4 h5 q hq r p a b e)
    (fun r p a b e => by
      have hlt : p < 4098 := by omega
      refine (ext_gate m c t s l q hq r ⟨p, hlt⟩ a e).trans ?_
      show _ = BwdRef.uz _ _ p q
      rw [BwdRef.uz, dif_pos hlt])
    (fun n => BwdReal.dz_real _ _ _ _ _ _ h0 h1 h2 h3 h4 h5 n q) (fun n => U_real m c h0 h1 q n) b

include h0 h1 h2 h3 h4 h5 in
/-- The value's half of the taps' and the bias's gradients. -/
theorem ptV_at (q : Fin 8192) (hq : q.val = 4096 + (1024 * (t.val % 4) + (256 * s.val + l.val))) (b : Fin 8) (p : Fin 64)
    (hp : p.val = 8 * (t.val / 4) + b.val) :
    ptV (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 13 t) s (ix2 b l)
    = BwdRefIdeal.Read.val_main_v118 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 p q) := by
  have ht := lt_points t
  unfold ptV
  rw [BwdRef.parts_at _ _ _ _ _ _ p q ⟨t.val / 4, by omega⟩ b hp]
  exact BwdLocal.parts _ _ l (512 * (t.val / 4)) (fun p => D m c p q) (fun p => U m c p q)
    (fun r p a b e => dcV_at m c t s l q hq r p a b e)
    (fun r p a b e => by
      have hlt : p < 4098 := by omega
      refine (ext_val m c t s l q hq r ⟨p, hlt⟩ a e).trans ?_
      show _ = BwdRef.uz _ _ p q
      rw [BwdRef.uz, dif_pos hlt])
    (fun n => BwdReal.dz_real _ _ _ _ _ _ h0 h1 h2 h3 h4 h5 n q) (fun n => U_real m c h0 h1 q n) b

include h0 h1 h2 h3 h4 h5 in
theorem tm_at (r : Fin 512) (k : Fin 1024) (n : Fin 4096) (hn : n.val = 512 * (t.val / 4) + r.val) :
    tm (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) s (ix2 r k)
    = (∑ l : Fin 256, BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
          (ix2 n ⟨1024 * (t.val % 4) + (256 * s.val + l.val), by omega⟩)
          * m ((c : Thread nD τ).loc main_arg1) (ix2 k ⟨1024 * (t.val % 4) + (256 * s.val + l.val), by omega⟩))
      + ∑ l : Fin 256, BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
          (ix2 n ⟨4096 + (1024 * (t.val % 4) + (256 * s.val + l.val)), by omega⟩)
          * m ((c : Thread nD τ).loc main_arg1) (ix2 k ⟨4096 + (1024 * (t.val % 4) + (256 * s.val + l.val)), by omega⟩) := by
  unfold tm
  rw [BwdPt.term_at]
  refine congrArg₂ (· + ·) (Finset.sum_congr rfl fun l _ => ?_) (Finset.sum_congr rfl fun l _ => ?_)
  · rw [duG_at m c t s l h0 h1 h2 h3 h4 h5 ⟨1024 * (t.val % 4) + (256 * s.val + l.val), by omega⟩ rfl r n hn, cols3_at]
    exact congrArg (_ * ·) (blk9 m c t k _ ⟨1024 * (t.val % 4) + (256 * s.val + l.val), by omega⟩ rfl)
  · rw [duV_at m c t s l ⟨4096 + (1024 * (t.val % 4) + (256 * s.val + l.val)), by omega⟩ rfl r n hn, cols3_at]
    exact congrArg (_ * ·) (blk10 m c t k _ ⟨4096 + (1024 * (t.val % 4) + (256 * s.val + l.val)), by omega⟩ rfl)

end Cert.BwdAt

end
-- ==== Proof.BwdOutA1.lean ====
/- At a row block's first point, the two halves of the up product's gradient that the point leaves. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

/-- The run's value for the first quarter of output 15 is the quarter written once. -/
theorem w15_0_A : kernelRun0_A.sl.r_2 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 0 := rfl

/-- The run's value for the second quarter of output 15 is the quarter written once. -/
theorem w15_1_A : kernelRun0_A.sl.v306 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 1 := rfl

/-- The run's value for the third quarter of output 15 is the quarter written once. -/
theorem w15_2_A : kernelRun0_A.sl.r_13 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 2 := rfl

/-- The run's value for the fourth quarter of output 15 is the quarter written once. -/
theorem w15_3_A : kernelRun0_A.sl.r_19 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 3 := rfl

set_option maxHeartbeats 800000 in
/-- A row block's first point leaves, quarter by quarter, the gate's half of the up product's gradient. -/
theorem out15_A
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : cond0_0 i) (hc1 : ¬cond0_1 i) (y : S512x1024.Idx) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 y = wide (duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14))) y := by
  frame_open
  rw [View.read_writes_junk_eq_canon]
  canon_tiles x h
  · rw [wide_at _ y x 3 (by omega) (by show _ = 256 * 3 + _; omega)]; exact congrFun (w15_3_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 2 (by omega) (by show _ = 256 * 2 + _; omega)]; exact congrFun (w15_2_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 1 (by omega) (by show _ = 256 * 1 + _; omega)]; exact congrFun (w15_1_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 0 (by omega) (by show _ = 256 * 0 + _; omega)]; exact congrFun (w15_0_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x

/-- The run's value for the first quarter of output 16 is the quarter written once. -/
theorem w16_0_A : kernelRun0_A.sl.v164 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 0 := rfl

/-- The run's value for the second quarter of output 16 is the quarter written once. -/
theorem w16_1_A : kernelRun0_A.sl.v353 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 1 := rfl

/-- The run's value for the third quarter of output 16 is the quarter written once. -/
theorem w16_2_A : kernelRun0_A.sl.v543 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 2 := rfl

/-- The run's value for the fourth quarter of output 16 is the quarter written once. -/
theorem w16_3_A : kernelRun0_A.sl.v729 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 3 := rfl

set_option maxHeartbeats 800000 in
/-- A row block's first point leaves, quarter by quarter, the value's half of the up product's gradient. -/
theorem out16_A
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : cond0_0 i) (hc1 : ¬cond0_1 i) (y : S512x1024.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 y = wide (duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13))) y := by
  frame_open
  rw [View.read_writes_junk_eq_canon]
  canon_tiles x h
  · rw [wide_at _ y x 3 (by omega) (by show _ = 256 * 3 + _; omega)]; exact congrFun (w16_3_A c i arg2 harg2 arg4 harg4 arg6 harg6 arg8 harg8 arg9 harg9 arg10 harg10 arg13 harg13 arg14 harg14 arg15 harg15 x0 x2 x4 x6 x7 x8 x11 x12 x13) x
  · rw [wide_at _ y x 2 (by omega) (by show _ = 256 * 2 + _; omega)]; exact congrFun (w16_2_A c i arg2 harg2 arg4 harg4 arg6 harg6 arg8 harg8 arg9 harg9 arg10 harg10 arg13 harg13 arg14 harg14 arg15 harg15 x0 x2 x4 x6 x7 x8 x11 x12 x13) x
  · rw [wide_at _ y x 1 (by omega) (by show _ = 256 * 1 + _; omega)]; exact congrFun (w16_1_A c i arg2 harg2 arg4 harg4 arg6 harg6 arg8 harg8 arg9 harg9 arg10 harg10 arg13 harg13 arg14 harg14 arg15 harg15 x0 x2 x4 x6 x7 x8 x11 x12 x13) x
  · rw [wide_at _ y x 0 (by omega) (by show _ = 256 * 0 + _; omega)]; exact congrFun (w16_0_A c i arg2 harg2 arg4 harg4 arg6 harg6 arg8 harg8 arg9 harg9 arg10 harg10 arg13 harg13 arg14 harg14 arg15 harg15 x0 x2 x4 x6 x7 x8 x11 x12 x13) x

end Cert.BwdOut

end
-- ==== Proof.BwdOutA2.lean ====
/- At a row block's first point, the parts of the taps' and the bias's gradients that the point leaves. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

/-- The run's value for the first quarter of output 18 is the quarter written once. -/
theorem w18_0_A : kernelRun0_A.sl.v147 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 0 := rfl

/-- The run's value for the second quarter of output 18 is the quarter written once. -/
theorem w18_1_A : kernelRun0_A.sl.v336 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 1 := rfl

/-- The run's value for the third quarter of output 18 is the quarter written once. -/
theorem w18_2_A : kernelRun0_A.sl.v526 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 2 := rfl

/-- The run's value for the fourth quarter of output 18 is the quarter written once. -/
theorem w18_3_A : kernelRun0_A.sl.v712 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 3 := rfl

set_option maxHeartbeats 800000 in
/-- A row block's first point leaves, quarter by quarter, the gate's parts of the taps' and the bias's gradients. -/
theorem out18_A
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : cond0_0 i) (hc1 : ¬cond0_1 i) (y : S8x1024.Idx) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 y = wide (ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14))) y := by
  frame_open
  rw [View.read_writes_junk_eq_canon]
  canon_tiles x h
  · rw [wide_at _ y x 3 (by omega) (by show _ = 256 * 3 + _; omega)]; exact congrFun (w18_3_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 2 (by omega) (by show _ = 256 * 2 + _; omega)]; exact congrFun (w18_2_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 1 (by omega) (by show _ = 256 * 1 + _; omega)]; exact congrFun (w18_1_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 0 (by omega) (by show _ = 256 * 0 + _; omega)]; exact congrFun (w18_0_A c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x

/-- The run's value for the first quarter of output 19 is the quarter written once. -/
theorem w19_0_A : kernelRun0_A.sl.v194 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 0 := rfl

/-- The run's value for the second quarter of output 19 is the quarter written once. -/
theorem w19_1_A : kernelRun0_A.sl.v383 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 1 := rfl

/-- The run's value for the third quarter of output 19 is the quarter written once. -/
theorem w19_2_A : kernelRun0_A.sl.v573 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 2 := rfl

set_option maxHeartbeats 800000 in
/-- A row block's first point leaves, quarter by quarter, the value's parts of the taps' and the bias's gradients. -/
theorem out19_A
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : cond0_0 i) (hc1 : ¬cond0_1 i) (y : S8x1024.Idx) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 y = wide (ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13))) y := by
  frame_open
  rw [View.read_writes_junk_eq_canon]
  canon_tiles x h
  · rw [wide_at _ y x 3 (by omega) (by show _ = 256 * 3 + _; omega)]; rfl
  · rw [wide_at _ y x 2 (by omega) (by show _ = 256 * 2 + _; omega)]; exact congrFun (w19_2_A c i arg2 harg2 arg3 harg3 arg4 harg4 arg5 harg5 arg6 harg6 arg7 harg7 arg8 harg8 arg9 harg9 arg10 harg10 arg13 harg13 arg15 harg15 x0 x1 x2 x3 x4 x5 x6 x7 x8 x11 x13) x
  · rw [wide_at _ y x 1 (by omega) (by show _ = 256 * 1 + _; omega)]; exact congrFun (w19_1_A c i arg2 harg2 arg3 harg3 arg4 harg4 arg5 harg5 arg6 harg6 arg7 harg7 arg8 harg8 arg9 harg9 arg10 harg10 arg13 harg13 arg15 harg15 x0 x1 x2 x3 x4 x5 x6 x7 x8 x11 x13) x
  · rw [wide_at _ y x 0 (by omega) (by show _ = 256 * 0 + _; omega)]; exact congrFun (w19_0_A c i arg2 harg2 arg3 harg3 arg4 harg4 arg5 harg5 arg6 harg6 arg7 harg7 arg8 harg8 arg9 harg9 arg10 harg10 arg13 harg13 arg15 harg15 x0 x1 x2 x3 x4 x5 x6 x7 x8 x11 x13) x

end Cert.BwdOut

end
-- ==== Proof.BwdOutA3.lean ====
/- At a row block's first point, what the point leaves of the gradient at the call's input. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

set_option maxHeartbeats 800000 in
/-- The run's sum of the four quarters' terms is the sum written once. -/
theorem w17_A : kernelRun0_A.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = tmSum i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14)) := rfl

set_option maxHeartbeats 800000 in
/-- A row block's first point leaves the four quarters' terms. -/
theorem out17_A
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : cond0_0 i) (hc1 : ¬cond0_1 i) (y : S512x1024.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 y = tmSum i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14)) y := by
  frame_open
  rw [View.read_writes_junk_eq_canon]
  simp (disch := decide) only [View.canon_cons_unit_lit']
  exact congrFun (w17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) y

end Cert.BwdOut

end
-- ==== Proof.BwdOutB1.lean ====
/- At a row block's later point, the two halves of the up product's gradient that the point leaves. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

/-- The run's value for the first quarter of output 15 is the quarter written once. -/
theorem w15_0_B : kernelRun0_B.sl.r_2 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 0 := rfl

/-- The run's value for the second quarter of output 15 is the quarter written once. -/
theorem w15_1_B : kernelRun0_B.sl.v306 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 1 := rfl

/-- The run's value for the third quarter of output 15 is the quarter written once. -/
theorem w15_2_B : kernelRun0_B.sl.r_13 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 2 := rfl

/-- The run's value for the fourth quarter of output 15 is the quarter written once. -/
theorem w15_3_B : kernelRun0_B.sl.r_19 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 3 := rfl

set_option maxHeartbeats 800000 in
/-- A row block's later point leaves, quarter by quarter, the gate's half of the up product's gradient. -/
theorem out15_B
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : ¬cond0_0 i) (hc1 : cond0_1 i) (xo17 : Vec F S512x1024 .f32) (y : S512x1024.Idx) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xo17 y = wide (duG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14))) y := by
  frame_open
  rw [View.read_writes_junk_eq_canon]
  canon_tiles x h
  · rw [wide_at _ y x 3 (by omega) (by show _ = 256 * 3 + _; omega)]; exact congrFun (w15_3_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 2 (by omega) (by show _ = 256 * 2 + _; omega)]; exact congrFun (w15_2_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 1 (by omega) (by show _ = 256 * 1 + _; omega)]; exact congrFun (w15_1_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 0 (by omega) (by show _ = 256 * 0 + _; omega)]; exact congrFun (w15_0_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x

/-- The run's value for the first quarter of output 16 is the quarter written once. -/
theorem w16_0_B : kernelRun0_B.sl.v164 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 0 := rfl

/-- The run's value for the second quarter of output 16 is the quarter written once. -/
theorem w16_1_B : kernelRun0_B.sl.v353 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 1 := rfl

/-- The run's value for the third quarter of output 16 is the quarter written once. -/
theorem w16_2_B : kernelRun0_B.sl.v543 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 2 := rfl

/-- The run's value for the fourth quarter of output 16 is the quarter written once. -/
theorem w16_3_B : kernelRun0_B.sl.v729 (F := F) c i arg2 harg2 arg4 harg4 arg6 harg6 arg8 harg8 arg9 harg9 arg10 harg10 arg13 harg13 arg14 harg14 arg15 harg15 x0 x2 x4 x6 x7 x8 x11 x12 x13 = duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) 3 := rfl

set_option maxHeartbeats 800000 in
/-- A row block's later point leaves, quarter by quarter, the value's half of the up product's gradient. -/
theorem out16_B
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : ¬cond0_0 i) (hc1 : cond0_1 i) (xo17 : Vec F S512x1024 .f32) (y : S512x1024.Idx) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xo17 y = wide (duV i (arg2.view.read (Elt F) (harg2.unread x0)) (arg4.view.read (Elt F) (harg4.unread x2)) (arg6.view.read (Elt F) (harg6.unread x4)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13))) y := by
  frame_open
  rw [View.read_writes_junk_eq_canon]
  canon_tiles x h
  · rw [wide_at _ y x 3 (by omega) (by show _ = 256 * 3 + _; omega)]; exact congrFun (w16_3_B c i arg2 harg2 arg4 harg4 arg6 harg6 arg8 harg8 arg9 harg9 arg10 harg10 arg13 harg13 arg14 harg14 arg15 harg15 x0 x2 x4 x6 x7 x8 x11 x12 x13) x
  · rw [wide_at _ y x 2 (by omega) (by show _ = 256 * 2 + _; omega)]; exact congrFun (w16_2_B c i arg2 harg2 arg4 harg4 arg6 harg6 arg8 harg8 arg9 harg9 arg10 harg10 arg13 harg13 arg14 harg14 arg15 harg15 x0 x2 x4 x6 x7 x8 x11 x12 x13) x
  · rw [wide_at _ y x 1 (by omega) (by show _ = 256 * 1 + _; omega)]; exact congrFun (w16_1_B c i arg2 harg2 arg4 harg4 arg6 harg6 arg8 harg8 arg9 harg9 arg10 harg10 arg13 harg13 arg14 harg14 arg15 harg15 x0 x2 x4 x6 x7 x8 x11 x12 x13) x
  · rw [wide_at _ y x 0 (by omega) (by show _ = 256 * 0 + _; omega)]; exact congrFun (w16_0_B c i arg2 harg2 arg4 harg4 arg6 harg6 arg8 harg8 arg9 harg9 arg10 harg10 arg13 harg13 arg14 harg14 arg15 harg15 x0 x2 x4 x6 x7 x8 x11 x12 x13) x

end Cert.BwdOut

end
-- ==== Proof.BwdOutB2.lean ====
/- At a row block's later point, the parts of the taps' and the bias's gradients that the point leaves. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

/-- The run's value for the first quarter of output 18 is the quarter written once. -/
theorem w18_0_B : kernelRun0_B.sl.v147 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 0 := rfl

/-- The run's value for the second quarter of output 18 is the quarter written once. -/
theorem w18_1_B : kernelRun0_B.sl.v336 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 1 := rfl

/-- The run's value for the third quarter of output 18 is the quarter written once. -/
theorem w18_2_B : kernelRun0_B.sl.v526 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 2 := rfl

/-- The run's value for the fourth quarter of output 18 is the quarter written once. -/
theorem w18_3_B : kernelRun0_B.sl.v712 (F := F) c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14 = ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14)) 3 := rfl

set_option maxHeartbeats 800000 in
/-- A row block's later point leaves, quarter by quarter, the gate's parts of the taps' and the bias's gradients. -/
theorem out18_B
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : ¬cond0_0 i) (hc1 : cond0_1 i) (xo17 : Vec F S512x1024 .f32) (y : S8x1024.Idx) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xo17 y = wide (ptG i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg14.view.read (Elt F) (harg14.unread x12)) (arg15.view.read (Elt F) (harg15.unread x13)) (arg16.view.read (Elt F) (harg16.unread x14))) y := by
  frame_open
  rw [View.read_writes_junk_eq_canon]
  canon_tiles x h
  · rw [wide_at _ y x 3 (by omega) (by show _ = 256 * 3 + _; omega)]; exact congrFun (w18_3_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 2 (by omega) (by show _ = 256 * 2 + _; omega)]; exact congrFun (w18_2_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 1 (by omega) (by show _ = 256 * 1 + _; omega)]; exact congrFun (w18_1_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x
  · rw [wide_at _ y x 0 (by omega) (by show _ = 256 * 0 + _; omega)]; exact congrFun (w18_0_B c i arg2 harg2 arg3 harg3 arg4 harg4 arg5 harg5 arg6 harg6 arg7 harg7 arg8 harg8 arg9 harg9 arg10 harg10 arg13 harg13 arg14 harg14 arg15 harg15 arg16 harg16 x0 x1 x2 x3 x4 x5 x6 x7 x8 x11 x12 x13 x14) x

/-- The run's value for the first quarter of output 19 is the quarter written once. -/
theorem w19_0_B : kernelRun0_B.sl.v194 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 0 := rfl

/-- The run's value for the second quarter of output 19 is the quarter written once. -/
theorem w19_1_B : kernelRun0_B.sl.v383 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 1 := rfl

/-- The run's value for the third quarter of output 19 is the quarter written once. -/
theorem w19_2_B : kernelRun0_B.sl.v573 (F := F) c i arg2 harg2 arg3 harg3 arg4 harg4 arg5 harg5 arg6 harg6 arg7 harg7 arg8 harg8 arg9 harg9 arg10 harg10 arg13 harg13 arg15 harg15 x0 x1 x2 x3 x4 x5 x6 x7 x8 x11 x13 = ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13)) 2 := rfl

set_option maxHeartbeats 800000 in
/-- A row block's later point leaves, quarter by quarter, the value's parts of the taps' and the bias's gradients. -/
theorem out19_B
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : ¬cond0_0 i) (hc1 : cond0_1 i) (xo17 : Vec F S512x1024 .f32) (y : S8x1024.Idx) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xo17 y = wide (ptV i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread x11)) (arg15.view.read (Elt F) (harg15.unread x13))) y := by
  frame_open
  rw [View.read_writes_junk_eq_canon]
  canon_tiles x h
  · rw [wide_at _ y x 3 (by omega) (by show _ = 256 * 3 + _; omega)]; rfl
  · rw [wide_at _ y x 2 (by omega) (by show _ = 256 * 2 + _; omega)]; exact congrFun (w19_2_B c i arg2 harg2 arg3 harg3 arg4 harg4 arg5 harg5 arg6 harg6 arg7 harg7 arg8 harg8 arg9 harg9 arg10 harg10 arg13 harg13 arg15 harg15 x0 x1 x2 x3 x4 x5 x6 x7 x8 x11 x13) x
  · rw [wide_at _ y x 1 (by omega) (by show _ = 256 * 1 + _; omega)]; exact congrFun (w19_1_B c i arg2 harg2 arg3 harg3 arg4 harg4 arg5 harg5 arg6 harg6 arg7 harg7 arg8 harg8 arg9 harg9 arg10 harg10 arg13 harg13 arg15 harg15 x0 x1 x2 x3 x4 x5 x6 x7 x8 x11 x13) x
  · rw [wide_at _ y x 0 (by omega) (by show _ = 256 * 0 + _; omega)]; exact congrFun (w19_0_B c i arg2 harg2 arg3 harg3 arg4 harg4 arg5 harg5 arg6 harg6 arg7 harg7 arg8 harg8 arg9 harg9 arg10 harg10 arg13 harg13 arg15 harg15 x0 x1 x2 x3 x4 x5 x6 x7 x8 x11 x13) x

end Cert.BwdOut

end
-- ==== Proof.BwdOutB3.lean ====
/- At a row block's later point, what the point leaves of the gradient at the call's input. -/
module

public import proofs.«01_k».proof.Proof.BwdCore
public import proofs.«01_k».proof.Proof.Gen.BwdIdeal.Value
public import Idealize.ShloMosaic.Lib.Pipeline.ValueKit

public section

set_option maxRecDepth 16384

noncomputable section

namespace Cert.BwdOut

open Idealize.ShloMosaic Idealize.ShloMosaic.TcCoe Idealize.SL.Sem
open Idealize.ShloMosaic.Pipeline (Dat)
open Cert.BwdIdeal Cert.BwdIdeal.Gen Cert.BwdCore

variable {F : FTy → Type} [FloatOps F] [Named F]
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .bf16) (harg8 : arg8.IsWhole)
  (arg9 : Memref sig .tc .vmem S16x1024 .bf16) (harg9 : arg9.IsWhole)
  (arg10 : Memref sig .tc .vmem S1024x1024 .bf16) (harg10 : arg10.IsWhole)
  (arg11 : Memref sig .tc .vmem S1x1024x1024 .bf16) (harg11 : arg11.IsWhole)
  (arg12 : Memref sig .tc .vmem S1x1024x1024 .bf16) (harg12 : arg12.IsWhole)
  (arg13 : Memref sig .tc .vmem S3x1024 .f32) (harg13 : arg13.IsWhole)
  (arg14 : Memref sig .tc .vmem S3x1024 .f32) (harg14 : arg14.IsWhole)
  (arg15 : Memref sig .tc .vmem S1x1024 .f32) (harg15 : arg15.IsWhole)
  (arg16 : Memref sig .tc .vmem S1x1024 .f32) (harg16 : arg16.IsWhole)
  (x0 : Vec F S512x1024 .f32)
  (x1 : Vec F S512x1024 .f32)
  (x2 : Vec F S8x1024 .f32)
  (x3 : Vec F S8x1024 .f32)
  (x4 : Vec F S8x1024 .f32)
  (x5 : Vec F S8x1024 .f32)
  (x6 : Vec F S512x1024 .bf16)
  (x7 : Vec F S16x1024 .bf16)
  (x8 : Vec F S1024x1024 .bf16)
  (x9 : Vec F S1x1024x1024 .bf16)
  (x10 : Vec F S1x1024x1024 .bf16)
  (x11 : Vec F S3x1024 .f32)
  (x12 : Vec F S3x1024 .f32)
  (x13 : Vec F S1x1024 .f32)
  (x14 : Vec F S1x1024 .f32)

set_option maxHeartbeats 800000 in
/-- The run's sum of the four quarters' terms is the sum written once. -/
theorem w17_B : kernelRun0_B.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = tmSum i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14)) := rfl

set_option maxHeartbeats 800000 in
/-- A row block's later point leaves the four quarters' terms added to what the point before left. -/
theorem out17_B
  (arg17 : Memref sig .tc .vmem S512x1024 .bf16) (harg17 : arg17.IsWhole)
  (arg18 : Memref sig .tc .vmem S512x1024 .bf16) (harg18 : arg18.IsWhole)
  (arg19 : Memref sig .tc .vmem S512x1024 .f32) (harg19 : arg19.IsWhole)
  (arg20 : Memref sig .tc .vmem S8x1024 .f32) (harg20 : arg20.IsWhole)
  (arg21 : Memref sig .tc .vmem S8x1024 .f32) (harg21 : arg21.IsWhole)
  (hc0 : ¬cond0_0 i) (hc1 : cond0_1 i) (xo17 : Vec F S512x1024 .f32) (y : S512x1024.Idx) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xo17 y = k0_pay1 (tmSum i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14))) (allAcc (arg19.view.read (Elt F) (harg19.unread xo17))) y := by
  frame_open
  rw [View.read_writes_junk_eq_canon]
  simp (disch := decide) only [View.canon_cons_unit_lit']
  exact congrFun (congrArg (fun z => k0_pay1 z (allAcc (arg19.view.read (Elt F) (harg19.unread xo17)))) (w17_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)) y

end Cert.BwdOut

end
-- ==== Proof.BwdLeft.lean ====
/- What each point leaves in the backward call's outputs, in the core's terms. -/
module

public import proofs.«01_k».proof.Proof.BwdOutA1
public import proofs.«01_k».proof.Proof.BwdOutA2
public import proofs.«01_k».proof.Proof.BwdOutA3
public import proofs.«01_k».proof.Proof.BwdOutB1
public import proofs.«01_k».proof.Proof.BwdOutB2
public import proofs.«01_k».proof.Proof.BwdOutB3
public import proofs.«01_k».proof.Proof.BwdBlk

public section

set_option maxRecDepth 16384

noncomputable section

namespace Cert.BwdLeft

open Idealize.ShloMosaic Idealize.ShloMosaic.TcCoe Idealize.SL.Sem
open Idealize.ShloMosaic.Pipeline (Dat)
open Cert.BwdIdeal Cert.BwdIdeal.Gen Cert.BwdCore Cert.BwdBlk

variable {F : FTy → Type} [FloatOps F] [Named F] (m : (ℓ : Loc nD τ sig) → Buf (Elt F) ℓ) (c : Dev nD) (t : Fin cfg0.N)

theorem left15 (y : S512x1024.Idx) : (outsAt0 m c t.val t.isLt).1 y
    = wide (duG (F := F) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 12 t) (iblk m c 13 t) (iblk m c 14 t)) y := by
  by_cases h : t.val % 4 = 0
  · rw [outsAt0_A m c t h (by omega)]
    dsimp only
    refine (BwdOut.out15_A (F := F) ..).trans ?_
    simp only [Memref.IsWhole.read_unread]
  · rw [outsAt0_B m c t h (by omega)]
    dsimp only
    refine (BwdOut.out15_B (F := F) ..).trans ?_
    simp only [Memref.IsWhole.read_unread]

theorem left16 (y : S512x1024.Idx) : (outsAt0 m c t.val t.isLt).2.1 y
    = wide (duV (F := F) (grid0.coords t) (iblk m c 0 t) (iblk m c 2 t) (iblk m c 4 t) (iblk m c 6 t)
      (iblk m c 7 t) (iblk m c 8 t) (iblk m c 11 t) (iblk m c 12 t) (iblk m c 13 t)) y := by
  by_cases h : t.val % 4 = 0
  · rw [outsAt0_A m c t h (by omega)]
    dsimp only
    refine (BwdOut.out16_A (F := F) ..).trans ?_
    simp only [Memref.IsWhole.read_unread]
  · rw [outsAt0_B m c t h (by omega)]
    dsimp only
    refine (BwdOut.out16_B (F := F) ..).trans ?_
    simp only [Memref.IsWhole.read_unread]

theorem left18 (y : S8x1024.Idx) : (outsAt0 m c t.val t.isLt).2.2.2.1 y
    = wide (ptG (F := F) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 12 t) (iblk m c 13 t) (iblk m c 14 t)) y := by
  by_cases h : t.val % 4 = 0
  · rw [outsAt0_A m c t h (by omega)]
    dsimp only
    refine (BwdOut.out18_A (F := F) ..).trans ?_
    simp only [Memref.IsWhole.read_unread]
  · rw [outsAt0_B m c t h (by omega)]
    dsimp only
    refine (BwdOut.out18_B (F := F) ..).trans ?_
    simp only [Memref.IsWhole.read_unread]

theorem left19 (y : S8x1024.Idx) : (outsAt0 m c t.val t.isLt).2.2.2.2 y
    = wide (ptV (F := F) (grid0.coords t) (iblk m c 0 t) (iblk m c 1 t) (iblk m c 2 t) (iblk m c 3 t) (iblk m c 4 t) (iblk m c 5 t) (iblk m c 6 t)
      (iblk m c 7 t) (iblk m c 8 t) (iblk m c 11 t) (iblk m c 13 t)) y := by
  by_cases h : t.val % 4 = 0
  · rw [outsAt0_A m c t h (by omega)]
    dsimp only
    refine (BwdOut.out19_A (F := F) ..).trans ?_
    simp only [Memref.IsWhole.read_unread]
  · rw [outsAt0_B m c t h (by omega)]
    dsimp only
    refine (BwdOut.out19_B (F := F) ..).trans ?_
    simp only [Memref.IsWhole.read_unread]

/-- What a point adds to the gradient at the call's input. -/
@[expose] def part : FVec F S512x1024 .f32 :=
  tmSum (F := F) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)

theorem reset17 (h : t.val % 4 = 0) (y : S512x1024.Idx) : (outsAt0 m c t.val t.isLt).2.2.1 y = part m c t y := by
  rw [outsAt0_A m c t h (by omega)]
  dsimp only
  refine (BwdOut.out17_A (F := F) ..).trans ?_
  simp only [Memref.IsWhole.read_unread]
  rfl

theorem step17 (h : ¬t.val % 4 = 0) (y : S512x1024.Idx) : (outsAt0 m c t.val t.isLt).2.2.1 y
    = k0_pay1 (F := F) (part m c t) (allAcc (outsAt0 m c (t.val - 1) (Nat.lt_of_le_of_lt (Nat.sub_le _ _) t.isLt)).2.2.1) y := by
  rw [outsAt0_B m c t h (by omega)]
  dsimp only
  refine (BwdOut.out17_B (F := F) ..).trans ?_
  simp only [Memref.IsWhole.read_unread]
  rfl

end Cert.BwdLeft

end
-- ==== Proof.BwdFinal.lean ====
/- The backward call's five results after the run are the reference's. -/
module

public import proofs.«01_k».proof.Proof.BwdAt
public import proofs.«01_k».proof.Proof.BwdLeft

public section

set_option maxRecDepth 16384

noncomputable section

namespace Cert.BwdFinal

open Idealize.ShloMosaic Idealize.ShloMosaic.TcCoe Idealize.SL.Sem
open Idealize.ShloMosaic.Pipeline (Dat)
open Cert.BwdIdeal Cert.BwdIdeal.Gen Cert.BwdCore Cert.BwdBlk

variable (m : (ℓ : Loc nD τ sig) → Buf (Elt Ideal) ℓ) (c : Dev nD) (t : Fin cfg0.N)

theorem carry_at (x acc : FVec Ideal S512x1024 .f32) (y : S512x1024.Idx) : k0_pay1 (F := Ideal) x acc y = acc y + x y := by
  pointwise [k0_pay1]

theorem reset (h : t.val % 4 = 0) (y : S512x1024.Idx) : (outsAt0 m c t.val t.isLt).2.2.1 y = (0 : EReal) + BwdLeft.part m c t y :=
  (BwdLeft.reset17 m c t h y).trans (zero_add (M := EReal) _).symm

theorem step (h : ¬t.val % 4 = 0) (y : S512x1024.Idx) : (outsAt0 m c t.val t.isLt).2.2.1 y
    = (outsAt0 m c (t.val - 1) (Nat.lt_of_le_of_lt (Nat.sub_le _ _) t.isLt)).2.2.1 y + BwdLeft.part m c t y := by
  rw [BwdLeft.step17 m c t h y, allAcc_eq]
  exact carry_at _ _ y

section real

variable (h0 : ∀ j, BwdReal.IsR (m ((c : Thread nD τ).loc main_arg0) j)) (h1 : ∀ j, BwdReal.IsR (m ((c : Thread nD τ).loc main_arg1) j))
  (h2 : ∀ j, BwdReal.IsR (m ((c : Thread nD τ).loc main_arg2) j)) (h3 : ∀ j, BwdReal.IsR (m ((c : Thread nD τ).loc main_arg3) j))
  (h4 : ∀ j, BwdReal.IsR (m ((c : Thread nD τ).loc main_arg4) j)) (h5 : ∀ j, BwdReal.IsR (m ((c : Thread nD τ).loc main_arg5) j))

include h0 h1 h2 h3 h4 h5 in
/-- The gate's half of the up product's gradient, after the run. -/
theorem final15 : (Gen.dats m 0 c).arrAt 15 (cfgs 0).N
    = BwdRefIdeal.Read.val_main_v120 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Gen.dats m 0 c).arrAt_eq_of_covers 15 _ (by decide +kernel) fun t hf y => ?_
  have ht := lt_points t
  have hy0 : (y 0).val < 512 := (y 0).isLt
  have hy1 : (y 1).val < 1024 := (y 1).isLt
  blk_simp
  rw [after0_15, BwdLeft.left15]
  unfold wide
  refine (BwdAt.duG_at m c t _ _ h0 h1 h2 h3 h4 h5 ⟨1024 * (t.val % 4) + (y 1).val, by omega⟩ (by simp only []; omega) (y 0)
    ⟨512 * (t.val / 4) + (y 0).val, by omega⟩ rfl).trans ?_
  pointwise [BwdRefIdeal.Read.val_main_v120, BwdRefIdeal.Read.val_main_v119]
  blk_point [iblk, V, idx_val t]

include h0 h1 h2 h3 h4 h5 in
/-- The value's half. -/
theorem final16 : (Gen.dats m 0 c).arrAt 16 (cfgs 0).N
    = BwdRefIdeal.Read.val_main_v122 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Gen.dats m 0 c).arrAt_eq_of_covers 16 _ (by decide +kernel) fun t hf y => ?_
  have ht := lt_points t
  have hy0 : (y 0).val < 512 := (y 0).isLt
  have hy1 : (y 1).val < 1024 := (y 1).isLt
  blk_simp
  rw [after0_16, BwdLeft.left16]
  unfold wide
  refine (BwdAt.duV_at m c t _ _ ⟨4096 + (1024 * (t.val % 4) + (y 1).val), by omega⟩ (by simp only []; omega) (y 0)
    ⟨512 * (t.val / 4) + (y 0).val, by omega⟩ rfl).trans ?_
  pointwise [BwdRefIdeal.Read.val_main_v122, BwdRefIdeal.Read.val_main_v121]
  blk_point [iblk, V, idx_val t]

include h0 h1 h2 h3 h4 h5 in
/-- The gate's parts. -/
theorem final18 : (Gen.dats m 0 c).arrAt 18 (cfgs 0).N
    = BwdRefIdeal.Read.val_main_v123 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Gen.dats m 0 c).arrAt_eq_of_covers 18 _ (by decide +kernel) fun t hf y => ?_
  have ht := lt_points t
  have hy0 : (y 0).val < 8 := (y 0).isLt
  have hy1 : (y 1).val < 1024 := (y 1).isLt
  blk_simp
  rw [after0_18, BwdLeft.left18]
  unfold wide
  refine (BwdAt.ptG_at m c t _ _ h0 h1 h2 h3 h4 h5 ⟨1024 * (t.val % 4) + (y 1).val, by omega⟩ (by simp only []; omega) (y 0)
    ⟨8 * (t.val / 4) + (y 0).val, by omega⟩ rfl).trans ?_
  pointwise [BwdRefIdeal.Read.val_main_v123]
  blk_point [iblk, V, idx_val t]

include h0 h1 h2 h3 h4 h5 in
/-- The value's parts. -/
theorem final19 : (Gen.dats m 0 c).arrAt 19 (cfgs 0).N
    = BwdRefIdeal.Read.val_main_v124 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Gen.dats m 0 c).arrAt_eq_of_covers 19 _ (by decide +kernel) fun t hf y => ?_
  have ht := lt_points t
  have hy0 : (y 0).val < 8 := (y 0).isLt
  have hy1 : (y 1).val < 1024 := (y 1).isLt
  blk_simp
  rw [after0_19, BwdLeft.left19]
  unfold wide
  refine (BwdAt.ptV_at m c t _ _ h0 h1 h2 h3 h4 h5 ⟨4096 + (1024 * (t.val % 4) + (y 1).val), by omega⟩ (by simp only []; omega) (y 0)
    ⟨8 * (t.val / 4) + (y 0).val, by omega⟩ rfl).trans ?_
  pointwise [BwdRefIdeal.Read.val_main_v124]
  blk_point [iblk, V, idx_val t]

/-- A sum over all columns: the gate's and the value's, by column block, quarter and column. -/
theorem sum_cols (f : Fin 8192 → EReal) : ∑ j : Fin 4, ∑ s : Fin 4, ((∑ l : Fin 256, f ⟨1024 * j.val + (256 * s.val + l.val), by omega⟩)
      + ∑ l : Fin 256, f ⟨4096 + (1024 * j.val + (256 * s.val + l.val)), by omega⟩) = ∑ q : Fin 8192, f q := by
  have key (g : Fin 4096 → EReal) : ∑ j : Fin 4, ∑ s : Fin 4, ∑ l : Fin 256, g ⟨1024 * j.val + (256 * s.val + l.val), by omega⟩ = ∑ q : Fin 4096, g q := by
    refine Eq.trans (Finset.sum_congr rfl fun j _ => ?_) (Fin.sum_mul_add_congr (S := 4) (n := 1024) (F := fun j (k : Fin 1024) => g ⟨1024 * j.val + k.val, by omega⟩) fun s k hl => congrArg g (Fin.ext (by simp only []; omega)))
    exact Fin.sum_mul_add_congr (f := fun k : Fin 1024 => g ⟨1024 * j.val + k.val, by omega⟩) fun s k hl => congrArg g (Fin.ext (by simp only []; omega))
  rw [show ∑ q : Fin 8192, f q = (∑ q : Fin 4096, f ⟨q.val, by omega⟩) + ∑ q : Fin 4096, f ⟨4096 + q.val, by omega⟩ from Fin.sum_univ_add (a := 4096) (b := 4096) f,
    ← key (fun q => f ⟨q.val, by omega⟩), ← key (fun q => f ⟨4096 + q.val, by omega⟩)]
  simp only [Finset.sum_add_distrib]

include h0 h1 h2 h3 h4 h5 in
theorem part_at (r : Fin 512) (k : Fin 1024) (n : Fin 4096) (hn : n.val = 512 * (t.val / 4) + r.val) : BwdLeft.part m c t (ix2 r k)
    = ∑ s : Fin 4, ((∑ l : Fin 256, BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
          (ix2 n ⟨1024 * (t.val % 4) + (256 * s.val + l.val), by omega⟩)
          * m ((c : Thread nD τ).loc main_arg1) (ix2 k ⟨1024 * (t.val % 4) + (256 * s.val + l.val), by omega⟩))
      + ∑ l : Fin 256, BwdRefIdeal.Read.val_main_v94 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
          (ix2 n ⟨4096 + (1024 * (t.val % 4) + (256 * s.val + l.val)), by omega⟩)
          * m ((c : Thread nD τ).loc main_arg1) (ix2 k ⟨4096 + (1024 * (t.val % 4) + (256 * s.val + l.val)), by omega⟩)) := by
  refine Eq.trans ?_ ((Finset.sum_congr rfl fun s _ => BwdAt.tm_at m c t s h0 h1 h2 h3 h4 h5 r k n hn))
  rw [Fin.sum_univ_four]
  unfold BwdLeft.part
  pointwise [tmSum]

include h0 h1 h2 h3 h4 h5 in
/-- The gradient at the call's input. -/
theorem final17 : (Gen.dats m 0 c).arrAt 17 (cfgs 0).N
    = BwdRefIdeal.Read.val_main_v111 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Gen.dats m 0 c).arrAt_eq_of_covers 17 _ (by decide +kernel) fun t hf y => ?_
  have ht := lt_points t
  have hy0 : (y 0).val < 512 := (y 0).isLt
  have hy1 : (y 1).val < 1024 := (y 1).isLt
  have hx : ∀ z : S4096x1024.Idx, (z 0).val = 512 * (t.val / 4) + (y 0).val → (z 1).val = (y 1).val →
      z = ix2 ⟨512 * (t.val / 4) + (y 0).val, by omega⟩ ⟨(y 1).val, hy1⟩ := fun z a b =>
    (eq_ix2 z).trans (by congr 1 <;> exact Fin.ext (by assumption))
  have h3' := (flush0_17 t).mp hf
  have key : (outsAt0 m c t.val t.isLt).2.2.1 y = BwdRefIdeal.Read.val_main_v111 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 ⟨512 * (t.val / 4) + (y 0).val, by omega⟩ ⟨(y 1).val, hy1⟩) := by
    refine (Pipeline.eq_sum_fin_of_reset_step_apply_of_flush (fun n h => (outsAt0 m c n h).2.2.1) 4 (fun _ => (0 : EReal)) (BwdLeft.part m c)
      (fun t h j => reset m c t h j) (fun t h j => step m c t h j) t h3' y).trans ?_
    rw [zero_add, BwdRef.dh_at, ← sum_cols]
    refine Finset.sum_congr rfl fun j _ => ?_
    have hj : (4 * (t.val / 4) + j.val) % 4 = j.val := by omega
    refine (congrArg _ (eq_ix2 y)).trans ((part_at m c _ h0 h1 h2 h3 h4 h5 (y 0) (y 1) ⟨512 * (t.val / 4) + (y 0).val, by omega⟩ (by simp only []; omega)).trans ?_)
    simp only [hj]
    rfl
  blk_simp
  rw [after0_17]
  refine key.trans ?_
  blk_point [iblk, V, idx_val t]

end real

end Cert.BwdFinal

end
-- ==== Proof.BwdPre.lean ====
/- What the precondition says: the arguments are real. -/
module

public import proofs.«01_k».proof.Defs
public import proofs.«01_k».proof.Proof.BwdReal
public import proofs.«01_k».proof.Proof.BwdBlk
public import proofs.«01_k».proof.Proof.Gen.Pre_finite

public section

set_option maxRecDepth 16384

noncomputable section

namespace Cert.BwdPre

open Idealize.ShloMosaic Idealize.ShloMosaic.TcCoe Idealize.SL.Sem
open Idealize.ShloMosaic.Pipeline (Dat)
open Cert.BwdIdeal Cert.BwdIdeal.Gen Cert.BwdCore Cert.BwdBlk

/-- An argument that the precondition passes holds no infinity. -/
theorem real_of {s : Shape} {φ : FTy} (x w : FVec Ideal s φ) (hw : ∀ j, w j = (⊤ : EReal))
    (h : cmpf (F := Ideal) .olt (Host.absf x) w = fun _ => 1#1) (j : s.Idx) : BwdReal.IsR (x j) := by
  have h' : Ideal.cmp .olt (max (x j) (-(x j) : EReal)) (w j) = 1#1 := congrFun h j
  rw [hw] at h'
  have hlt : max (x j : EReal) (-(x j) : EReal) < ⊤ := by
    by_contra hn
    simp only [Ideal.cmp, hn] at h'
    exact absurd h' (by decide)
  refine BwdReal.IsR.of_ne (ne_of_lt (lt_of_le_of_lt (le_max_left _ _) hlt)) fun hb => ?_
  have h2 := lt_of_le_of_lt (le_max_right (x j : EReal) (-(x j) : EReal)) hlt
  rw [hb, EReal.neg_bot] at h2
  exact lt_irrefl _ h2

theorem inf_f32 : Ideal.ofBits .f32 0x7F800000#32 = (⊤ : EReal) := by
  simp [Ideal.ofBits, Ideal.ieee]

theorem inf_bf16 : Ideal.ofBits .bf16 0x7F80#16 = (⊤ : EReal) := by
  simp [Ideal.ofBits, Ideal.ieee]

section pre

open Cert.Pre_finite.Gen

/-- What the precondition says of each argument. -/
theorem reals (m : (ℓ : Loc nD τ sig) → Buf (Elt Ideal) ℓ) (h : Cert.Pre_BwdIdeal_finite (hPre_finite := Pre_finite.Gen.facts) m) (c : Dev nD) :
    (∀ j, BwdReal.IsR (m ((c : Thread nD τ).loc main_arg0) j)) ∧ (∀ j, BwdReal.IsR (m ((c : Thread nD τ).loc main_arg1) j))
    ∧ (∀ j, BwdReal.IsR (m ((c : Thread nD τ).loc main_arg2) j)) ∧ (∀ j, BwdReal.IsR (m ((c : Thread nD τ).loc main_arg3) j))
    ∧ (∀ j, BwdReal.IsR (m ((c : Thread nD τ).loc main_arg4) j)) ∧ (∀ j, BwdReal.IsR (m ((c : Thread nD τ).loc main_arg5) j)) := by
  obtain ⟨a0, a1, a2, a3, a4, a5⟩ := h c
  exact ⟨real_of _ _ (fun _ => inf_bf16) a0, real_of _ _ (fun _ => inf_f32) a1, real_of _ _ (fun _ => inf_f32) a2, real_of _ _ (fun _ => inf_f32) a3,
    real_of _ _ (fun _ => inf_f32) a4, real_of _ _ (fun _ => inf_bf16) a5⟩

end pre

end Cert.BwdPre

end
-- ==== Proof.BwdValue.lean ====
/- The backward call computes the gradients of the reference's gated unit. -/
module

public import proofs.«01_k».proof.Proof.BwdFinal
public import proofs.«01_k».proof.Proof.BwdPre
public import proofs.«01_k».proof.Proof.Gen.BwdRefIdeal.Run

public section

set_option maxRecDepth 16384

noncomputable section

namespace Cert.BwdValue

open Idealize.ShloMosaic Idealize.ShloMosaic.TcCoe Idealize.SL.Sem

/-- The kernel's five results and the reference's are equal. -/
theorem algebraic : Cert.algebraic_BwdIdeal_BwdRefIdeal_pre_finite (hBwdIdeal := BwdIdeal.Gen.facts) (hBwdRefIdeal := BwdRefIdeal.Gen.facts)
    (hPre_finite := Pre_finite.Gen.facts) := by
  pair_intro
  · run_from BwdIdeal.Value.run_blocks m g
  · run_from BwdRefIdeal.Value.run m' g'
    all_goals obtain ⟨h0, h1, h2, h3, h4, h5⟩ := BwdPre.reals m hpre c
    all_goals obtain ⟨e0, e1, e2, e3, e4, e5⟩ := hagree c
    · refine Eq.trans ?_ (BwdFinal.final15 m c h0 h1 h2 h3 h4 h5).symm
      rw [← e0, ← e1, ← e2, ← e3, ← e4, ← e5]
      exact BwdRefIdeal.Read.val_main_v120_eq (StableHlo.launchContents m' c)
    · refine Eq.trans ?_ (BwdFinal.final16 m c h0 h1 h2 h3 h4 h5).symm
      rw [← e0, ← e1, ← e2, ← e3, ← e4, ← e5]
      exact BwdRefIdeal.Read.val_main_v122_eq (StableHlo.launchContents m' c)
    · refine Eq.trans ?_ (BwdFinal.final17 m c h0 h1 h2 h3 h4 h5).symm
      rw [← e0, ← e1, ← e2, ← e3, ← e4, ← e5]
      exact BwdRefIdeal.Read.val_main_v111_eq (StableHlo.launchContents m' c)
    · refine Eq.trans ?_ (BwdFinal.final18 m c h0 h1 h2 h3 h4 h5).symm
      rw [← e0, ← e1, ← e2, ← e3, ← e4, ← e5]
      exact BwdRefIdeal.Read.val_main_v123_eq (StableHlo.launchContents m' c)
    · refine Eq.trans ?_ (BwdFinal.final19 m c h0 h1 h2 h3 h4 h5).symm
      rw [← e0, ← e1, ← e2, ← e3, ← e4, ← e5]
      exact BwdRefIdeal.Read.val_main_v124_eq (StableHlo.launchContents m' c)

end Cert.BwdValue

end
-- ==== Proof.lean ====
/- The claim: the frames of the eighteen programs and of their references, the named constant, and the value claims. -/
module

public import proofs.«01_k».proof.Defs
public import proofs.«01_k».proof.Proof.Gen.Bwd.Frame
public import proofs.«01_k».proof.Proof.Gen.BwdIdeal.Frame
public import proofs.«01_k».proof.Proof.Gen.Up.Frame
public import proofs.«01_k».proof.Proof.Gen.UpIdeal.Frame
public import proofs.«01_k».proof.Proof.UpValue
public import proofs.«01_k».proof.Proof.Gen.UpDw.Frame
public import proofs.«01_k».proof.Proof.Gen.UpDwIdeal.Frame
public import proofs.«01_k».proof.Proof.UpDwValue
public import proofs.«01_k».proof.Proof.Gen.Down.Frame
public import proofs.«01_k».proof.Proof.Gen.DownIdeal.Frame
public import proofs.«01_k».proof.Proof.DownValue
public import proofs.«01_k».proof.Proof.Gen.DownDw.Frame
public import proofs.«01_k».proof.Proof.Gen.DownDwIdeal.Frame
public import proofs.«01_k».proof.Proof.DownDwValue
public import proofs.«01_k».proof.Proof.Gen.Sum.Frame
public import proofs.«01_k».proof.Proof.Gen.SumIdeal.Frame
public import proofs.«01_k».proof.Proof.SumValue
public import proofs.«01_k».proof.Proof.Gen.ProjDx.Frame
public import proofs.«01_k».proof.Proof.Gen.ProjDxIdeal.Frame
public import proofs.«01_k».proof.Proof.ProjDxValue
public import proofs.«01_k».proof.Proof.Gen.ProjDw.Frame
public import proofs.«01_k».proof.Proof.Gen.ProjDwIdeal.Frame
public import proofs.«01_k».proof.Proof.ProjDwValue
public import proofs.«01_k».proof.Proof.Gen.MixDx.Frame
public import proofs.«01_k».proof.Proof.Gen.MixDxIdeal.Frame
public import proofs.«01_k».proof.Proof.MixDxValue
public import proofs.«01_k».proof.Proof.Gen.MixDw.Frame
public import proofs.«01_k».proof.Proof.Gen.MixDwIdeal.Frame
public import proofs.«01_k».proof.Proof.MixDwValue
public import proofs.«01_k».proof.Proof.Gen.Proj.Frame
public import proofs.«01_k».proof.Proof.Gen.ProjIdeal.Frame
public import proofs.«01_k».proof.Proof.ProjValue
public import proofs.«01_k».proof.Proof.Gen.Mix.Frame
public import proofs.«01_k».proof.Proof.Gen.MixIdeal.Frame
public import proofs.«01_k».proof.Proof.MixValue
public import proofs.«01_k».proof.Proof.Gen.PostNorm.Frame
public import proofs.«01_k».proof.Proof.Gen.PostNormIdeal.Frame
public import proofs.«01_k».proof.Proof.PostNormValue
public import proofs.«01_k».proof.Proof.Gen.PreNorm.Frame
public import proofs.«01_k».proof.Proof.Gen.PreNormIdeal.Frame
public import proofs.«01_k».proof.Proof.PreNormValue
public import proofs.«01_k».proof.Proof.Gen.MidNorm.Frame
public import proofs.«01_k».proof.Proof.Gen.MidNormIdeal.Frame
public import proofs.«01_k».proof.Proof.MidNormValue
public import proofs.«01_k».proof.Proof.Gen.PreNormFwd.Frame
public import proofs.«01_k».proof.Proof.Gen.PreNormFwdIdeal.Frame
public import proofs.«01_k».proof.Proof.PreNormFwdValue
public import proofs.«01_k».proof.Proof.Gen.MidNormFwd.Frame
public import proofs.«01_k».proof.Proof.Gen.MidNormFwdIdeal.Frame
public import proofs.«01_k».proof.Proof.MidNormFwdValue
public import proofs.«01_k».proof.Proof.Gen.PostNormFwd.Frame
public import proofs.«01_k».proof.Proof.Gen.PostNormFwdIdeal.Frame
public import proofs.«01_k».proof.Proof.PostNormFwdValue
public import proofs.«01_k».proof.Proof.RefFrames
public import proofs.«01_k».proof.Proof.Gen.Pre_finite
public import proofs.«01_k».proof.Proof.BwdValue
public import Idealize.ShloMosaic.Adequacy
public import Idealize.ShloMosaic.Init

@[expose] public section

namespace Cert.Proof

open Idealize.ShloMosaic Idealize.SL.Sem

theorem claim : Cert.Claim :=
  ⟨Bwd.Gen.facts, BwdIdeal.Gen.facts, BwdRefIdeal.Gen.facts, Up.Gen.facts, UpIdeal.Gen.facts, UpRefIdeal.Gen.facts, UpDw.Gen.facts, UpDwIdeal.Gen.facts, UpDwRefIdeal.Gen.facts,
  Down.Gen.facts, DownIdeal.Gen.facts, DownRefIdeal.Gen.facts, DownDw.Gen.facts, DownDwIdeal.Gen.facts, DownDwRefIdeal.Gen.facts, Sum.Gen.facts, SumIdeal.Gen.facts, SumRefIdeal.Gen.facts, ProjDx.Gen.facts, ProjDxIdeal.Gen.facts, ProjDxRefIdeal.Gen.facts, ProjDw.Gen.facts, ProjDwIdeal.Gen.facts, ProjDwRefIdeal.Gen.facts, MixDx.Gen.facts, MixDxIdeal.Gen.facts, MixDxRefIdeal.Gen.facts, MixDw.Gen.facts, MixDwIdeal.Gen.facts, MixDwRefIdeal.Gen.facts, Proj.Gen.facts, ProjIdeal.Gen.facts, ProjRefIdeal.Gen.facts, Mix.Gen.facts, MixIdeal.Gen.facts, MixRefIdeal.Gen.facts, PostNorm.Gen.facts, PostNormIdeal.Gen.facts, PostNormRefIdeal.Gen.facts, PreNorm.Gen.facts, PreNormIdeal.Gen.facts, PreNormRefIdeal.Gen.facts, MidNorm.Gen.facts, MidNormIdeal.Gen.facts, MidNormRefIdeal.Gen.facts, PreNormFwd.Gen.facts, PreNormFwdIdeal.Gen.facts, PreNormFwdRefIdeal.Gen.facts, MidNormFwd.Gen.facts, MidNormFwdIdeal.Gen.facts, MidNormFwdRefIdeal.Gen.facts, PostNormFwd.Gen.facts, PostNormFwdIdeal.Gen.facts, PostNormFwdRefIdeal.Gen.facts, Cert.Pre_finite.Gen.facts,
  fun m ρ _ => Bwd.Gen.frame m ρ,
  fun m ρ _ => BwdIdeal.Gen.frame m ρ,
  fun m ρ _ => BwdIdeal.Gen.frame m ρ,
  RefFrames.frame_Bwd,
  fun m ρ _ => RefFrames.frame_Bwd m ρ trivial,
  fun m ρ _ => Up.Gen.frame m ρ,
  fun m ρ _ => UpIdeal.Gen.frame m ρ,
  RefFrames.frame_Up,
  fun m ρ _ => UpDw.Gen.frame m ρ,
  fun m ρ _ => UpDwIdeal.Gen.frame m ρ,
  RefFrames.frame_UpDw,
  fun m ρ _ => Down.Gen.frame m ρ,
  fun m ρ _ => DownIdeal.Gen.frame m ρ,
  RefFrames.frame_Down,
  fun m ρ _ => DownDw.Gen.frame m ρ,
  fun m ρ _ => DownDwIdeal.Gen.frame m ρ,
  RefFrames.frame_DownDw,
  fun m ρ _ => Sum.Gen.frame m ρ,
  fun m ρ _ => SumIdeal.Gen.frame m ρ,
  RefFrames.frame_Sum,
  fun m ρ _ => ProjDx.Gen.frame m ρ,
  fun m ρ _ => ProjDxIdeal.Gen.frame m ρ,
  RefFrames.frame_ProjDx,
  fun m ρ _ => ProjDw.Gen.frame m ρ,
  fun m ρ _ => ProjDwIdeal.Gen.frame m ρ,
  RefFrames.frame_ProjDw,
  fun m ρ _ => MixDx.Gen.frame m ρ,
  fun m ρ _ => MixDxIdeal.Gen.frame m ρ,
  RefFrames.frame_MixDx,
  fun m ρ _ => MixDw.Gen.frame m ρ,
  fun m ρ _ => MixDwIdeal.Gen.frame m ρ,
  RefFrames.frame_MixDw,
  fun m ρ _ => Proj.Gen.frame m ρ,
  fun m ρ _ => ProjIdeal.Gen.frame m ρ,
  RefFrames.frame_Proj,
  fun m ρ _ => Mix.Gen.frame m ρ,
  fun m ρ _ => MixIdeal.Gen.frame m ρ,
  RefFrames.frame_Mix,
  fun m ρ _ => PostNorm.Gen.frame m ρ,
  fun m ρ _ => PostNormIdeal.Gen.frame m ρ,
  RefFrames.frame_PostNorm,
  fun m ρ _ => PreNorm.Gen.frame m ρ,
  fun m ρ _ => PreNormIdeal.Gen.frame m ρ,
  RefFrames.frame_PreNorm,
  fun m ρ _ => MidNorm.Gen.frame m ρ,
  fun m ρ _ => MidNormIdeal.Gen.frame m ρ,
  RefFrames.frame_MidNorm,
  fun m ρ _ => PreNormFwd.Gen.frame m ρ,
  fun m ρ _ => PreNormFwdIdeal.Gen.frame m ρ,
  RefFrames.frame_PreNormFwd,
  fun m ρ _ => MidNormFwd.Gen.frame m ρ,
  fun m ρ _ => MidNormFwdIdeal.Gen.frame m ρ,
  RefFrames.frame_MidNormFwd,
  fun m ρ _ => PostNormFwd.Gen.frame m ρ,
  fun m ρ _ => PostNormFwdIdeal.Gen.frame m ρ,
  RefFrames.frame_PostNormFwd,
  IdealRules.named_const.statement BwdIdeal.κ "slope" .f32 0x3DDB33B6#32 _ rfl,
  BwdValue.algebraic,
  trivial,
  UpValue.algebraic,
  trivial,
  UpDwValue.algebraic,
  trivial,
  DownValue.algebraic,
  trivial,
  DownDwValue.algebraic,
  trivial,
  SumValue.algebraic,
  trivial,
  ProjDxValue.algebraic,
  trivial,
  ProjDwValue.algebraic,
  trivial,
  MixDxValue.algebraic,
  trivial,
  MixDwValue.algebraic,
  trivial,
  ProjValue.algebraic,
  trivial,
  MixValue.algebraic,
  trivial,
  PostNormValue.algebraic,
  trivial,
  PreNormValue.algebraic,
  trivial,
  MidNormValue.algebraic,
  trivial,
  PreNormFwdValue.algebraic,
  trivial,
  MidNormFwdValue.algebraic,
  trivial,
  PostNormFwdValue.algebraic⟩

end Cert.Proof

end
